-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_0) = v0 c
          ∧ r.2.mem ((c.tc : Thread Cert.ReferenceIdeal.nD Cert.ReferenceIdeal.τ).loc Cert.ReferenceIdeal.main_v27_1) = v1 c
          ∧ r.2.mem ((c.tc : Thread Cert.ReferenceIdeal.nD Cert.ReferenceIdeal.τ).loc Cert.ReferenceIdeal.main_v27_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x14336 : Shape := ⟨3, ![6, 256, 14336]⟩
abbrev S6x256x112 : Shape := ⟨3, ![6, 256, 112]⟩
abbrev S14336x4 : Shape := ⟨2, ![14336, 4]⟩
abbrev S14336 : Shape := ⟨1, ![14336]⟩
abbrev S6x17 : Shape := ⟨2, ![6, 17]⟩
abbrev S6x112x256 : Shape := ⟨3, ![6, 112, 256]⟩
abbrev S4x14336 : Shape := ⟨2, ![4, 14336]⟩
abbrev S1x14336 : Shape := ⟨2, ![1, 14336]⟩
abbrev S6x256x256 : Shape := ⟨3, ![6, 256, 256]⟩
abbrev S6x8x256 : Shape := ⟨3, ![6, 8, 256]⟩
abbrev S4x256 : Shape := ⟨2, ![4, 256]⟩
abbrev S1x256 : Shape := ⟨2, ![1, 256]⟩
abbrev S6x3x264x128 : Shape := ⟨4, ![6, 3, 264, 128]⟩
abbrev S8x6x256 : Shape := ⟨3, ![8, 6, 256]⟩
abbrev S2x2x272x128 : Shape := ⟨4, ![2, 2, 272, 128]⟩
abbrev S2x2x264x128 : Shape := ⟨4, ![2, 2, 264, 128]⟩
abbrev S2x2x256x128 : Shape := ⟨4, ![2, 2, 256, 128]⟩
abbrev S4x256x256 : Shape := ⟨3, ![4, 256, 256]⟩
abbrev S264x128 : Shape := ⟨2, ![264, 128]⟩
abbrev S1x1 : Shape := ⟨2, ![1, 1]⟩
abbrev S1x1x264x128 : Shape := ⟨4, ![1, 1, 264, 128]⟩
abbrev S1x1x256 : Shape := ⟨3, ![1, 1, 256]⟩
abbrev S128x128 : Shape := ⟨2, ![128, 128]⟩
abbrev S1x128 : Shape := ⟨2, ![1, 128]⟩
abbrev S1x128x128 : Shape := ⟨3, ![1, 128, 128]⟩
abbrev S8x128 : Shape := ⟨2, ![8, 128]⟩
abbrev S1x1x128 : Shape := ⟨3, ![1, 1, 128]⟩
abbrev S128x256 : Shape := ⟨2, ![128, 256]⟩
abbrev S256x256 : Shape := ⟨2, ![256, 256]⟩
abbrev S1x1x128x128 : Shape := ⟨4, ![1, 1, 128, 128]⟩
abbrev S1x1x256x128 : Shape := ⟨4, ![1, 1, 256, 128]⟩
abbrev S256x128 : Shape := ⟨2, ![256, 128]⟩
abbrev S1x256x256 : Shape := ⟨3, ![1, 256, 256]⟩
abbrev S1x1x8x128 : Shape := ⟨4, ![1, 1, 8, 128]⟩
abbrev S16x128 : Shape := ⟨2, ![16, 128]⟩
abbrev S1x16x128 : Shape := ⟨3, ![1, 16, 128]⟩
abbrev S128 : Shape := ⟨1, ![128]⟩

abbrev nBuf : Space → Nat
  | .hbm => 14
  | .vmem => 26
  | .smem => 1
  | _ => 0

abbrev bufTy : (tb : Table) → Fin (tcTables nBuf tb) → BufTy
  | .hbm, ⟨0, _⟩ => ⟨S6x256x14336, .fp8e4m3⟩
  | .hbm, ⟨1, _⟩ => ⟨S6x256x112, .f32⟩
  | .hbm, ⟨2, _⟩ => ⟨S6x256x14336, .fp8e5m2⟩
  | .hbm, ⟨3, _⟩ => ⟨S6x256x112, .f32⟩
  | .hbm, ⟨4, _⟩ => ⟨S14336x4, .bf16⟩
  | .hbm, ⟨5, _⟩ => ⟨S14336, .f32⟩
  | .hbm, ⟨6, _⟩ => ⟨S6x17, .i32⟩
  | .hbm, ⟨7, _⟩ => ⟨S6x112x256, .f32⟩
  | .hbm, ⟨8, _⟩ => ⟨S6x112x256, .f32⟩
  | .hbm, ⟨9, _⟩ => ⟨S4x14336, .bf16⟩
  | .hbm, ⟨10, _⟩ => ⟨S1x14336, .f32⟩
  | .hbm, ⟨11, _⟩ => ⟨S6x256x14336, .bf16⟩
  | .hbm, ⟨12, _⟩ => ⟨S4x14336, .f32⟩
  | .hbm, ⟨13, _⟩ => ⟨S1x14336, .f32⟩
  | .local _ .vmem, ⟨0, _⟩ => ⟨S6x256x256, .fp8e4m3⟩
  | .local _ .vmem, ⟨1, _⟩ => ⟨S6x256x256, .fp8e4m3⟩
  | .local _ .vmem, ⟨2, _⟩ => ⟨S6x8x256, .f32⟩
  | .local _ .vmem, ⟨3, _⟩ => ⟨S6x8x256, .f32⟩
  | .local _ .vmem, ⟨4, _⟩ => ⟨S6x256x256, .fp8e5m2⟩
  | .local _ .vmem, ⟨5, _⟩ => ⟨S6x256x256, .fp8e5m2⟩
  | .local _ .vmem, ⟨6, _⟩ => ⟨S6x8x256, .f32⟩
  | .local _ .vmem, ⟨7, _⟩ => ⟨S6x8x256, .f32⟩
  | .local _ .vmem, ⟨8, _⟩ => ⟨S4x256, .bf16⟩
  | .local _ .vmem, ⟨9, _⟩ => ⟨S4x256, .bf16⟩
  | .local _ .vmem, ⟨10, _⟩ => ⟨S1x256, .f32⟩
  | .local _ .vmem, ⟨11, _⟩ => ⟨S1x256, .f32⟩
  | .local _ .vmem, ⟨12, _⟩ => ⟨S6x256x256, .bf16⟩
  | .local _ .vmem, ⟨13, _⟩ => ⟨S6x256x256, .bf16⟩
  | .local _ .vmem, ⟨14, _⟩ => ⟨S4x256, .f32⟩
  | .local _ .vmem, ⟨15, _⟩ => ⟨S4x256, .f32⟩
  | .local _ .vmem, ⟨16, _⟩ => ⟨S1x256, .f32⟩
  | .local _ .vmem, ⟨17, _⟩ => ⟨S1x256, .f32⟩
  | .local _ .vmem, ⟨18, _⟩ => ⟨S6x3x264x128, .i32⟩
  | .local _ .vmem, ⟨19, _⟩ => ⟨S8x6x256, .f32⟩
  | .local _ .vmem, ⟨20, _⟩ => ⟨S8x6x256, .f32⟩
  | .local _ .vmem, ⟨21, _⟩ => ⟨S2x2x272x128, .f32⟩
  | .local _ .vmem, ⟨22, _⟩ => ⟨S2x2x264x128, .f32⟩
  | .local _ .vmem, ⟨23, _⟩ => ⟨S2x2x256x128, .f32⟩
  | .local _ .vmem, ⟨24, _⟩ => ⟨S4x256x256, .bf16⟩
  | .local _ .vmem, ⟨25, _⟩ => ⟨S2x2x256x128, .f32⟩
  | .local _ .smem, ⟨0, _⟩ => ⟨S6x17, .i32⟩
  | _, _ => ⟨S6x256x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![14, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_84 : BitVec 32 := 0#32
  let c6_i32_85 : BitVec 32 := 6#32
  let v173 : BitVec 32 := Scalar.addi c0_i32_84 c6_i32_85
  let c1_i32_86 : BitVec 32 := 1#32
  ⟨c0_i32_84, v173, c1_i32_86⟩
def k0_off1 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v187 : Index := Scalar.indexCast v183
  let c0_102 : Index := 0#32
  ![v187.toNat, 0]
def k0_off2 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v195 : Index := Scalar.indexCast v183
  let c1_105 : Index := 1#32
  ![v195.toNat, 1]
def k0_off3 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v203 : Index := Scalar.indexCast v183
  let c2_108 : Index := 2#32
  ![v203.toNat, 2]
def k0_off4 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v211 : Index := Scalar.indexCast v183
  let c3_111 : Index := 3#32
  ![v211.toNat, 3]
def k0_off5 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v219 : Index := Scalar.indexCast v183
  let c4 : Index := 4#32
  ![v219.toNat, 4]
def k0_off6 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v227 : Index := Scalar.indexCast v183
  let c5 : Index := 5#32
  ![v227.toNat, 5]
def k0_off7 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v235 : Index := Scalar.indexCast v183
  let c6 : Index := 6#32
  ![v235.toNat, 6]
def k0_off8 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v243 : Index := Scalar.indexCast v183
  let c7 : Index := 7#32
  ![v243.toNat, 7]
def k0_off9 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v251 : Index := Scalar.indexCast v183
  let c8 : Index := 8#32
  ![v251.toNat, 8]
def k0_off10 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v259 : Index := Scalar.indexCast v183
  let c9 : Index := 9#32
  ![v259.toNat, 9]
def k0_off11 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v267 : Index := Scalar.indexCast v183
  let c10 : Index := 10#32
  ![v267.toNat, 10]
def k0_off12 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v275 : Index := Scalar.indexCast v183
  let c11 : Index := 11#32
  ![v275.toNat, 11]
def k0_off13 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v283 : Index := Scalar.indexCast v183
  let c12 : Index := 12#32
  ![v283.toNat, 12]
def k0_off14 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v291 : Index := Scalar.indexCast v183
  let c13 : Index := 13#32
  ![v291.toNat, 13]
def k0_off15 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v299 : Index := Scalar.indexCast v183
  let c14 : Index := 14#32
  ![v299.toNat, 14]
def k0_off16 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v307 : Index := Scalar.indexCast v183
  let c15 : Index := 15#32
  ![v307.toNat, 15]
def k0_off17 (k0_t1 : Fin k0_t1_loop.trips) : Fin 2 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v315 : Index := Scalar.indexCast v183
  let c16 : Index := 16#32
  ![v315.toNat, 16]
def k0_off18 (k0_t1 : Fin k0_t1_loop.trips) : Fin 4 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v323 : Index := Scalar.indexCast v183
  let c0_140 : Index := 0#32
  let c0_141 : Index := 0#32
  let c0_142 : Index := 0#32
  ![v323.toNat, 0, 0, 0]
def k0_off19 (k0_t1 : Fin k0_t1_loop.trips) : Fin 4 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v465 : Index := Scalar.indexCast v183
  let c1_195 : Index := 1#32
  let c0_196 : Index := 0#32
  let c0_197 : Index := 0#32
  ![v465.toNat, 1, 0, 0]
def k0_off20 (k0_t1 : Fin k0_t1_loop.trips) : Fin 4 → Nat :=
  let c0_i32_99 : BitVec 32 := 0#32
  let c0_i32_84 : BitVec 32 := 0#32
  let c1_i32_86 : BitVec 32 := 1#32
  let arg20 : BitVec 32 := Scf.iv c0_i32_84 c1_i32_86 k0_t1
  let c1_i32_98 : BitVec 32 := 1#32
  let v182 : BitVec 32 := Scalar.muli arg20 c1_i32_98
  let v183 : BitVec 32 := Scalar.addi c0_i32_99 v182
  let v607 : Index := Scalar.indexCast v183
  let c2_249 : Index := 2#32
  let c0_250 : Index := 0#32
  let c0_251 : Index := 0#32
  ![v607.toNat, 2, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_84 : BitVec 32 := 0#32
  let c6_i32_85 : BitVec 32 := 6#32
  let v172 : BitVec 32 := Scalar.addi c0_i32_84 c6_i32_85
  let c1_i32_86 : BitVec 32 := 1#32
  ⟨c0_i32_84, v172, c1_i32_86⟩
def k0_off21 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v175 : Index := Scalar.indexCast v174
  let c0_90 : Index := 0#32
  let c0_91 : Index := 0#32
  ![v175.toNat, 0, 0]
def k0_off22 (k0_t2 : Fin k0_t2_loop.trips) : Fin 3 → Nat :=
  let c0_92 : Index := 0#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v178 : Index := Scalar.indexCast v174
  let c0_93 : Index := 0#32
  ![0, v178.toNat, 0]
def k0_off23 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v189 : Index := Scalar.indexCast v174
  let c1_98 : Index := 1#32
  let c0_99 : Index := 0#32
  ![v189.toNat, 1, 0]
def k0_off24 (k0_t2 : Fin k0_t2_loop.trips) : Fin 3 → Nat :=
  let c1_100 : Index := 1#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v192 : Index := Scalar.indexCast v174
  let c0_101 : Index := 0#32
  ![1, v192.toNat, 0]
def k0_off25 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v203 : Index := Scalar.indexCast v174
  let c2_106 : Index := 2#32
  let c0_107 : Index := 0#32
  ![v203.toNat, 2, 0]
def k0_off26 (k0_t2 : Fin k0_t2_loop.trips) : Fin 3 → Nat :=
  let c2_108 : Index := 2#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v206 : Index := Scalar.indexCast v174
  let c0_109 : Index := 0#32
  ![2, v206.toNat, 0]
def k0_off27 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v217 : Index := Scalar.indexCast v174
  let c3_114 : Index := 3#32
  let c0_115 : Index := 0#32
  ![v217.toNat, 3, 0]
def k0_off28 (k0_t2 : Fin k0_t2_loop.trips) : Fin 3 → Nat :=
  let c3_116 : Index := 3#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v220 : Index := Scalar.indexCast v174
  let c0_117 : Index := 0#32
  ![3, v220.toNat, 0]
def k0_off29 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v231 : Index := Scalar.indexCast v174
  let c4 : Index := 4#32
  let c0_122 : Index := 0#32
  ![v231.toNat, 4, 0]
def k0_off30 (k0_t2 : Fin k0_t2_loop.trips) : Fin 3 → Nat :=
  let c4_123 : Index := 4#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v234 : Index := Scalar.indexCast v174
  let c0_124 : Index := 0#32
  ![4, v234.toNat, 0]
def k0_off31 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v245 : Index := Scalar.indexCast v174
  let c5 : Index := 5#32
  let c0_129 : Index := 0#32
  ![v245.toNat, 5, 0]
def k0_off32 (k0_t2 : Fin k0_t2_loop.trips) : Fin 3 → Nat :=
  let c5_130 : Index := 5#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v248 : Index := Scalar.indexCast v174
  let c0_131 : Index := 0#32
  ![5, v248.toNat, 0]
def k0_off33 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v259 : Index := Scalar.indexCast v174
  let c6 : Index := 6#32
  let c0_136 : Index := 0#32
  ![v259.toNat, 6, 0]
def k0_off34 (k0_t2 : Fin k0_t2_loop.trips) : Fin 3 → Nat :=
  let c6_137 : Index := 6#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v262 : Index := Scalar.indexCast v174
  let c0_138 : Index := 0#32
  ![6, v262.toNat, 0]
def k0_off35 (k0_t2 : Fin k0_t2_loop.trips) : Fin 3 → Nat :=
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v273 : Index := Scalar.indexCast v174
  let c7 : Index := 7#32
  let c0_143 : Index := 0#32
  ![v273.toNat, 7, 0]
def k0_off36 (k0_t2 : Fin k0_t2_loop.trips) : Fin 3 → Nat :=
  let c7_144 : Index := 7#32
  let c0_i32_89 : BitVec 32 := 0#32
  let c0_i32_84 : BitVec 32 := 0#32
  let c1_i32_86 : BitVec 32 := 1#32
  let arg20 : BitVec 32 := Scf.iv c0_i32_84 c1_i32_86 k0_t2
  let c1_i32_88 : BitVec 32 := 1#32
  let v173 : BitVec 32 := Scalar.muli arg20 c1_i32_88
  let v174 : BitVec 32 := Scalar.addi c0_i32_89 v173
  let v276 : Index := Scalar.indexCast v174
  let c0_145 : Index := 0#32
  ![7, v276.toNat, 0]
@[reducible] def k0_t3_loop : Scf.Loop 32 :=
  let c0_i32_52 : BitVec 32 := 0#32
  let c6_i32 : BitVec 32 := 6#32
  let v140 : BitVec 32 := Scalar.addi c0_i32_52 c6_i32
  let c1_i32 : BitVec 32 := 1#32
  ⟨c0_i32_52, v140, c1_i32⟩
def k0_off37 (i : grid0.Coords) (k0_t3 : Fin k0_t3_loop.trips) (c0_i32_85 : BitVec 32) : Fin 3 → Nat :=
  let arg1 : BitVec 32 := BitVec.ofNat 32 (i 1).val
  let c2_i32_84 : BitVec 32 := 2#32
  let v173 : BitVec 32 := Scalar.muli arg1 c2_i32_84
  let v174 : BitVec 32 := Scalar.addi v173 c0_i32_85
  let v175 : Index := Scalar.indexCast v174
  let c0_i32_52 : BitVec 32 := 0#32
  let c1_i32 : BitVec 32 := 1#32
  let arg20 : BitVec 32 := Scf.iv c0_i32_52 c1_i32 k0_t3
  let v176 : Index := Scalar.indexCast arg20
  let c0_86 : Index := 0#32
  ![v175.toNat, v176.toNat, 0]
def k0_off38 (k0_t3 : Fin k0_t3_loop.trips) : Fin 3 → Nat :=
  let c0_i32_52 : BitVec 32 := 0#32
  let c1_i32 : BitVec 32 := 1#32
  let arg20 : BitVec 32 := Scf.iv c0_i32_52 c1_i32 k0_t3
  let v184 : Index := Scalar.indexCast arg20
  let c0_88 : Index := 0#32
  let c0_89 : Index := 0#32
  ![v184.toNat, 0, 0]
def k0_off39 (k0_t3 : Fin k0_t3_loop.trips) : Fin 3 → Nat :=
  let c0_i32_52 : BitVec 32 := 0#32
  let c1_i32 : BitVec 32 := 1#32
  let arg20 : BitVec 32 := Scf.iv c0_i32_52 c1_i32 k0_t3
  let v200 : Index := Scalar.indexCast arg20
  let c0_95 : Index := 0#32
  let c128_96 : Index := 128#32
  ![v200.toNat, 0, 128]
def k0_off40 (i : grid0.Coords) (k0_t3 : Fin k0_t3_loop.trips) (c0_i32_100 : BitVec 32) : Fin 3 → Nat :=
  let arg1 : BitVec 32 := BitVec.ofNat 32 (i 1).val
  let c2_i32_99 : BitVec 32 := 2#32
  let v208 : BitVec 32 := Scalar.muli arg1 c2_i32_99
  let v209 : BitVec 32 := Scalar.addi v208 c0_i32_100
  let v210 : Index := Scalar.indexCast v209
  let c0_i32_52 : BitVec 32 := 0#32
  let c1_i32 : BitVec 32 := 1#32
  let arg20 : BitVec 32 := Scf.iv c0_i32_52 c1_i32 k0_t3
  let v211 : Index := Scalar.indexCast arg20
  let c128_101 : Index := 128#32
  ![v210.toNat, v211.toNat, 128]
def k0_off41 (k0_t3 : Fin k0_t3_loop.trips) : Fin 3 → Nat :=
  let c0_i32_52 : BitVec 32 := 0#32
  let c1_i32 : BitVec 32 := 1#32
  let arg20 : BitVec 32 := Scf.iv c0_i32_52 c1_i32 k0_t3
  let v219 : Index := Scalar.indexCast arg20
  let c128_103 : Index := 128#32
  let c0_104 : Index := 0#32
  ![v219.toNat, 128, 0]
def k0_off42 (k0_t3 : Fin k0_t3_loop.trips) : Fin 3 → Nat :=
  let c0_i32_52 : BitVec 32 := 0#32
  let c1_i32 : BitVec 32 := 1#32
  let arg20 : BitVec 32 := Scf.iv c0_i32_52 c1_i32 k0_t3
  let v235 : Index := Scalar.indexCast arg20
  let c128_110 : Index := 128#32
  let c128_111 : Index := 128#32
  ![v235.toNat, 128, 128]
def k0_off43 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v244 : Index := Scalar.indexCast v172
  let c0_114 : Index := 0#32
  let c8 : Index := 8#32
  let c0_115 : Index := 0#32
  ![v244.toNat, 0, 8, 0]
def k0_off44 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v249 : Index := Scalar.indexCast v172
  let c1_116 : Index := 1#32
  let c8_117 : Index := 8#32
  let c0_118 : Index := 0#32
  ![v249.toNat, 1, 8, 0]
def k0_off45 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v254 : Index := Scalar.indexCast v172
  let c0_119 : Index := 0#32
  let c136 : Index := 136#32
  let c0_120 : Index := 0#32
  ![v254.toNat, 0, 136, 0]
def k0_off46 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v259 : Index := Scalar.indexCast v172
  let c1_121 : Index := 1#32
  let c136_122 : Index := 136#32
  let c0_123 : Index := 0#32
  ![v259.toNat, 1, 136, 0]
def k0_off47 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v334 : Index := Scalar.indexCast v172
  let c0_154 : Index := 0#32
  let c0_155 : Index := 0#32
  let c0_156 : Index := 0#32
  ![v334.toNat, 0, 0, 0]
def k0_off48 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v339 : Index := Scalar.indexCast v172
  let c1_157 : Index := 1#32
  let c0_158 : Index := 0#32
  let c0_159 : Index := 0#32
  ![v339.toNat, 1, 0, 0]
def k0_off49 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v344 : Index := Scalar.indexCast v172
  let c0_160 : Index := 0#32
  let c128_161 : Index := 128#32
  let c0_162 : Index := 0#32
  ![v344.toNat, 0, 128, 0]
def k0_off50 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v349 : Index := Scalar.indexCast v172
  let c1_163 : Index := 1#32
  let c128_164 : Index := 128#32
  let c0_165 : Index := 0#32
  ![v349.toNat, 1, 128, 0]
def k0_off51 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v353 : Index := Scalar.indexCast v172
  let c0_166 : Index := 0#32
  let c5 : Index := 5#32
  let c0_167 : Index := 0#32
  ![v353.toNat, 0, 5, 0]
def k0_off52 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let v356 : Index := Scalar.indexCast arg20
  let c2_168 : Index := 2#32
  let c0_169 : Index := 0#32
  let c0_170 : Index := 0#32
  ![v356.toNat, 2, 0, 0]
def k0_off53 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v363 : Index := Scalar.indexCast v172
  let c1_173 : Index := 1#32
  let c5_174 : Index := 5#32
  let c0_175 : Index := 0#32
  ![v363.toNat, 1, 5, 0]
def k0_off54 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v377 : Index := Scalar.indexCast v172
  let c0_185 : Index := 0#32
  let c6 : Index := 6#32
  let c0_186 : Index := 0#32
  ![v377.toNat, 0, 6, 0]
def k0_off55 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let v380 : Index := Scalar.indexCast arg20
  let c1_187 : Index := 1#32
  let c0_188 : Index := 0#32
  let c0_189 : Index := 0#32
  ![v380.toNat, 1, 0, 0]
def k0_off56 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v387 : Index := Scalar.indexCast v172
  let c1_192 : Index := 1#32
  let c6_193 : Index := 6#32
  let c0_194 : Index := 0#32
  ![v387.toNat, 1, 6, 0]
def k0_off57 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v402 : Index := Scalar.indexCast v172
  let c0_204 : Index := 0#32
  let c7 : Index := 7#32
  let c0_205 : Index := 0#32
  ![v402.toNat, 0, 7, 0]
def k0_off58 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let v405 : Index := Scalar.indexCast arg20
  let c0_206 : Index := 0#32
  let c0_207 : Index := 0#32
  let c0_208 : Index := 0#32
  ![v405.toNat, 0, 0, 0]
def k0_off59 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v412 : Index := Scalar.indexCast v172
  let c1_211 : Index := 1#32
  let c7_212 : Index := 7#32
  let c0_213 : Index := 0#32
  ![v412.toNat, 1, 7, 0]
def k0_off60 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v427 : Index := Scalar.indexCast v172
  let c0_223 : Index := 0#32
  let c8_224 : Index := 8#32
  let c0_225 : Index := 0#32
  ![v427.toNat, 0, 8, 0]
def k0_off61 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v430 : Index := Scalar.indexCast v172
  let c1_226 : Index := 1#32
  let c8_227 : Index := 8#32
  let c0_228 : Index := 0#32
  ![v430.toNat, 1, 8, 0]
def k0_off62 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v439 : Index := Scalar.indexCast v172
  let c0_233 : Index := 0#32
  let c0_234 : Index := 0#32
  let c0_235 : Index := 0#32
  ![v439.toNat, 0, 0, 0]
def k0_off63 (k0_t3 : Fin k0_t3_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v444 : Index := Scalar.indexCast v172
  let c1_236 : Index := 1#32
  let c0_237 : Index := 0#32
  let c0_238 : Index := 0#32
  ![v444.toNat, 1, 0, 0]
@[reducible] def k0_t4_loop : Scf.Loop 32 :=
  let c0_i32_239 : BitVec 32 := 0#32
  let c32_i32 : BitVec 32 := 32#32
  let v448 : BitVec 32 := Scalar.addi c0_i32_239 c32_i32
  let c1_i32_240 : BitVec 32 := 1#32
  ⟨c0_i32_239, v448, c1_i32_240⟩
def k0_mult1 (k0_t4 : Fin k0_t4_loop.trips) : BitVec 32 :=
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  v451
def k0_off64 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v453 : Index := Scalar.indexCast v172
  let c0_245 : Index := 0#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v454 : Index := Scalar.indexCast v452
  let c0_246 : Index := 0#32
  ![v453.toNat, 0, v454.toNat, 0]
def k0_off65 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v472 : Index := Scalar.indexCast v172
  let c0_252 : Index := 0#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v473 : Index := Scalar.indexCast v452
  let c0_253 : Index := 0#32
  ![v472.toNat, 0, v473.toNat, 0]
def k0_off66 (k0_t3 : Fin k0_t3_loop.trips) (k0_t4 : Fin k0_t4_loop.trips) (c3_i32 : BitVec 32) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v480 : Index := Scalar.indexCast v172
  let c0_255 : Index := 0#32
  let c8_i32_254 : BitVec 32 := 8#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v478 : BitVec 32 := Scalar.addi c8_i32_254 v452
  let v479 : BitVec 32 := Scalar.subi v478 c3_i32
  let v481 : Index := Scalar.indexCast v479
  let c0_256 : Index := 0#32
  ![v480.toNat, 0, v481.toNat, 0]
def k0_off67 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let v484 : Index := Scalar.indexCast arg20
  let c2_257 : Index := 2#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v485 : Index := Scalar.indexCast v452
  let c0_258 : Index := 0#32
  ![v484.toNat, 2, v485.toNat, 0]
def k0_off68 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let v500 : Index := Scalar.indexCast arg20
  let c1_265 : Index := 1#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v501 : Index := Scalar.indexCast v452
  let c0_266 : Index := 0#32
  ![v500.toNat, 1, v501.toNat, 0]
def k0_off69 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let v516 : Index := Scalar.indexCast arg20
  let c0_273 : Index := 0#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v517 : Index := Scalar.indexCast v452
  let c0_274 : Index := 0#32
  ![v516.toNat, 0, v517.toNat, 0]
def k0_off70 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v534 : Index := Scalar.indexCast v172
  let c1_281 : Index := 1#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v535 : Index := Scalar.indexCast v452
  let c0_282 : Index := 0#32
  ![v534.toNat, 1, v535.toNat, 0]
def k0_off71 (k0_t3 : Fin k0_t3_loop.trips) (k0_t4 : Fin k0_t4_loop.trips) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v553 : Index := Scalar.indexCast v172
  let c1_288 : Index := 1#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v554 : Index := Scalar.indexCast v452
  let c0_289 : Index := 0#32
  ![v553.toNat, 1, v554.toNat, 0]
def k0_off72 (k0_t3 : Fin k0_t3_loop.trips) (k0_t4 : Fin k0_t4_loop.trips) (c3_i32_291 : BitVec 32) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v561 : Index := Scalar.indexCast v172
  let c1_292 : Index := 1#32
  let c8_i32_290 : BitVec 32 := 8#32
  let c0_i32_239 : BitVec 32 := 0#32
  let c1_i32_240 : BitVec 32 := 1#32
  let arg31 : BitVec 32 := Scf.iv c0_i32_239 c1_i32_240 k0_t4
  let c8_i32 : BitVec 32 := 8#32
  let v451 : BitVec 32 := Scalar.muli arg31 c8_i32
  let v452 : BitVec 32 := v451
  let v559 : BitVec 32 := Scalar.addi c8_i32_290 v452
  let v560 : BitVec 32 := Scalar.subi v559 c3_i32_291
  let v562 : Index := Scalar.indexCast v560
  let c0_293 : Index := 0#32
  ![v561.toNat, 1, v562.toNat, 0]
@[reducible] def k0_t5_loop : Scf.Loop 32 :=
  let c0_i32_242 : BitVec 32 := 0#32
  let c16_i32 : BitVec 32 := 16#32
  let v450 : BitVec 32 := Scalar.addi c0_i32_242 c16_i32
  let c1_i32_243 : BitVec 32 := 1#32
  ⟨c0_i32_242, v450, c1_i32_243⟩
def k0_mult2 (k0_t5 : Fin k0_t5_loop.trips) : BitVec 32 :=
  let c2_i32_247 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v453 : BitVec 32 := Scalar.muli c2_i32_247 v452
  let c0_i32_248 : BitVec 32 := 0#32
  let v454 : BitVec 32 := Scalar.addi v453 c0_i32_248
  let c8_i32 : BitVec 32 := 8#32
  let v455 : BitVec 32 := Scalar.muli v454 c8_i32
  v455
def k0_off73 (k0_t3 : Fin k0_t3_loop.trips) (k0_t5 : Fin k0_t5_loop.trips) (c0_i32_248 : BitVec 32) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v457 : Index := Scalar.indexCast v172
  let c0_249 : Index := 0#32
  let c2_i32_247 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v453 : BitVec 32 := Scalar.muli c2_i32_247 v452
  let v454 : BitVec 32 := Scalar.addi v453 c0_i32_248
  let c8_i32 : BitVec 32 := 8#32
  let v455 : BitVec 32 := Scalar.muli v454 c8_i32
  let v456 : BitVec 32 := v455
  let v458 : Index := Scalar.indexCast v456
  let c0_250 : Index := 0#32
  ![v457.toNat, 0, v458.toNat, 0]
def k0_off74 (k0_t3 : Fin k0_t3_loop.trips) (k0_t5 : Fin k0_t5_loop.trips) (c0_i32_248 : BitVec 32) (c1_i32_251 : BitVec 32) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v463 : Index := Scalar.indexCast v172
  let c0_252 : Index := 0#32
  let c2_i32_247 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v453 : BitVec 32 := Scalar.muli c2_i32_247 v452
  let v454 : BitVec 32 := Scalar.addi v453 c0_i32_248
  let c8_i32 : BitVec 32 := 8#32
  let v455 : BitVec 32 := Scalar.muli v454 c8_i32
  let v456 : BitVec 32 := v455
  let v462 : BitVec 32 := Scalar.addi v456 c1_i32_251
  let v464 : Index := Scalar.indexCast v462
  let c0_253 : Index := 0#32
  ![v463.toNat, 0, v464.toNat, 0]
def k0_off75 (k0_t3 : Fin k0_t3_loop.trips) (k0_t5 : Fin k0_t5_loop.trips) (c0_i32_248 : BitVec 32) : Fin 4 → Nat :=
  let c0_i32_52 : BitVec 32 := 0#32
  let c1_i32 : BitVec 32 := 1#32
  let arg20 : BitVec 32 := Scf.iv c0_i32_52 c1_i32 k0_t3
  let v468 : Index := Scalar.indexCast arg20
  let c0_255 : Index := 0#32
  let c2_i32_247 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v453 : BitVec 32 := Scalar.muli c2_i32_247 v452
  let v454 : BitVec 32 := Scalar.addi v453 c0_i32_248
  let c8_i32 : BitVec 32 := 8#32
  let v455 : BitVec 32 := Scalar.muli v454 c8_i32
  let v456 : BitVec 32 := v455
  let c1_i32_254 : BitVec 32 := 1#32
  let v467 : BitVec 32 := Scalar.addi v456 c1_i32_254
  let v469 : Index := Scalar.indexCast v467
  let c0_256 : Index := 0#32
  ![v468.toNat, 0, v469.toNat, 0]
def k0_off76 (k0_t3 : Fin k0_t3_loop.trips) (k0_t5 : Fin k0_t5_loop.trips) (c0_i32_248 : BitVec 32) : Fin 4 → Nat :=
  let c0_i32_52 : BitVec 32 := 0#32
  let c1_i32 : BitVec 32 := 1#32
  let arg20 : BitVec 32 := Scf.iv c0_i32_52 c1_i32 k0_t3
  let v484 : Index := Scalar.indexCast arg20
  let c1_263 : Index := 1#32
  let c2_i32_247 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v453 : BitVec 32 := Scalar.muli c2_i32_247 v452
  let v454 : BitVec 32 := Scalar.addi v453 c0_i32_248
  let c8_i32 : BitVec 32 := 8#32
  let v455 : BitVec 32 := Scalar.muli v454 c8_i32
  let v456 : BitVec 32 := v455
  let c2_i32_262 : BitVec 32 := 2#32
  let v483 : BitVec 32 := Scalar.addi v456 c2_i32_262
  let v485 : Index := Scalar.indexCast v483
  let c0_264 : Index := 0#32
  ![v484.toNat, 1, v485.toNat, 0]
def k0_off77 (k0_t3 : Fin k0_t3_loop.trips) (k0_t5 : Fin k0_t5_loop.trips) (c0_i32_248 : BitVec 32) : Fin 4 → Nat :=
  let c0_i32_52 : BitVec 32 := 0#32
  let c1_i32 : BitVec 32 := 1#32
  let arg20 : BitVec 32 := Scf.iv c0_i32_52 c1_i32 k0_t3
  let v500 : Index := Scalar.indexCast arg20
  let c2_270 : Index := 2#32
  let c2_i32_247 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v453 : BitVec 32 := Scalar.muli c2_i32_247 v452
  let v454 : BitVec 32 := Scalar.addi v453 c0_i32_248
  let c8_i32 : BitVec 32 := 8#32
  let v455 : BitVec 32 := Scalar.muli v454 c8_i32
  let v456 : BitVec 32 := v455
  let c3_i32_269 : BitVec 32 := 3#32
  let v499 : BitVec 32 := Scalar.addi v456 c3_i32_269
  let v501 : Index := Scalar.indexCast v499
  let c0_271 : Index := 0#32
  ![v500.toNat, 2, v501.toNat, 0]
def k0_mult3 (k0_t5 : Fin k0_t5_loop.trips) : BitVec 32 :=
  let c2_i32_274 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v510 : BitVec 32 := Scalar.muli c2_i32_274 v452
  let c1_i32_275 : BitVec 32 := 1#32
  let v511 : BitVec 32 := Scalar.addi v510 c1_i32_275
  let c8_i32_276 : BitVec 32 := 8#32
  let v512 : BitVec 32 := Scalar.muli v511 c8_i32_276
  v512
def k0_mult4 (k0_t5 : Fin k0_t5_loop.trips) : BitVec 32 :=
  let c2_i32_303 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v569 : BitVec 32 := Scalar.muli c2_i32_303 v452
  let c8_i32_304 : BitVec 32 := 8#32
  let v570 : BitVec 32 := Scalar.muli v569 c8_i32_304
  v570
def k0_off78 (k0_t3 : Fin k0_t3_loop.trips) (k0_t5 : Fin k0_t5_loop.trips) : Fin 3 → Nat :=
  let c0_i32_52 : BitVec 32 := 0#32
  let c1_i32 : BitVec 32 := 1#32
  let arg20 : BitVec 32 := Scf.iv c0_i32_52 c1_i32 k0_t3
  let v572 : Index := Scalar.indexCast arg20
  let c2_i32_303 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v569 : BitVec 32 := Scalar.muli c2_i32_303 v452
  let c8_i32_304 : BitVec 32 := 8#32
  let v570 : BitVec 32 := Scalar.muli v569 c8_i32_304
  let v571 : BitVec 32 := v570
  let v573 : Index := Scalar.indexCast v571
  let c0_305 : Index := 0#32
  ![v572.toNat, v573.toNat, 0]
def k0_mult5 (k0_t5 : Fin k0_t5_loop.trips) : BitVec 32 :=
  let c2_i32_306 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v577 : BitVec 32 := Scalar.muli c2_i32_306 v452
  let c0_i32_307 : BitVec 32 := 0#32
  let v578 : BitVec 32 := Scalar.addi v577 c0_i32_307
  let c8_i32_308 : BitVec 32 := 8#32
  let v579 : BitVec 32 := Scalar.muli v578 c8_i32_308
  v579
def k0_off79 (k0_t3 : Fin k0_t3_loop.trips) (k0_t5 : Fin k0_t5_loop.trips) (c0_i32_307 : BitVec 32) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v581 : Index := Scalar.indexCast v172
  let c1_309 : Index := 1#32
  let c2_i32_306 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v577 : BitVec 32 := Scalar.muli c2_i32_306 v452
  let v578 : BitVec 32 := Scalar.addi v577 c0_i32_307
  let c8_i32_308 : BitVec 32 := 8#32
  let v579 : BitVec 32 := Scalar.muli v578 c8_i32_308
  let v580 : BitVec 32 := v579
  let v582 : Index := Scalar.indexCast v580
  let c0_310 : Index := 0#32
  ![v581.toNat, 1, v582.toNat, 0]
def k0_off80 (k0_t3 : Fin k0_t3_loop.trips) (k0_t5 : Fin k0_t5_loop.trips) (c0_i32_307 : BitVec 32) (c1_i32_311 : BitVec 32) : Fin 4 → Nat :=
  let c0_i32_52 : BitVec 32 := 0#32
  let c1_i32 : BitVec 32 := 1#32
  let arg20 : BitVec 32 := Scf.iv c0_i32_52 c1_i32 k0_t3
  let c2_i32 : BitVec 32 := 2#32
  let v172 : BitVec 32 := Scalar.remsi arg20 c2_i32
  let v587 : Index := Scalar.indexCast v172
  let c1_312 : Index := 1#32
  let c2_i32_306 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v577 : BitVec 32 := Scalar.muli c2_i32_306 v452
  let v578 : BitVec 32 := Scalar.addi v577 c0_i32_307
  let c8_i32_308 : BitVec 32 := 8#32
  let v579 : BitVec 32 := Scalar.muli v578 c8_i32_308
  let v580 : BitVec 32 := v579
  let v586 : BitVec 32 := Scalar.addi v580 c1_i32_311
  let v588 : Index := Scalar.indexCast v586
  let c0_313 : Index := 0#32
  ![v587.toNat, 1, v588.toNat, 0]
def k0_mult6 (k0_t5 : Fin k0_t5_loop.trips) : BitVec 32 :=
  let c2_i32_335 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v634 : BitVec 32 := Scalar.muli c2_i32_335 v452
  let c1_i32_336 : BitVec 32 := 1#32
  let v635 : BitVec 32 := Scalar.addi v634 c1_i32_336
  let c8_i32_337 : BitVec 32 := 8#32
  let v636 : BitVec 32 := Scalar.muli v635 c8_i32_337
  v636
def k0_mult7 (k0_t5 : Fin k0_t5_loop.trips) : BitVec 32 :=
  let c2_i32_364 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v693 : BitVec 32 := Scalar.muli c2_i32_364 v452
  let c8_i32_365 : BitVec 32 := 8#32
  let v694 : BitVec 32 := Scalar.muli v693 c8_i32_365
  v694
def k0_off81 (k0_t3 : Fin k0_t3_loop.trips) (k0_t5 : Fin k0_t5_loop.trips) : Fin 3 → Nat :=
  let c0_i32_52 : BitVec 32 := 0#32
  let c1_i32 : BitVec 32 := 1#32
  let arg20 : BitVec 32 := Scf.iv c0_i32_52 c1_i32 k0_t3
  let v696 : Index := Scalar.indexCast arg20
  let c2_i32_364 : BitVec 32 := 2#32
  let c0_i32_246 : BitVec 32 := 0#32
  let c0_i32_242 : BitVec 32 := 0#32
  let c1_i32_243 : BitVec 32 := 1#32
  let arg31 : BitVec 32 := Scf.iv c0_i32_242 c1_i32_243 k0_t5
  let c1_i32_245 : BitVec 32 := 1#32
  let v451 : BitVec 32 := Scalar.muli arg31 c1_i32_245
  let v452 : BitVec 32 := Scalar.addi c0_i32_246 v451
  let v693 : BitVec 32 := Scalar.muli c2_i32_364 v452
  let c8_i32_365 : BitVec 32 := 8#32
  let v694 : BitVec 32 := Scalar.muli v693 c8_i32_365
  let v695 : BitVec 32 := v694
  let v697 : Index := Scalar.indexCast v695
  let c128_366 : Index := 128#32
  ![v696.toNat, v697.toNat, 128]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S6x256x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6x256x256 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S6x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S6x17 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S6x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S6x256x14336 : Shape := ⟨3, ![6, 256, 14336]⟩
abbrev S6x256x112 : Shape := ⟨3, ![6, 256, 112]⟩
abbrev S14336x4 : Shape := ⟨2, ![14336, 4]⟩
abbrev S14336 : Shape := ⟨1, ![14336]⟩
abbrev S6x17 : Shape := ⟨2, ![6, 17]⟩
abbrev S6x256x17 : Shape := ⟨3, ![6, 256, 17]⟩
abbrev S6x1x17 : Shape := ⟨3, ![6, 1, 17]⟩
abbrev S_ : Shape := ⟨0, ![]⟩
abbrev S6x256 : Shape := ⟨2, ![6, 256]⟩
abbrev S6x256x1 : Shape := ⟨3, ![6, 256, 1]⟩
abbrev S4x14336 : Shape := ⟨2, ![4, 14336]⟩
abbrev S1x14336 : Shape := ⟨2, ![1, 14336]⟩
abbrev S6x256x112x128 : Shape := ⟨4, ![6, 256, 112, 128]⟩
abbrev S6x256x112x1 : Shape := ⟨4, ![6, 256, 112, 1]⟩
abbrev S6x3x14336 : Shape := ⟨3, ![6, 3, 14336]⟩
abbrev S6x259x14336 : Shape := ⟨3, ![6, 259, 14336]⟩
abbrev S14336x1 : Shape := ⟨2, ![14336, 1]⟩
abbrev S1x1x14336 : Shape := ⟨3, ![1, 1, 14336]⟩

abbrev nBuf : Space → Nat
  | .hbm => 43
  | .vmem => 12
  | .smem => 0
  | _ => 0

abbrev bufTy : (tb : Table) → Fin (tcTables nBuf tb) → BufTy
  | .hbm, ⟨0, _⟩ => ⟨S6x256x14336, .fp8e4m3⟩
  | .hbm, ⟨1, _⟩ => ⟨S6x256x112, .f32⟩
  | .hbm, ⟨2, _⟩ => ⟨S6x256x14336, .fp8e5m2⟩
  | .hbm, ⟨3, _⟩ => ⟨S6x256x112, .f32⟩
  | .hbm, ⟨4, _⟩ => ⟨S14336x4, .bf16⟩
  | .hbm, ⟨5, _⟩ => ⟨S14336, .f32⟩
  | .hbm, ⟨6, _⟩ => ⟨S6x17, .i32⟩
  | .hbm, ⟨7, _⟩ => ⟨S6x256x17, .i32⟩
  | .hbm, ⟨8, _⟩ => ⟨S6x1x17, .i32⟩
  | .hbm, ⟨9, _⟩ => ⟨S6x256x17, .i32⟩
  | .hbm, ⟨10, _⟩ => ⟨S_, .i32⟩
  | .hbm, ⟨11, _⟩ => ⟨S6x256x17, .i32⟩
  | .hbm, ⟨12, _⟩ => ⟨S6x256x17, .i32⟩
  | .hbm, ⟨13, _⟩ => ⟨S6x256x17, .i1⟩
  | .hbm, ⟨14, _⟩ => ⟨S6x256x17, .i1⟩
  | .hbm, ⟨15, _⟩ => ⟨S6x256x17, .i1⟩
  | .hbm, ⟨16, _⟩ => ⟨S_, .i1⟩
  | .hbm, ⟨17, _⟩ => ⟨S6x256, .i1⟩
  | .hbm, ⟨18, _⟩ => ⟨S6x256, .i32⟩
  | .hbm, ⟨19, _⟩ => ⟨S6x256x1, .i32⟩
  | .hbm, ⟨20, _⟩ => ⟨S_, .i32⟩
  | .hbm, ⟨21, _⟩ => ⟨S6x256x17, .i32⟩
  | .hbm, ⟨22, _⟩ => ⟨S6x256x17, .i32⟩
  | .hbm, ⟨23, _⟩ => ⟨S6x256x17, .i1⟩
  | .hbm, ⟨24, _⟩ => ⟨S6x256x17, .i1⟩
  | .hbm, ⟨25, _⟩ => ⟨S6x256x17, .i1⟩
  | .hbm, ⟨26, _⟩ => ⟨S_, .i1⟩
  | .hbm, ⟨27, _⟩ => ⟨S6x256, .i1⟩
  | .hbm, ⟨28, _⟩ => ⟨S6x256, .i32⟩
  | .hbm, ⟨29, _⟩ => ⟨S6x256x1, .i32⟩
  | .hbm, ⟨30, _⟩ => ⟨S_, .i32⟩
  | .hbm, ⟨31, _⟩ => ⟨S6x256x17, .i32⟩
  | .hbm, ⟨32, _⟩ => ⟨S6x256x17, .i32⟩
  | .hbm, ⟨33, _⟩ => ⟨S6x256x17, .i1⟩
  | .hbm, ⟨34, _⟩ => ⟨S6x256x17, .i1⟩
  | .hbm, ⟨35, _⟩ => ⟨S6x256x17, .i1⟩
  | .hbm, ⟨36, _⟩ => ⟨S_, .i1⟩
  | .hbm, ⟨37, _⟩ => ⟨S6x256, .i1⟩
  | .hbm, ⟨38, _⟩ => ⟨S6x256, .i32⟩
  | .hbm, ⟨39, _⟩ => ⟨S6x256x1, .i32⟩
  | .hbm, ⟨40, _⟩ => ⟨S6x256x14336, .bf16⟩
  | .hbm, ⟨41, _⟩ => ⟨S4x14336, .f32⟩
  | .hbm, ⟨42, _⟩ => ⟨S1x14336, .f32⟩
  | .local _ .vmem, ⟨0, _⟩ => ⟨S6x256x14336, .fp8e4m3⟩
  | .local _ .vmem, ⟨1, _⟩ => ⟨S6x256x112, .f32⟩
  | .local _ .vmem, ⟨2, _⟩ => ⟨S6x256x14336, .fp8e5m2⟩
  | .local _ .vmem, ⟨3, _⟩ => ⟨S6x256x112, .f32⟩
  | .local _ .vmem, ⟨4, _⟩ => ⟨S14336x4, .bf16⟩
  | .local _ .vmem, ⟨5, _⟩ => ⟨S14336, .f32⟩
  | .local _ .vmem, ⟨6, _⟩ => ⟨S6x256x1, .i32⟩
  | .local _ .vmem, ⟨7, _⟩ => ⟨S6x256x1, .i32⟩
  | .local _ .vmem, ⟨8, _⟩ => ⟨S6x256x1, .i32⟩
  | .local _ .vmem, ⟨9, _⟩ => ⟨S6x256x14336, .bf16⟩
  | .local _ .vmem, ⟨10, _⟩ => ⟨S4x14336, .f32⟩
  | .local _ .vmem, ⟨11, _⟩ => ⟨S1x14336, .f32⟩
  | _, _ => ⟨S6x256x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x256x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x14336 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x256x14336 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x14336 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x14336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.HwBatch.lean ====
/-
  The batch loop of the kernel body (one trip per row of the batch), by its invariant. Each trip is run once at a symbolic
  trip number from any contents of the buffers it writes; what it leaves there and what it carries on are what the run
  finds. The states after each trip follow by recursion, and the loop's invariant states the buffers at them.
-/
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a trip of the batch loop changes: the x rows, the dz rows, the dy rows, the z rows, the dx block, and the ten
    running sums. -/
abbrev St3 (arg9 : Memref sig .tc .vmem S6x256x256 .bf16) (arg15 : Memref sig .tc .vmem S2x2x272x128 .f32) (arg16 : Memref sig .tc .vmem S2x2x264x128 .f32) (arg17 : Memref sig .tc .vmem S2x2x256x128 .f32) (arg19 : Memref sig .tc .vmem S2x2x256x128 .f32) : Type :=
  BufTy.Contents (Elt F) arg15.view.ty × BufTy.Contents (Elt F) arg16.view.ty × BufTy.Contents (Elt F) arg17.view.ty × BufTy.Contents (Elt F) arg19.view.ty × BufTy.Contents (Elt F) arg9.view.ty × (FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32)

/-- The buffers of a trip: those it only reads at their contents, those it writes at theirs. -/
abbrev Trip3 (c : Dev nD) (arg2 : Memref sig .tc .vmem S6x256x256 .fp8e4m3) (arg4 : Memref sig .tc .vmem S6x256x256 .fp8e5m2) (arg9 : Memref sig .tc .vmem S6x256x256 .bf16) (arg12 : Memref sig .tc .vmem S6x3x264x128 .i32) (arg13 : Memref sig .tc .vmem S8x6x256 .f32) (arg14 : Memref sig .tc .vmem S8x6x256 .f32) (arg15 : Memref sig .tc .vmem S2x2x272x128 .f32) (arg16 : Memref sig .tc .vmem S2x2x264x128 .f32) (arg17 : Memref sig .tc .vmem S2x2x256x128 .f32) (arg18 : Memref sig .tc .vmem S4x256x256 .bf16) (arg19 : Memref sig .tc .vmem S2x2x256x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (f15 : BufTy.Contents (Elt F) arg15.view.ty) (f16 : BufTy.Contents (Elt F) arg16.view.ty) (f17 : BufTy.Contents (Elt F) arg17.view.ty) (f19 : BufTy.Contents (Elt F) arg19.view.ty) (f9 : BufTy.Contents (Elt F) arg9.view.ty) : sProp 𝕄 :=
  iprop((arg2.view.loc (c : Thread nD τ) ↦[arg2.view.set]{fullShare} X2) ∗ (arg4.view.loc (c : Thread nD τ) ↦[arg4.view.set]{fullShare} X4) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg9.view.loc (c : Thread nD τ) ↦[arg9.view.set]{fullShare} f9))

set_option maxHeartbeats 40000000 in
/-- One trip at a symbolic `k`, from any contents and any carried sums. -/
@[irreducible] def trip3 (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (k : Fin k0_t3_loop.trips) (f15 : BufTy.Contents (Elt F) arg15.view.ty) (f16 : BufTy.Contents (Elt F) arg16.view.ty) (f17 : BufTy.Contents (Elt F) arg17.view.ty) (f19 : BufTy.Contents (Elt F) arg19.view.ty) (f9 : BufTy.Contents (Elt F) arg9.view.ty) (acc : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Σ' (s15 : BufTy.Contents (Elt F) arg15.view.ty) (s16 : BufTy.Contents (Elt F) arg16.view.ty) (s17 : BufTy.Contents (Elt F) arg17.view.ty) (s19 : BufTy.Contents (Elt F) arg19.view.ty) (s9 : BufTy.Contents (Elt F) arg9.view.ty), { R : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 // ∀ (E : Set ℕ),
      Trip3 (F := F) c arg2 arg4 arg9 arg12 arg13 arg14 arg15 arg16 arg17 arg18 arg19 X2 X4 X12 X13 X14 X18 f15 f16 f17 f19 f9
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 k acc)
          (fun yld => iprop(⌜yld = R⌝ ∗ Trip3 (F := F) c arg2 arg4 arg9 arg12 arg13 arg14 arg15 arg16 arg17 arg18 arg19 X2 X4 X12 X13 X14 X18 s15 s16 s17 s19 s9)) } := by
  have hk : k.val < 6 := Nat.lt_of_lt_of_le k.isLt k0_t3_abs.2.1
  refine ⟨?_, ?_, ?_, ?_, ?_, ?_, fun E => ?run⟩
  case run =>
    unfold k0_t3_body
    iintro ⟨HR2, HR4, HR12, HR13, HR14, HR18, HW15, HW16, HW17, HW19, HW9⟩
    sl_exec
    sl_step
    sl_close

/-- The state after trip `k`, from the state before it. -/
@[irreducible] def st3Step (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (k : ℕ) (s : St3 (F := F) arg9 arg15 arg16 arg17 arg19) : St3 (F := F) arg9 arg15 arg16 arg17 arg19 :=
  if h : k < k0_t3_loop.trips then
    ((trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.2.2.2.1)
  else s

/-- The state before trip `k`, the loop entered in state `s`. -/
def st3 (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (s : St3 (F := F) arg9 arg15 arg16 arg17 arg19) : ℕ → St3 (F := F) arg9 arg15 arg16 arg17 arg19
  | 0 => s
  | k + 1 => st3Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k (st3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s k)

theorem st3_succ (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (s0 : St3 (F := F) arg9 arg15 arg16 arg17 arg19) (k : Fin k0_t3_loop.trips) :
    st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 (k.val + 1)
      = (fun s : St3 (F := F) arg9 arg15 arg16 arg17 arg19 => ((trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.2.2.2.1)) (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 k.val) := by
  rw [st3.eq_2]; unfold st3Step; exact dif_pos k.isLt

/-- What a state holds before trip `k`: what the loop was entered with before the first, and `b` afterwards. -/
abbrev at3 {α : Type} (k : ℕ) (a b : α) : α := match k with
  | 0 => a
  | _ + 1 => b

theorem at3_fst {α : Type} (k : ℕ) (a b : α) (h : k = 0 → a = b) : at3 k a b = b := by
  cases k with
  | zero => exact h rfl
  | succ k => rfl

/-- The loop's invariant: the buffers the trips write, and the running sums, at the state before trip `k`. -/
abbrev inv3 (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (G15 : BufTy.Contents (Elt F) arg15.view.ty) (G16 : BufTy.Contents (Elt F) arg16.view.ty) (G17 : BufTy.Contents (Elt F) arg17.view.ty) (G19 : BufTy.Contents (Elt F) arg19.view.ty) (G9 : BufTy.Contents (Elt F) arg9.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (k : ℕ) (acc : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) : sProp 𝕄 :=
  iprop((arg2.view.loc (c : Thread nD τ) ↦[arg2.view.set]{fullShare} X2) ∗ (arg4.view.loc (c : Thread nD τ) ↦[arg4.view.set]{fullShare} X4) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (∃ f, (arg15.view.loc (c : Thread nD τ) ↦[arg15.view.set]{fullShare} f) ∗ ⌜f = at3 k G15 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).1⌝) ∗ (∃ f, (arg16.view.loc (c : Thread nD τ) ↦[arg16.view.set]{fullShare} f) ∗ ⌜f = at3 k G16 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.1⌝) ∗ (∃ f, (arg17.view.loc (c : Thread nD τ) ↦[arg17.view.set]{fullShare} f) ∗ ⌜f = at3 k G17 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.1⌝) ∗ (∃ f, (arg19.view.loc (c : Thread nD τ) ↦[arg19.view.set]{fullShare} f) ∗ ⌜f = at3 k G19 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.2.1⌝) ∗ (∃ f, (arg9.view.loc (c : Thread nD τ) ↦[arg9.view.set]{fullShare} f) ∗ ⌜f = at3 k G9 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.2.2.1⌝) ∗ ⌜acc = at3 k init (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.2.2.2⌝)

/-- The batch loop by its invariant. -/
@[sl_loop] def loopInv3 (𝒱 : Variants) (c : Dev nD) (bd : Option 𝒱.V) (E : Set ℕ) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (G15 : BufTy.Contents (Elt F) arg15.view.ty) (G16 : BufTy.Contents (Elt F) arg16.view.ty) (G17 : BufTy.Contents (Elt F) arg17.view.ty) (G19 : BufTy.Contents (Elt F) arg19.view.ty) (G9 : BufTy.Contents (Elt F) arg9.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 init where
  inv := inv3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 G15 G16 G17 G19 G9 init
  step k acc := by
    iintro ⟨HR2, HR4, HR12, HR13, HR14, HR18, ⟨%f15, HW15, %h15⟩, ⟨%f16, HW16, %h16⟩, ⟨%f17, HW17, %h17⟩, ⟨%f19, HW19, %h19⟩, ⟨%f9, HW9, %h9⟩, %hacc⟩
    replace hacc := hacc.trans (at3_fst _ _ _ fun h0 => by rw [h0]; rfl)
    replace h15 := h15.trans (at3_fst _ _ _ fun h0 => by rw [h0]; rfl)
    replace h16 := h16.trans (at3_fst _ _ _ fun h0 => by rw [h0]; rfl)
    replace h17 := h17.trans (at3_fst _ _ _ fun h0 => by rw [h0]; rfl)
    replace h19 := h19.trans (at3_fst _ _ _ fun h0 => by rw [h0]; rfl)
    replace h9 := h9.trans (at3_fst _ _ _ fun h0 => by rw [h0]; rfl)
    subst hacc
    subst h15; subst h16; subst h17; subst h19; subst h9
    iapply (wp_wand_r Idealize.ShloMosaic.frame (wpE (defs₀ (F := F)) 𝒱 (c : Thread nD τ) bd) E)
    isplitl [HR2 HR4 HR12 HR13 HR14 HR18 HW15 HW16 HW17 HW19 HW9]
    · iapply ((trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k _ _ _ _ _ _).2.2.2.2.2.2 E)
      isplitl [HR2]; · iexact HR2
      isplitl [HR4]; · iexact HR4
      isplitl [HR12]; · iexact HR12
      isplitl [HR13]; · iexact HR13
      isplitl [HR14]; · iexact HR14
      isplitl [HR18]; · iexact HR18
      isplitl [HW15]; · iexact HW15
      isplitl [HW16]; · iexact HW16
      isplitl [HW17]; · iexact HW17
      isplitl [HW19]; · iexact HW19
      iexact HW9
    · iintro %yld ⟨%hres, HR2, HR4, HR12, HR13, HR14, HR18, HW15, HW16, HW17, HW19, HW9⟩
      isplitl [HR2]; · iexact HR2
      isplitl [HR4]; · iexact HR4
      isplitl [HR12]; · iexact HR12
      isplitl [HR13]; · iexact HR13
      isplitl [HR14]; · iexact HR14
      isplitl [HR18]; · iexact HR18
      simp only [at3, st3_succ]
      isplitl [HW15]
      · iexists _; isplitl [HW15]; · iexact HW15
        ipureintro; rfl
      isplitl [HW16]
      · iexists _; isplitl [HW16]; · iexact HW16
        ipureintro; rfl
      isplitl [HW17]
      · iexists _; isplitl [HW17]; · iexact HW17
        ipureintro; rfl
      isplitl [HW19]
      · iexists _; isplitl [HW19]; · iexact HW19
        ipureintro; rfl
      isplitl [HW9]
      · iexists _; isplitl [HW9]; · iexact HW9
        ipureintro; rfl
      ipureintro; exact hres

end Cert.Kernel.Hand

end
-- ==== Proof.HwPre.lean ====
/-
  The kernel body's branch conditions in closed form, and its buffers as one assertion.
-/
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 56 = 0 :=
  (fun t => by
    have ht : t.val < 56 := Nat.lt_of_lt_of_eq t.isLt N_0
    have e0 : (grid0.coords t 0).val = t.val / 4 % 14 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 56 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 56 := Nat.lt_of_lt_of_eq t.isLt N_0
    have e0 : (grid0.coords t 0).val = t.val / 4 % 14 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The buffers of the body, each at its contents. -/
abbrev Body (c : Dev nD) (arg2 : Memref sig .tc .vmem S6x256x256 .fp8e4m3) (arg3 : Memref sig .tc .vmem S6x8x256 .f32) (arg4 : Memref sig .tc .vmem S6x256x256 .fp8e5m2) (arg5 : Memref sig .tc .vmem S6x8x256 .f32) (arg6 : Memref sig .tc .vmem S4x256 .bf16) (arg7 : Memref sig .tc .vmem S1x256 .f32) (arg8 : Memref sig .tc .smem S6x17 .i32) (arg9 : Memref sig .tc .vmem S6x256x256 .bf16) (arg10 : Memref sig .tc .vmem S4x256 .f32) (arg11 : Memref sig .tc .vmem S1x256 .f32) (arg12 : Memref sig .tc .vmem S6x3x264x128 .i32) (arg13 : Memref sig .tc .vmem S8x6x256 .f32) (arg14 : Memref sig .tc .vmem S8x6x256 .f32) (arg15 : Memref sig .tc .vmem S2x2x272x128 .f32) (arg16 : Memref sig .tc .vmem S2x2x264x128 .f32) (arg17 : Memref sig .tc .vmem S2x2x256x128 .f32) (arg18 : Memref sig .tc .vmem S4x256x256 .bf16) (arg19 : Memref sig .tc .vmem S2x2x256x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19))

/-- The first point starts a group of channels. -/
theorem cond_of_first (i : grid0.Coords) (h : cond0_0 i) : cond0_1 i := by
  have key : ∀ (a : Fin 14) (b : Fin 4), (Scalar.cmpi .ne (Scalar.extui (Scalar.andi (Scalar.cmpi .eq (BitVec.ofNat 32 a.val) 0#32) (Scalar.cmpi .eq (BitVec.ofNat 32 b.val) 0#32))) 0#32) = 1#1 →
      (Scalar.cmpi .ne (Scalar.extui (Scalar.cmpi .eq (BitVec.ofNat 32 b.val) 0#32)) 0#32) = 1#1 := by decide
  exact key (i 0) (i 1) h

end Cert.Kernel.Hand

end
-- ==== Proof.HwRunA.lean ====
/-
  The kernel body at the first grid point, where both conditionals run: run once at symbolic contents of every buffer. What it leaves in the
  buffers it writes is what the run finds.
-/
module

public import proofs.«01_k».proof.Proof.HwBatch
public import proofs.«01_k».proof.Proof.HwPre

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first grid point, where both conditionals run. -/
@[irreducible] def runA (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : cond0_0 i) (hc1 : cond0_1 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) :
    Σ' (s9 : BufTy.Contents (Elt F) arg9.view.ty) (s10 : BufTy.Contents (Elt F) arg10.view.ty) (s11 : BufTy.Contents (Elt F) arg11.view.ty) (s12 : BufTy.Contents (Elt F) arg12.view.ty) (s13 : BufTy.Contents (Elt F) arg13.view.ty) (s14 : BufTy.Contents (Elt F) arg14.view.ty) (s15 : BufTy.Contents (Elt F) arg15.view.ty) (s16 : BufTy.Contents (Elt F) arg16.view.ty) (s17 : BufTy.Contents (Elt F) arg17.view.ty) (s18 : BufTy.Contents (Elt F) arg18.view.ty), { s19 : BufTy.Contents (Elt F) arg19.view.ty // ∀ (E : Set ℕ),
      Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) 𝒱 (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19) } := by
  refine ⟨?_, ?_, ?_, ?_, ?_, ?_, ?_, ?_, ?_, ?_, ?_, fun E => ?run⟩
  case run =>
    rw [cc0_conv_bwd_eq_skeleton]; unfold cc0_conv_bwd_skel
    iintro ⟨H2, H3, H4, H5, H6, H7, H8, H9, H10, H11, H12, H13, H14, H15, H16, H17, H18, H19⟩
    sl_exec (disch := first | sl_exact hc0 | sl_exact hc1)
    sl_step
    sl_close

end Cert.Kernel.Hand

end
-- ==== Proof.HwRunB.lean ====
/-
  The kernel body at a grid point where neither conditional runs: run once at symbolic contents of every buffer. What it leaves in the
  buffers it writes is what the run finds.
-/
module

public import proofs.«01_k».proof.Proof.HwBatch
public import proofs.«01_k».proof.Proof.HwPre

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a grid point where neither conditional runs. -/
@[irreducible] def runB (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : ¬cond0_0 i) (hc1 : ¬cond0_1 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) :
    Σ' (s9 : BufTy.Contents (Elt F) arg9.view.ty) (s10 : BufTy.Contents (Elt F) arg10.view.ty) (s11 : BufTy.Contents (Elt F) arg11.view.ty) (s12 : BufTy.Contents (Elt F) arg12.view.ty) (s13 : BufTy.Contents (Elt F) arg13.view.ty) (s14 : BufTy.Contents (Elt F) arg14.view.ty) (s15 : BufTy.Contents (Elt F) arg15.view.ty) (s16 : BufTy.Contents (Elt F) arg16.view.ty) (s17 : BufTy.Contents (Elt F) arg17.view.ty) (s18 : BufTy.Contents (Elt F) arg18.view.ty), { s19 : BufTy.Contents (Elt F) arg19.view.ty // ∀ (E : Set ℕ),
      Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) 𝒱 (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19) } := by
  refine ⟨?_, ?_, ?_, ?_, ?_, ?_, ?_, ?_, ?_, ?_, ?_, fun E => ?run⟩
  case run =>
    rw [cc0_conv_bwd_eq_skeleton]; unfold cc0_conv_bwd_skel
    iintro ⟨H2, H3, H4, H5, H6, H7, H8, H9, H10, H11, H12, H13, H14, H15, H16, H17, H18, H19⟩
    sl_exec (disch := first | sl_exact hc0 | sl_exact hc1)
    sl_step
    sl_close

end Cert.Kernel.Hand

end
-- ==== Proof.HwRunC.lean ====
/-
  The kernel body at a later grid point that starts a group of channels, where only the second conditional runs: run once at symbolic contents of every buffer. What it leaves in the
  buffers it writes is what the run finds.
-/
module

public import proofs.«01_k».proof.Proof.HwBatch
public import proofs.«01_k».proof.Proof.HwPre

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a later grid point that starts a group of channels, where only the second conditional runs. -/
@[irreducible] def runC (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : ¬cond0_0 i) (hc1 : cond0_1 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) :
    Σ' (s9 : BufTy.Contents (Elt F) arg9.view.ty) (s10 : BufTy.Contents (Elt F) arg10.view.ty) (s11 : BufTy.Contents (Elt F) arg11.view.ty) (s12 : BufTy.Contents (Elt F) arg12.view.ty) (s13 : BufTy.Contents (Elt F) arg13.view.ty) (s14 : BufTy.Contents (Elt F) arg14.view.ty) (s15 : BufTy.Contents (Elt F) arg15.view.ty) (s16 : BufTy.Contents (Elt F) arg16.view.ty) (s17 : BufTy.Contents (Elt F) arg17.view.ty) (s18 : BufTy.Contents (Elt F) arg18.view.ty), { s19 : BufTy.Contents (Elt F) arg19.view.ty // ∀ (E : Set ℕ),
      Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) 𝒱 (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19) } := by
  refine ⟨?_, ?_, ?_, ?_, ?_, ?_, ?_, ?_, ?_, ?_, ?_, fun E => ?run⟩
  case run =>
    rw [cc0_conv_bwd_eq_skeleton]; unfold cc0_conv_bwd_skel
    iintro ⟨H2, H3, H4, H5, H6, H7, H8, H9, H10, H11, H12, H13, H14, H15, H16, H17, H18, H19⟩
    sl_exec (disch := first | sl_exact hc0 | sl_exact hc1)
    sl_step
    sl_close

end Cert.Kernel.Hand

end
-- ==== Proof.HwFrame.lean ====
/-
  The frame of the program: it runs to the end from any memory, its argument arrays end unchanged and its counters at
  zero. Nothing is stated of what the kernel leaves in its results and its scratch buffers.
-/
module

public import proofs.«01_k».proof.Proof.HwRunA
public import proofs.«01_k».proof.Proof.HwRunB
public import proofs.«01_k».proof.Proof.HwRunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S6x256x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x256x256 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S6x17 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S6x3x264x128 .i32 := Memref.whole cc0_scratch0
abbrev scM0_1 : Memref sig .tc .vmem S8x6x256 .f32 := Memref.whole cc0_scratch1
abbrev scM0_2 : Memref sig .tc .vmem S8x6x256 .f32 := Memref.whole cc0_scratch2
abbrev scM0_3 : Memref sig .tc .vmem S2x2x272x128 .f32 := Memref.whole cc0_scratch3
abbrev scM0_4 : Memref sig .tc .vmem S2x2x264x128 .f32 := Memref.whole cc0_scratch4
abbrev scM0_5 : Memref sig .tc .vmem S2x2x256x128 .f32 := Memref.whole cc0_scratch5
abbrev scM0_6 : Memref sig .tc .vmem S4x256x256 .bf16 := Memref.whole cc0_scratch6
abbrev scM0_7 : Memref sig .tc .vmem S2x2x256x128 .f32 := Memref.whole cc0_scratch7
/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The body at any grid point, from any contents: the buffers it only reads keep theirs. -/
theorem body_any (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (E : Set ℕ) :
    Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) Variants.none (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ s9 s10 s11 s12 s13 s14 s15 s16 s17 s18 s19, Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19)) := by
  have key : ∀ s9 s10 s11 s12 s13 s14 s15 s16 s17 s18 s19, (Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) Variants.none (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19)) →
      (Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) Variants.none (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ s9 s10 s11 s12 s13 s14 s15 s16 s17 s18 s19, Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19))) := by
    intro s9 s10 s11 s12 s13 s14 s15 s16 s17 s18 s19 h
    iintro H
    iapply (wp_wand_r Idealize.ShloMosaic.frame (wpE (defs₀ (F := F)) Variants.none (c : Thread nD τ) none) E)
    isplitl [H]
    · iapply h; iexact H
    · iintro %_ H
      iexists s9, s10, s11, s12, s13, s14, s15, s16, s17, s18, s19
      iexact H
  by_cases h0 : cond0_0 i
  · by_cases h1 : cond0_1 i
    · exact key _ _ _ _ _ _ _ _ _ _ _ ((runA (F := F) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
    · exact absurd (cond_of_first i h0) h1
  · by_cases h1 : cond0_1 i
    · exact key _ _ _ _ _ _ _ _ _ _ _ ((runC (F := F) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
    · exact key _ _ _ _ _ _ _ _ _ _ _ ((runB (F := F) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)

variable (m : (ℓ : Loc nD τ sig) → Buf (Elt F) ℓ) (ρ : Dev nD → PrngReg)

/-- The output windows of which nothing is stated. -/
def forgets0 : Fin 10 → Bool := fun w => w.val == 7 || w.val == 8 || w.val == 9

/-- The proof data of the pipeline: the arrays as the region finds them; each input's buffer at its block; the invariant
    that every scratch buffer holds something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  unfold owns
  iintro ⟨⟨⟨⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hg⟩, Ho, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩, ⟨%d10, %f10, -, H10⟩, ⟨%d11, %f11, -, H11⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19]
  · iapply (body_any c (grid0.coords t) _ (hs0_0 t) _ (hs0_1 t) _ (hs0_2 t) _ (hs0_3 t) _ (hs0_4 t) _ (hs0_5 t) _ (hs0_6 t) _ (hs0_7 t) _ (hs0_8 t) _ (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) f2 f3 f4 f5 f6 f7 f8 f9 f10 f11 f12 f13 f14 f15 f16 f17 f18 f19 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro %_ ⟨%s9, %s10, %s11, %s12, %s13, %s14, %s15, %s16, %s17, %s18, %s19, H2, H3, H4, H5, H6, H7, H8, H9, H10, H11, H12, H13, H14, H15, H16, H17, H18, H19⟩
    isplitl [H12 H13 H14 H15 H16 H17 H18 H19 Hg]
    · isplitl [H12 H13 H14 H15 H16 H17 H18 H19]
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl

      · iexists _, _; isplitr; swap; · iexact H19
        ipureintro; rfl
      iexact Hg
    isplitl [Ho]; · iexact Ho
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _, _; isplitr; swap; · iexact H9
      ipureintro; rfl
    isplitl [H10]
    · iexists _, _; isplitr; swap; · iexact H10
      ipureintro; rfl

    · iexists _, _; isplitr; swap; · iexact H11
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c))⟩, h.2⟩) (run_main m ρ)

end Cert.Kernel.Hand

end
-- ==== Proof.IdealBatch.lean ====
/-
  The batch loop of the kernel body (one trip per row of the batch), by its invariant. Each trip is run once at a symbolic
  trip number from any contents of the buffers it writes; what it leaves there and what it carries on are what the run
  finds. The states after each trip follow by recursion, and the loop's invariant states the buffers at them.
-/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a trip of the batch loop changes: the x rows, the dz rows, the dy rows, the z rows, the dx block, and the ten
    running sums. -/
abbrev St3 (arg9 : Memref sig .tc .vmem S6x256x256 .bf16) (arg15 : Memref sig .tc .vmem S2x2x272x128 .f32) (arg16 : Memref sig .tc .vmem S2x2x264x128 .f32) (arg17 : Memref sig .tc .vmem S2x2x256x128 .f32) (arg19 : Memref sig .tc .vmem S2x2x256x128 .f32) : Type :=
  BufTy.Contents (Elt F) arg15.view.ty × BufTy.Contents (Elt F) arg16.view.ty × BufTy.Contents (Elt F) arg17.view.ty × BufTy.Contents (Elt F) arg19.view.ty × BufTy.Contents (Elt F) arg9.view.ty × (FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32)

/-- The buffers of a trip: those it only reads at their contents, those it writes at theirs. -/
abbrev Trip3 (c : Dev nD) (arg2 : Memref sig .tc .vmem S6x256x256 .fp8e4m3) (arg4 : Memref sig .tc .vmem S6x256x256 .fp8e5m2) (arg9 : Memref sig .tc .vmem S6x256x256 .bf16) (arg12 : Memref sig .tc .vmem S6x3x264x128 .i32) (arg13 : Memref sig .tc .vmem S8x6x256 .f32) (arg14 : Memref sig .tc .vmem S8x6x256 .f32) (arg15 : Memref sig .tc .vmem S2x2x272x128 .f32) (arg16 : Memref sig .tc .vmem S2x2x264x128 .f32) (arg17 : Memref sig .tc .vmem S2x2x256x128 .f32) (arg18 : Memref sig .tc .vmem S4x256x256 .bf16) (arg19 : Memref sig .tc .vmem S2x2x256x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (f15 : BufTy.Contents (Elt F) arg15.view.ty) (f16 : BufTy.Contents (Elt F) arg16.view.ty) (f17 : BufTy.Contents (Elt F) arg17.view.ty) (f19 : BufTy.Contents (Elt F) arg19.view.ty) (f9 : BufTy.Contents (Elt F) arg9.view.ty) : sProp 𝕄 :=
  iprop((arg2.view.loc (c : Thread nD τ) ↦[arg2.view.set]{fullShare} X2) ∗ (arg4.view.loc (c : Thread nD τ) ↦[arg4.view.set]{fullShare} X4) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg9.view.loc (c : Thread nD τ) ↦[arg9.view.set]{fullShare} f9))

set_option maxHeartbeats 40000000 in
/-- One trip at a symbolic `k`, from any contents and any carried sums. -/
@[irreducible] def trip3 (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (k : Fin k0_t3_loop.trips) (f15 : BufTy.Contents (Elt F) arg15.view.ty) (f16 : BufTy.Contents (Elt F) arg16.view.ty) (f17 : BufTy.Contents (Elt F) arg17.view.ty) (f19 : BufTy.Contents (Elt F) arg19.view.ty) (f9 : BufTy.Contents (Elt F) arg9.view.ty) (acc : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Σ' (s15 : BufTy.Contents (Elt F) arg15.view.ty) (s16 : BufTy.Contents (Elt F) arg16.view.ty) (s17 : BufTy.Contents (Elt F) arg17.view.ty) (s19 : BufTy.Contents (Elt F) arg19.view.ty) (s9 : BufTy.Contents (Elt F) arg9.view.ty), { R : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 // ∀ (E : Set ℕ),
      Trip3 (F := F) c arg2 arg4 arg9 arg12 arg13 arg14 arg15 arg16 arg17 arg18 arg19 X2 X4 X12 X13 X14 X18 f15 f16 f17 f19 f9
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 k acc)
          (fun yld => iprop(⌜yld = R⌝ ∗ Trip3 (F := F) c arg2 arg4 arg9 arg12 arg13 arg14 arg15 arg16 arg17 arg18 arg19 X2 X4 X12 X13 X14 X18 s15 s16 s17 s19 s9)) } := by
  have hk : k.val < 6 := Nat.lt_of_lt_of_le k.isLt k0_t3_abs.2.1
  refine ⟨?_, ?_, ?_, ?_, ?_, ?_, fun E => ?run⟩
  case run =>
    unfold k0_t3_body
    iintro ⟨HR2, HR4, HR12, HR13, HR14, HR18, HW15, HW16, HW17, HW19, HW9⟩
    sl_exec
    sl_step
    sl_close

/-- The state after trip `k`, from the state before it. -/
@[irreducible] def st3Step (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (k : ℕ) (s : St3 (F := F) arg9 arg15 arg16 arg17 arg19) : St3 (F := F) arg9 arg15 arg16 arg17 arg19 :=
  if h : k < k0_t3_loop.trips then
    ((trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨k, h⟩ s.1 s.2.1 s.2.2.1 s.2.2.2.1 s.2.2.2.2.1 s.2.2.2.2.2).2.2.2.2.2.1)
  else s

/-- The state before trip `k`, the loop entered in state `s`. -/
def st3 (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (s : St3 (F := F) arg9 arg15 arg16 arg17 arg19) : ℕ → St3 (F := F) arg9 arg15 arg16 arg17 arg19
  | 0 => s
  | k + 1 => st3Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k (st3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s k)

theorem st3_succ (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (s0 : St3 (F := F) arg9 arg15 arg16 arg17 arg19) (k : Fin k0_t3_loop.trips) :
    st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 (k.val + 1)
      = (fun s : St3 (F := F) arg9 arg15 arg16 arg17 arg19 => ((trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.2.2.1, (trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k s.1 s.2.1 s.2.2.1 s.2.2.2.1 s.2.2.2.2.1 s.2.2.2.2.2).2.2.2.2.2.1)) (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 k.val) := by
  rw [st3.eq_2]; unfold st3Step; exact dif_pos k.isLt

/-- What a state holds before trip `k`: what the loop was entered with before the first, and `b` afterwards. -/
abbrev at3 {α : Type} (k : ℕ) (a b : α) : α := match k with
  | 0 => a
  | _ + 1 => b

theorem at3_fst {α : Type} (k : ℕ) (a b : α) (h : k = 0 → a = b) : at3 k a b = b := by
  cases k with
  | zero => exact h rfl
  | succ k => rfl

/-- The loop's invariant: the buffers the trips write, and the running sums, at the state before trip `k`. -/
abbrev inv3 (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (G15 : BufTy.Contents (Elt F) arg15.view.ty) (G16 : BufTy.Contents (Elt F) arg16.view.ty) (G17 : BufTy.Contents (Elt F) arg17.view.ty) (G19 : BufTy.Contents (Elt F) arg19.view.ty) (G9 : BufTy.Contents (Elt F) arg9.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (k : ℕ) (acc : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) : sProp 𝕄 :=
  iprop((arg2.view.loc (c : Thread nD τ) ↦[arg2.view.set]{fullShare} X2) ∗ (arg4.view.loc (c : Thread nD τ) ↦[arg4.view.set]{fullShare} X4) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} X18) ∗ (∃ f, (arg15.view.loc (c : Thread nD τ) ↦[arg15.view.set]{fullShare} f) ∗ ⌜f = at3 k G15 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).1⌝) ∗ (∃ f, (arg16.view.loc (c : Thread nD τ) ↦[arg16.view.set]{fullShare} f) ∗ ⌜f = at3 k G16 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.1⌝) ∗ (∃ f, (arg17.view.loc (c : Thread nD τ) ↦[arg17.view.set]{fullShare} f) ∗ ⌜f = at3 k G17 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.1⌝) ∗ (∃ f, (arg19.view.loc (c : Thread nD τ) ↦[arg19.view.set]{fullShare} f) ∗ ⌜f = at3 k G19 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.2.1⌝) ∗ (∃ f, (arg9.view.loc (c : Thread nD τ) ↦[arg9.view.set]{fullShare} f) ∗ ⌜f = at3 k G9 (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.2.2.1⌝) ∗ ⌜acc = at3 k init (st3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 (G15, G16, G17, G19, G9, init) k).2.2.2.2.2⌝)

/-- The batch loop by its invariant. -/
@[sl_loop] def loopInv3 (𝒱 : Variants) (c : Dev nD) (bd : Option 𝒱.V) (E : Set ℕ) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec F S128x128 .bf16) (v19 : FVec F S1x256 .f32) (v98 : FVec F S8x128 .f32) (v101 : FVec F S8x128 .f32) (v104 : FVec F S8x128 .f32) (v107 : FVec F S8x128 .f32) (v110 : FVec F S8x128 .f32) (v113 : FVec F S8x128 .f32) (v116 : FVec F S8x128 .f32) (v119 : FVec F S8x128 .f32) (X2 : BufTy.Contents (Elt F) arg2.view.ty) (X4 : BufTy.Contents (Elt F) arg4.view.ty) (X12 : BufTy.Contents (Elt F) arg12.view.ty) (X13 : BufTy.Contents (Elt F) arg13.view.ty) (X14 : BufTy.Contents (Elt F) arg14.view.ty) (X18 : BufTy.Contents (Elt F) arg18.view.ty) (G15 : BufTy.Contents (Elt F) arg15.view.ty) (G16 : BufTy.Contents (Elt F) arg16.view.ty) (G17 : BufTy.Contents (Elt F) arg17.view.ty) (G19 : BufTy.Contents (Elt F) arg19.view.ty) (G9 : BufTy.Contents (Elt F) arg9.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 init where
  inv := inv3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 G15 G16 G17 G19 G9 init
  step k acc := by
    iintro ⟨HR2, HR4, HR12, HR13, HR14, HR18, ⟨%f15, HW15, %h15⟩, ⟨%f16, HW16, %h16⟩, ⟨%f17, HW17, %h17⟩, ⟨%f19, HW19, %h19⟩, ⟨%f9, HW9, %h9⟩, %hacc⟩
    replace hacc := hacc.trans (at3_fst _ _ _ fun h0 => by rw [h0]; rfl)
    replace h15 := h15.trans (at3_fst _ _ _ fun h0 => by rw [h0]; rfl)
    replace h16 := h16.trans (at3_fst _ _ _ fun h0 => by rw [h0]; rfl)
    replace h17 := h17.trans (at3_fst _ _ _ fun h0 => by rw [h0]; rfl)
    replace h19 := h19.trans (at3_fst _ _ _ fun h0 => by rw [h0]; rfl)
    replace h9 := h9.trans (at3_fst _ _ _ fun h0 => by rw [h0]; rfl)
    subst hacc
    subst h15; subst h16; subst h17; subst h19; subst h9
    iapply (wp_wand_r Idealize.ShloMosaic.frame (wpE (defs₀ (F := F)) 𝒱 (c : Thread nD τ) bd) E)
    isplitl [HR2 HR4 HR12 HR13 HR14 HR18 HW15 HW16 HW17 HW19 HW9]
    · iapply ((trip3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 k _ _ _ _ _ _).2.2.2.2.2.2 E)
      isplitl [HR2]; · iexact HR2
      isplitl [HR4]; · iexact HR4
      isplitl [HR12]; · iexact HR12
      isplitl [HR13]; · iexact HR13
      isplitl [HR14]; · iexact HR14
      isplitl [HR18]; · iexact HR18
      isplitl [HW15]; · iexact HW15
      isplitl [HW16]; · iexact HW16
      isplitl [HW17]; · iexact HW17
      isplitl [HW19]; · iexact HW19
      iexact HW9
    · iintro %yld ⟨%hres, HR2, HR4, HR12, HR13, HR14, HR18, HW15, HW16, HW17, HW19, HW9⟩
      isplitl [HR2]; · iexact HR2
      isplitl [HR4]; · iexact HR4
      isplitl [HR12]; · iexact HR12
      isplitl [HR13]; · iexact HR13
      isplitl [HR14]; · iexact HR14
      isplitl [HR18]; · iexact HR18
      simp only [at3, st3_succ]
      isplitl [HW15]
      · iexists _; isplitl [HW15]; · iexact HW15
        ipureintro; rfl
      isplitl [HW16]
      · iexists _; isplitl [HW16]; · iexact HW16
        ipureintro; rfl
      isplitl [HW17]
      · iexists _; isplitl [HW17]; · iexact HW17
        ipureintro; rfl
      isplitl [HW19]
      · iexists _; isplitl [HW19]; · iexact HW19
        ipureintro; rfl
      isplitl [HW9]
      · iexists _; isplitl [HW9]; · iexact HW9
        ipureintro; rfl
      ipureintro; exact hres

end Cert.KernelIdeal.Hand

end
-- ==== Proof.IdealPre.lean ====
/-
  The kernel body's branch conditions in closed form, and its buffers as one assertion.
-/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 56 = 0 :=
  (fun t => by
    have ht : t.val < 56 := Nat.lt_of_lt_of_eq t.isLt N_0
    have e0 : (grid0.coords t 0).val = t.val / 4 % 14 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 56 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 56 := Nat.lt_of_lt_of_eq t.isLt N_0
    have e0 : (grid0.coords t 0).val = t.val / 4 % 14 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The buffers of the body, each at its contents. -/
abbrev Body (c : Dev nD) (arg2 : Memref sig .tc .vmem S6x256x256 .fp8e4m3) (arg3 : Memref sig .tc .vmem S6x8x256 .f32) (arg4 : Memref sig .tc .vmem S6x256x256 .fp8e5m2) (arg5 : Memref sig .tc .vmem S6x8x256 .f32) (arg6 : Memref sig .tc .vmem S4x256 .bf16) (arg7 : Memref sig .tc .vmem S1x256 .f32) (arg8 : Memref sig .tc .smem S6x17 .i32) (arg9 : Memref sig .tc .vmem S6x256x256 .bf16) (arg10 : Memref sig .tc .vmem S4x256 .f32) (arg11 : Memref sig .tc .vmem S1x256 .f32) (arg12 : Memref sig .tc .vmem S6x3x264x128 .i32) (arg13 : Memref sig .tc .vmem S8x6x256 .f32) (arg14 : Memref sig .tc .vmem S8x6x256 .f32) (arg15 : Memref sig .tc .vmem S2x2x272x128 .f32) (arg16 : Memref sig .tc .vmem S2x2x264x128 .f32) (arg17 : Memref sig .tc .vmem S2x2x256x128 .f32) (arg18 : Memref sig .tc .vmem S4x256x256 .bf16) (arg19 : Memref sig .tc .vmem S2x2x256x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19))

/-- The first point starts a group of channels. -/
theorem cond_of_first (i : grid0.Coords) (h : cond0_0 i) : cond0_1 i := by
  have key : ∀ (a : Fin 14) (b : Fin 4), (Scalar.cmpi .ne (Scalar.extui (Scalar.andi (Scalar.cmpi .eq (BitVec.ofNat 32 a.val) 0#32) (Scalar.cmpi .eq (BitVec.ofNat 32 b.val) 0#32))) 0#32) = 1#1 →
      (Scalar.cmpi .ne (Scalar.extui (Scalar.cmpi .eq (BitVec.ofNat 32 b.val) 0#32)) 0#32) = 1#1 := by decide
  exact key (i 0) (i 1) h

end Cert.KernelIdeal.Hand

end
-- ==== Proof.IdealRunA.lean ====
/-
  The kernel body at the first grid point, where both conditionals run: run once at symbolic contents of every buffer. What it leaves in the
  buffers it writes is what the run finds.
-/
module

public import proofs.«01_k».proof.Proof.IdealBatch
public import proofs.«01_k».proof.Proof.IdealPre

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first grid point, where both conditionals run. -/
@[irreducible] def runA (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : cond0_0 i) (hc1 : cond0_1 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) :
    Σ' (s9 : BufTy.Contents (Elt F) arg9.view.ty) (s10 : BufTy.Contents (Elt F) arg10.view.ty) (s11 : BufTy.Contents (Elt F) arg11.view.ty) (s12 : BufTy.Contents (Elt F) arg12.view.ty) (s13 : BufTy.Contents (Elt F) arg13.view.ty) (s14 : BufTy.Contents (Elt F) arg14.view.ty) (s15 : BufTy.Contents (Elt F) arg15.view.ty) (s16 : BufTy.Contents (Elt F) arg16.view.ty) (s17 : BufTy.Contents (Elt F) arg17.view.ty) (s18 : BufTy.Contents (Elt F) arg18.view.ty), { s19 : BufTy.Contents (Elt F) arg19.view.ty // ∀ (E : Set ℕ),
      Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) 𝒱 (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19) } := by
  refine ⟨?_, ?_, ?_, ?_, ?_, ?_, ?_, ?_, ?_, ?_, ?_, fun E => ?run⟩
  case run =>
    rw [cc0_conv_bwd_eq_skeleton]; unfold cc0_conv_bwd_skel
    iintro ⟨H2, H3, H4, H5, H6, H7, H8, H9, H10, H11, H12, H13, H14, H15, H16, H17, H18, H19⟩
    sl_exec (disch := first | sl_exact hc0 | sl_exact hc1)
    sl_step
    sl_close

end Cert.KernelIdeal.Hand

end
-- ==== Proof.IdealRunB.lean ====
/-
  The kernel body at a grid point where neither conditional runs: run once at symbolic contents of every buffer. What it leaves in the
  buffers it writes is what the run finds.
-/
module

public import proofs.«01_k».proof.Proof.IdealBatch
public import proofs.«01_k».proof.Proof.IdealPre

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a grid point where neither conditional runs. -/
@[irreducible] def runB (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : ¬cond0_0 i) (hc1 : ¬cond0_1 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) :
    Σ' (s9 : BufTy.Contents (Elt F) arg9.view.ty) (s10 : BufTy.Contents (Elt F) arg10.view.ty) (s11 : BufTy.Contents (Elt F) arg11.view.ty) (s12 : BufTy.Contents (Elt F) arg12.view.ty) (s13 : BufTy.Contents (Elt F) arg13.view.ty) (s14 : BufTy.Contents (Elt F) arg14.view.ty) (s15 : BufTy.Contents (Elt F) arg15.view.ty) (s16 : BufTy.Contents (Elt F) arg16.view.ty) (s17 : BufTy.Contents (Elt F) arg17.view.ty) (s18 : BufTy.Contents (Elt F) arg18.view.ty), { s19 : BufTy.Contents (Elt F) arg19.view.ty // ∀ (E : Set ℕ),
      Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) 𝒱 (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19) } := by
  refine ⟨?_, ?_, ?_, ?_, ?_, ?_, ?_, ?_, ?_, ?_, ?_, fun E => ?run⟩
  case run =>
    rw [cc0_conv_bwd_eq_skeleton]; unfold cc0_conv_bwd_skel
    iintro ⟨H2, H3, H4, H5, H6, H7, H8, H9, H10, H11, H12, H13, H14, H15, H16, H17, H18, H19⟩
    sl_exec (disch := first | sl_exact hc0 | sl_exact hc1)
    sl_step
    sl_close

end Cert.KernelIdeal.Hand

end
-- ==== Proof.IdealRunC.lean ====
/-
  The kernel body at a later grid point that starts a group of channels, where only the second conditional runs: run once at symbolic contents of every buffer. What it leaves in the
  buffers it writes is what the run finds.
-/
module

public import proofs.«01_k».proof.Proof.IdealBatch
public import proofs.«01_k».proof.Proof.IdealPre

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a later grid point that starts a group of channels, where only the second conditional runs. -/
@[irreducible] def runC (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : ¬cond0_0 i) (hc1 : cond0_1 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) :
    Σ' (s9 : BufTy.Contents (Elt F) arg9.view.ty) (s10 : BufTy.Contents (Elt F) arg10.view.ty) (s11 : BufTy.Contents (Elt F) arg11.view.ty) (s12 : BufTy.Contents (Elt F) arg12.view.ty) (s13 : BufTy.Contents (Elt F) arg13.view.ty) (s14 : BufTy.Contents (Elt F) arg14.view.ty) (s15 : BufTy.Contents (Elt F) arg15.view.ty) (s16 : BufTy.Contents (Elt F) arg16.view.ty) (s17 : BufTy.Contents (Elt F) arg17.view.ty) (s18 : BufTy.Contents (Elt F) arg18.view.ty), { s19 : BufTy.Contents (Elt F) arg19.view.ty // ∀ (E : Set ℕ),
      Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) 𝒱 (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19) } := by
  refine ⟨?_, ?_, ?_, ?_, ?_, ?_, ?_, ?_, ?_, ?_, ?_, fun E => ?run⟩
  case run =>
    rw [cc0_conv_bwd_eq_skeleton]; unfold cc0_conv_bwd_skel
    iintro ⟨H2, H3, H4, H5, H6, H7, H8, H9, H10, H11, H12, H13, H14, H15, H16, H17, H18, H19⟩
    sl_exec (disch := first | sl_exact hc0 | sl_exact hc1)
    sl_step
    sl_close

end Cert.KernelIdeal.Hand

end
-- ==== Proof.IdealFrame.lean ====
/-
  The frame of the program: it runs to the end from any memory, its argument arrays end unchanged and its counters at
  zero. Nothing is stated of what the kernel leaves in its results and its scratch buffers.
-/
module

public import proofs.«01_k».proof.Proof.IdealRunA
public import proofs.«01_k».proof.Proof.IdealRunB
public import proofs.«01_k».proof.Proof.IdealRunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S6x256x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x256x256 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S6x17 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S6x3x264x128 .i32 := Memref.whole cc0_scratch0
abbrev scM0_1 : Memref sig .tc .vmem S8x6x256 .f32 := Memref.whole cc0_scratch1
abbrev scM0_2 : Memref sig .tc .vmem S8x6x256 .f32 := Memref.whole cc0_scratch2
abbrev scM0_3 : Memref sig .tc .vmem S2x2x272x128 .f32 := Memref.whole cc0_scratch3
abbrev scM0_4 : Memref sig .tc .vmem S2x2x264x128 .f32 := Memref.whole cc0_scratch4
abbrev scM0_5 : Memref sig .tc .vmem S2x2x256x128 .f32 := Memref.whole cc0_scratch5
abbrev scM0_6 : Memref sig .tc .vmem S4x256x256 .bf16 := Memref.whole cc0_scratch6
abbrev scM0_7 : Memref sig .tc .vmem S2x2x256x128 .f32 := Memref.whole cc0_scratch7
/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The body at any grid point, from any contents: the buffers it only reads keep theirs. -/
theorem body_any (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (E : Set ℕ) :
    Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) Variants.none (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ s9 s10 s11 s12 s13 s14 s15 s16 s17 s18 s19, Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19)) := by
  have key : ∀ s9 s10 s11 s12 s13 s14 s15 s16 s17 s18 s19, (Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) Variants.none (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19)) →
      (Body (F := F) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp frame (wpE (defs₀ (F := F)) Variants.none (c : Thread nD τ) none) E (cc0_conv_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ s9 s10 s11 s12 s13 s14 s15 s16 s17 s18 s19, Body (F := F) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19))) := by
    intro s9 s10 s11 s12 s13 s14 s15 s16 s17 s18 s19 h
    iintro H
    iapply (wp_wand_r Idealize.ShloMosaic.frame (wpE (defs₀ (F := F)) Variants.none (c : Thread nD τ) none) E)
    isplitl [H]
    · iapply h; iexact H
    · iintro %_ H
      iexists s9, s10, s11, s12, s13, s14, s15, s16, s17, s18, s19
      iexact H
  by_cases h0 : cond0_0 i
  · by_cases h1 : cond0_1 i
    · exact key _ _ _ _ _ _ _ _ _ _ _ ((runA (F := F) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
    · exact absurd (cond_of_first i h0) h1
  · by_cases h1 : cond0_1 i
    · exact key _ _ _ _ _ _ _ _ _ _ _ ((runC (F := F) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
    · exact key _ _ _ _ _ _ _ _ _ _ _ ((runB (F := F) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)

variable (m : (ℓ : Loc nD τ sig) → Buf (Elt F) ℓ) (ρ : Dev nD → PrngReg)

/-- The output windows of which nothing is stated. -/
def forgets0 : Fin 10 → Bool := fun w => w.val == 7 || w.val == 8 || w.val == 9

/-- The proof data of the pipeline: the arrays as the region finds them; each input's buffer at its block; the invariant
    that every scratch buffer holds something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  unfold owns
  iintro ⟨⟨⟨⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hg⟩, Ho, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩, ⟨%d10, %f10, -, H10⟩, ⟨%d11, %f11, -, H11⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19]
  · iapply (body_any c (grid0.coords t) _ (hs0_0 t) _ (hs0_1 t) _ (hs0_2 t) _ (hs0_3 t) _ (hs0_4 t) _ (hs0_5 t) _ (hs0_6 t) _ (hs0_7 t) _ (hs0_8 t) _ (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) f2 f3 f4 f5 f6 f7 f8 f9 f10 f11 f12 f13 f14 f15 f16 f17 f18 f19 Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro %_ ⟨%s9, %s10, %s11, %s12, %s13, %s14, %s15, %s16, %s17, %s18, %s19, H2, H3, H4, H5, H6, H7, H8, H9, H10, H11, H12, H13, H14, H15, H16, H17, H18, H19⟩
    isplitl [H12 H13 H14 H15 H16 H17 H18 H19 Hg]
    · isplitl [H12 H13 H14 H15 H16 H17 H18 H19]
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl

      · iexists _, _; isplitr; swap; · iexact H19
        ipureintro; rfl
      iexact Hg
    isplitl [Ho]; · iexact Ho
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _, _; isplitr; swap; · iexact H9
      ipureintro; rfl
    isplitl [H10]
    · iexists _, _; isplitr; swap; · iexact H10
      ipureintro; rfl

    · iexists _, _; isplitr; swap; · iexact H11
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c))⟩, h.2⟩) (run_main m ρ)

end Cert.KernelIdeal.Hand

end
-- ==== Proof.IdealLib.lean ====
/-
  Buffers read at natural-number coordinates. `rd X p` is the element of `X` at coordinates `p`, a fixed default outside
  the shape. A load reads `rd` at its offsets plus the position; a store changes `rd` inside its rectangle only.
-/
module

public import Idealize.ShloMosaic.Lib.WritesUnit
public import Idealize.ShloMosaic.Lib.Pointwise

@[expose] public section

set_option maxRecDepth 16384

noncomputable section

namespace Cert.KernelIdeal.Hand

open Idealize.ShloMosaic

/-- The element at coordinates `p`, a default outside the shape. -/
def rd {α : Type} [Inhabited α] {s : Shape} (X : s.Idx → α) (p : Fin s.rank → ℕ) : α :=
  if h : ∀ a, p a < s.size a then X fun a => ⟨p a, h a⟩ else default

theorem rd_of {α : Type} [Inhabited α] {s : Shape} (X : s.Idx → α) (p : Fin s.rank → ℕ) (y : s.Idx)
    (h : ∀ a, p a = (y a).val) : rd X p = X y := by
  have hp : p = fun a => (y a).val := funext h
  subst hp
  unfold rd
  rw [dif_pos fun a => (y a).isLt]

section
variable {α : Type} [Inhabited α]

/-- Rank by rank. -/
def rd2 {n0 n1 : ℕ} (X : (⟨2, ![n0, n1]⟩ : Shape).Idx → α) (i j : ℕ) : α := rd X ![i, j]
def rd3 {n0 n1 n2 : ℕ} (X : (⟨3, ![n0, n1, n2]⟩ : Shape).Idx → α) (i j k : ℕ) : α := rd X ![i, j, k]
def rd4 {n0 n1 n2 n3 : ℕ} (X : (⟨4, ![n0, n1, n2, n3]⟩ : Shape).Idx → α) (i j k l : ℕ) : α := rd X ![i, j, k, l]

theorem at2 {n0 n1 : ℕ} (X : (⟨2, ![n0, n1]⟩ : Shape).Idx → α) (i : Fin n0) (j : Fin n1) :
    X (ix2 i j) = rd2 X i.val j.val :=
  (rd_of X _ _ fun a => by fin_cases a <;> rfl).symm
theorem at3' {n0 n1 n2 : ℕ} (X : (⟨3, ![n0, n1, n2]⟩ : Shape).Idx → α) (i : Fin n0) (j : Fin n1) (k : Fin n2) :
    X (ix3 i j k) = rd3 X i.val j.val k.val :=
  (rd_of X _ _ fun a => by fin_cases a <;> rfl).symm
theorem at4 {n0 n1 n2 n3 : ℕ} (X : (⟨4, ![n0, n1, n2, n3]⟩ : Shape).Idx → α) (i : Fin n0) (j : Fin n1) (k : Fin n2)
    (l : Fin n3) : X (ix4 i j k l) = rd4 X i.val j.val k.val l.val :=
  (rd_of X _ _ fun a => by fin_cases a <;> rfl).symm

end

section Buffers
variable {sig : RefSig} {κ : Kind} {sp : Space} {e : EltTy} {Val : EltTy → Type} [Inhabited (Val e)]

theorem rd_readAt {s : Shape} (v : View sig κ sp s e) (f : v.ty.Contents Val) {off size : Fin s.rank → ℕ}
    (inb : ∀ a, off a + size a ≤ s.size a) (x : (Rect.unit off size inb).shape.Idx) :
    v.readAt Val (Rect.unit off size inb).toLoadRect f x = rd (v.read Val f) fun a => off a + (x a).val := by
  rw [View.readAt_apply]
  refine (rd_of _ _ _ fun a => ?_).symm
  show off a + (x a).val = off a + 1 * (x a).val
  rw [Nat.one_mul]

/-- A load read at a position: the buffer at the offsets plus the position. -/
theorem ld2 {n0 n1 : ℕ} (v : View sig κ sp ⟨2, ![n0, n1]⟩ e) (f : v.ty.Contents Val) {off : Fin 2 → ℕ} {m0 m1 : ℕ}
    (inb : ∀ a, off a + (![m0, m1] : Fin 2 → ℕ) a ≤ (⟨2, ![n0, n1]⟩ : Shape).size a) (i : Fin m0) (j : Fin m1) :
    v.readAt Val (Rect.unit (s := ⟨2, ![n0, n1]⟩) off ![m0, m1] inb).toLoadRect f (ix2 i j)
      = rd2 (v.read Val f) (off 0 + i.val) (off 1 + j.val) := by
  rw [rd_readAt]; unfold rd2; congr 1; funext a; fin_cases a <;> rfl
theorem ld3 {n0 n1 n2 : ℕ} (v : View sig κ sp ⟨3, ![n0, n1, n2]⟩ e) (f : v.ty.Contents Val) {off : Fin 3 → ℕ}
    {m0 m1 m2 : ℕ} (inb : ∀ a, off a + (![m0, m1, m2] : Fin 3 → ℕ) a ≤ (⟨3, ![n0, n1, n2]⟩ : Shape).size a)
    (i : Fin m0) (j : Fin m1) (k : Fin m2) :
    v.readAt Val (Rect.unit (s := ⟨3, ![n0, n1, n2]⟩) off ![m0, m1, m2] inb).toLoadRect f (ix3 i j k)
      = rd3 (v.read Val f) (off 0 + i.val) (off 1 + j.val) (off 2 + k.val) := by
  rw [rd_readAt]; unfold rd3; congr 1; funext a; fin_cases a <;> rfl
theorem ld4 {n0 n1 n2 n3 : ℕ} (v : View sig κ sp ⟨4, ![n0, n1, n2, n3]⟩ e) (f : v.ty.Contents Val) {off : Fin 4 → ℕ}
    {m0 m1 m2 m3 : ℕ} (inb : ∀ a, off a + (![m0, m1, m2, m3] : Fin 4 → ℕ) a ≤ (⟨4, ![n0, n1, n2, n3]⟩ : Shape).size a)
    (i : Fin m0) (j : Fin m1) (k : Fin m2) (l : Fin m3) :
    v.readAt Val (Rect.unit (s := ⟨4, ![n0, n1, n2, n3]⟩) off ![m0, m1, m2, m3] inb).toLoadRect f (ix4 i j k l)
      = rd4 (v.read Val f) (off 0 + i.val) (off 1 + j.val) (off 2 + k.val) (off 3 + l.val) := by
  rw [rd_readAt]; unfold rd4; congr 1; funext a; fin_cases a <;> rfl

theorem rd_writes {s : Shape} (v : View sig κ sp s e) (f : v.ty.Contents Val) {off off' size : Fin s.rank → ℕ}
    (inb : ∀ a, off a + size a ≤ s.size a) (w : (Rect.unit off size inb).shape.Idx → Val e)
    (L : List (View.Piece Val s e)) (heq : off = off') (p : Fin s.rank → ℕ) :
    rd (v.read Val (v.writes Val f ((⟨Rect.unit off size inb, w⟩ : View.Piece Val s e) :: L))) p
      = if ∀ a, off' a ≤ p a ∧ p a < off' a + size a then rd w (fun a => p a - off' a)
        else rd (v.read Val (v.writes Val f L)) p := by
  subst heq
  by_cases hp : ∀ a, p a < s.size a
  · have e1 : ∀ g : v.ty.Contents Val, rd (v.read Val g) p = v.read Val g fun a => ⟨p a, hp a⟩ :=
      fun g => rd_of _ _ _ fun a => rfl
    rw [e1, e1, View.read_writes_cons_unit v f inb w L _ rfl]
    by_cases h : ∀ a, off a ≤ p a ∧ p a < off a + size a
    · rw [dif_pos h, if_pos h]
      exact (rd_of w _ _ fun a => rfl).symm
    · rw [dif_neg h, if_neg h]
  · rw [if_neg]
    · unfold rd; rw [dif_neg hp, dif_neg hp]
    · intro h; exact hp fun a => Nat.lt_of_lt_of_le (h a).2 (inb a)

theorem wr2 {n0 n1 : ℕ} (v : View sig κ sp ⟨2, ![n0, n1]⟩ e) (f : v.ty.Contents Val) {off : Fin 2 → ℕ} {m0 m1 : ℕ}
    (inb : ∀ a, off a + (![m0, m1] : Fin 2 → ℕ) a ≤ (⟨2, ![n0, n1]⟩ : Shape).size a)
    (w : (⟨2, ![m0, m1]⟩ : Shape).Idx → Val e) (L : List (View.Piece Val ⟨2, ![n0, n1]⟩ e)) (i j : ℕ) :
    rd2 (v.read Val (v.writes Val f ((⟨Rect.unit (s := ⟨2, ![n0, n1]⟩) off ![m0, m1] inb, w⟩ : View.Piece Val _ e) :: L))) i j
      = if (off 0 ≤ i ∧ i < off 0 + m0) ∧ (off 1 ≤ j ∧ j < off 1 + m1) then rd2 w (i - off 0) (j - off 1)
        else rd2 (v.read Val (v.writes Val f L)) i j := by
  unfold rd2
  rw [rd_writes v f inb w L rfl]
  refine if_congr ?_ ?_ rfl
  · simp [Fin.forall_fin_two]
  · exact congrArg (rd w) (by funext a; fin_cases a <;> rfl)
theorem wr3 {n0 n1 n2 : ℕ} (v : View sig κ sp ⟨3, ![n0, n1, n2]⟩ e) (f : v.ty.Contents Val) {off : Fin 3 → ℕ}
    {m0 m1 m2 : ℕ} (inb : ∀ a, off a + (![m0, m1, m2] : Fin 3 → ℕ) a ≤ (⟨3, ![n0, n1, n2]⟩ : Shape).size a)
    (w : (⟨3, ![m0, m1, m2]⟩ : Shape).Idx → Val e) (L : List (View.Piece Val ⟨3, ![n0, n1, n2]⟩ e)) (i j k : ℕ) :
    rd3 (v.read Val (v.writes Val f ((⟨Rect.unit (s := ⟨3, ![n0, n1, n2]⟩) off ![m0, m1, m2] inb, w⟩ : View.Piece Val _ e) :: L))) i j k
      = if (off 0 ≤ i ∧ i < off 0 + m0) ∧ (off 1 ≤ j ∧ j < off 1 + m1) ∧ (off 2 ≤ k ∧ k < off 2 + m2) then
          rd3 w (i - off 0) (j - off 1) (k - off 2)
        else rd3 (v.read Val (v.writes Val f L)) i j k := by
  unfold rd3
  rw [rd_writes v f inb w L rfl]
  refine if_congr ?_ ?_ rfl
  · simp [Fin.forall_fin_succ]
  · exact congrArg (rd w) (by funext a; fin_cases a <;> rfl)
theorem wr4 {n0 n1 n2 n3 : ℕ} (v : View sig κ sp ⟨4, ![n0, n1, n2, n3]⟩ e) (f : v.ty.Contents Val) {off : Fin 4 → ℕ}
    {m0 m1 m2 m3 : ℕ} (inb : ∀ a, off a + (![m0, m1, m2, m3] : Fin 4 → ℕ) a ≤ (⟨4, ![n0, n1, n2, n3]⟩ : Shape).size a)
    (w : (⟨4, ![m0, m1, m2, m3]⟩ : Shape).Idx → Val e) (L : List (View.Piece Val ⟨4, ![n0, n1, n2, n3]⟩ e)) (i j k l : ℕ) :
    rd4 (v.read Val (v.writes Val f ((⟨Rect.unit (s := ⟨4, ![n0, n1, n2, n3]⟩) off ![m0, m1, m2, m3] inb, w⟩ : View.Piece Val _ e) :: L))) i j k l
      = if (off 0 ≤ i ∧ i < off 0 + m0) ∧ (off 1 ≤ j ∧ j < off 1 + m1) ∧ (off 2 ≤ k ∧ k < off 2 + m2)
            ∧ (off 3 ≤ l ∧ l < off 3 + m3) then
          rd4 w (i - off 0) (j - off 1) (k - off 2) (l - off 3)
        else rd4 (v.read Val (v.writes Val f L)) i j k l := by
  unfold rd4
  rw [rd_writes v f inb w L rfl]
  refine if_congr ?_ ?_ rfl
  · simp [Fin.forall_fin_succ]
  · exact congrArg (rd w) (by funext a; fin_cases a <;> rfl)

end Buffers

end Cert.KernelIdeal.Hand

end
-- ==== Proof.IdealOffs.lean ====
/-
  Where the kernel's loads and stores sit: the offsets it computes from a loop's trip number, in closed form.
-/
module

public import proofs.«01_k».proof.Proof.Gen.KernelIdeal.Loops

@[expose] public section

set_option maxRecDepth 16384

namespace Cert.KernelIdeal.Hand

open Cert.KernelIdeal Cert.KernelIdeal.Gen Idealize.ShloMosaic

theorem trips_t3 : k0_t3_loop.trips = 6 := by decide +kernel
theorem trips_t4 : k0_t4_loop.trips = 32 := by decide +kernel
theorem trips_t5 : k0_t5_loop.trips = 16 := by decide +kernel
theorem trips_t1 : k0_t1_loop.trips = 6 := by decide +kernel
theorem trips_t2 : k0_t2_loop.trips = 6 := by decide +kernel

theorem off38 : ∀ b, k0_off38 b = ![b.val,0,0] := by decide +kernel
theorem off39 : ∀ b, k0_off39 b = ![b.val,0,128] := by decide +kernel
theorem off41 : ∀ b, k0_off41 b = ![b.val,128,0] := by decide +kernel
theorem off42 : ∀ b, k0_off42 b = ![b.val,128,128] := by decide +kernel
theorem off43 : ∀ b, k0_off43 b = ![b.val%2,0,8,0] := by decide +kernel
theorem off44 : ∀ b, k0_off44 b = ![b.val%2,1,8,0] := by decide +kernel
theorem off45 : ∀ b, k0_off45 b = ![b.val%2,0,136,0] := by decide +kernel
theorem off46 : ∀ b, k0_off46 b = ![b.val%2,1,136,0] := by decide +kernel
theorem off47 : ∀ b, k0_off47 b = ![b.val%2,0,0,0] := by decide +kernel
theorem off48 : ∀ b, k0_off48 b = ![b.val%2,1,0,0] := by decide +kernel
theorem off49 : ∀ b, k0_off49 b = ![b.val%2,0,128,0] := by decide +kernel
theorem off50 : ∀ b, k0_off50 b = ![b.val%2,1,128,0] := by decide +kernel
theorem off51 : ∀ b, k0_off51 b = ![b.val%2,0,5,0] := by decide +kernel
theorem off52 : ∀ b, k0_off52 b = ![b.val,2,0,0] := by decide +kernel
theorem off53 : ∀ b, k0_off53 b = ![b.val%2,1,5,0] := by decide +kernel
theorem off54 : ∀ b, k0_off54 b = ![b.val%2,0,6,0] := by decide +kernel
theorem off55 : ∀ b, k0_off55 b = ![b.val,1,0,0] := by decide +kernel
theorem off56 : ∀ b, k0_off56 b = ![b.val%2,1,6,0] := by decide +kernel
theorem off57 : ∀ b, k0_off57 b = ![b.val%2,0,7,0] := by decide +kernel
theorem off58 : ∀ b, k0_off58 b = ![b.val,0,0,0] := by decide +kernel
theorem off59 : ∀ b, k0_off59 b = ![b.val%2,1,7,0] := by decide +kernel
theorem off60 : ∀ b, k0_off60 b = ![b.val%2,0,8,0] := by decide +kernel
theorem off61 : ∀ b, k0_off61 b = ![b.val%2,1,8,0] := by decide +kernel
theorem off62 : ∀ b, k0_off62 b = ![b.val%2,0,0,0] := by decide +kernel
theorem off63 : ∀ b, k0_off63 b = ![b.val%2,1,0,0] := by decide +kernel
theorem off64 : ∀ b r, k0_off64 b r = ![b.val%2,0,8*r.val,0] := by decide +kernel
theorem off65 : ∀ b r, k0_off65 b r = ![b.val%2,0,8*r.val,0] := by decide +kernel
theorem off67 : ∀ b r, k0_off67 b r = ![b.val,2,8*r.val,0] := by decide +kernel
theorem off68 : ∀ b r, k0_off68 b r = ![b.val,1,8*r.val,0] := by decide +kernel
theorem off69 : ∀ b r, k0_off69 b r = ![b.val,0,8*r.val,0] := by decide +kernel
theorem off70 : ∀ b r, k0_off70 b r = ![b.val%2,1,8*r.val,0] := by decide +kernel
theorem off71 : ∀ b r, k0_off71 b r = ![b.val%2,1,8*r.val,0] := by decide +kernel
theorem off78 : ∀ b r, k0_off78 b r = ![b.val,16*r.val,0] := by decide +kernel
theorem off81 : ∀ b r, k0_off81 b r = ![b.val,16*r.val,128] := by decide +kernel
theorem off66_0 : ∀ b r, k0_off66 b r 0#32 = ![b.val%2,0,8*r.val+8,0] := by decide +kernel
theorem off66_1 : ∀ b r, k0_off66 b r 1#32 = ![b.val%2,0,8*r.val+7,0] := by decide +kernel
theorem off66_2 : ∀ b r, k0_off66 b r 2#32 = ![b.val%2,0,8*r.val+6,0] := by decide +kernel
theorem off66_3 : ∀ b r, k0_off66 b r 3#32 = ![b.val%2,0,8*r.val+5,0] := by decide +kernel
theorem off72_0 : ∀ b r, k0_off72 b r 0#32 = ![b.val%2,1,8*r.val+8,0] := by decide +kernel
theorem off72_1 : ∀ b r, k0_off72 b r 1#32 = ![b.val%2,1,8*r.val+7,0] := by decide +kernel
theorem off72_2 : ∀ b r, k0_off72 b r 2#32 = ![b.val%2,1,8*r.val+6,0] := by decide +kernel
theorem off72_3 : ∀ b r, k0_off72 b r 3#32 = ![b.val%2,1,8*r.val+5,0] := by decide +kernel
theorem off73_0 : ∀ b r, k0_off73 b r 0#32 = ![b.val%2,0,16*r.val+0,0] := by decide +kernel
theorem off73_1 : ∀ b r, k0_off73 b r 1#32 = ![b.val%2,0,16*r.val+8,0] := by decide +kernel
theorem off79_0 : ∀ b r, k0_off79 b r 0#32 = ![b.val%2,1,16*r.val+0,0] := by decide +kernel
theorem off79_1 : ∀ b r, k0_off79 b r 1#32 = ![b.val%2,1,16*r.val+8,0] := by decide +kernel
theorem off74_0_1 : ∀ b r, k0_off74 b r 0#32 1#32 = ![b.val%2,0,16*r.val+1,0] := by decide +kernel
theorem off74_0_2 : ∀ b r, k0_off74 b r 0#32 2#32 = ![b.val%2,0,16*r.val+2,0] := by decide +kernel
theorem off74_0_3 : ∀ b r, k0_off74 b r 0#32 3#32 = ![b.val%2,0,16*r.val+3,0] := by decide +kernel
theorem off74_1_1 : ∀ b r, k0_off74 b r 1#32 1#32 = ![b.val%2,0,16*r.val+9,0] := by decide +kernel
theorem off74_1_2 : ∀ b r, k0_off74 b r 1#32 2#32 = ![b.val%2,0,16*r.val+10,0] := by decide +kernel
theorem off74_1_3 : ∀ b r, k0_off74 b r 1#32 3#32 = ![b.val%2,0,16*r.val+11,0] := by decide +kernel
theorem off80_0_1 : ∀ b r, k0_off80 b r 0#32 1#32 = ![b.val%2,1,16*r.val+1,0] := by decide +kernel
theorem off80_0_2 : ∀ b r, k0_off80 b r 0#32 2#32 = ![b.val%2,1,16*r.val+2,0] := by decide +kernel
theorem off80_0_3 : ∀ b r, k0_off80 b r 0#32 3#32 = ![b.val%2,1,16*r.val+3,0] := by decide +kernel
theorem off80_1_1 : ∀ b r, k0_off80 b r 1#32 1#32 = ![b.val%2,1,16*r.val+9,0] := by decide +kernel
theorem off80_1_2 : ∀ b r, k0_off80 b r 1#32 2#32 = ![b.val%2,1,16*r.val+10,0] := by decide +kernel
theorem off80_1_3 : ∀ b r, k0_off80 b r 1#32 3#32 = ![b.val%2,1,16*r.val+11,0] := by decide +kernel
theorem off75_0 : ∀ b r, k0_off75 b r 0#32 = ![b.val,0,16*r.val+1,0] := by decide +kernel
theorem off75_1 : ∀ b r, k0_off75 b r 1#32 = ![b.val,0,16*r.val+9,0] := by decide +kernel
theorem off76_0 : ∀ b r, k0_off76 b r 0#32 = ![b.val,1,16*r.val+2,0] := by decide +kernel
theorem off76_1 : ∀ b r, k0_off76 b r 1#32 = ![b.val,1,16*r.val+10,0] := by decide +kernel
theorem off77_0 : ∀ b r, k0_off77 b r 0#32 = ![b.val,2,16*r.val+3,0] := by decide +kernel
theorem off77_1 : ∀ b r, k0_off77 b r 1#32 = ![b.val,2,16*r.val+11,0] := by decide +kernel
theorem off1 : ∀ b, k0_off1 b = ![b.val,0] := by decide +kernel
theorem off2 : ∀ b, k0_off2 b = ![b.val,1] := by decide +kernel
theorem off3 : ∀ b, k0_off3 b = ![b.val,2] := by decide +kernel
theorem off4 : ∀ b, k0_off4 b = ![b.val,3] := by decide +kernel
theorem off5 : ∀ b, k0_off5 b = ![b.val,4] := by decide +kernel
theorem off6 : ∀ b, k0_off6 b = ![b.val,5] := by decide +kernel
theorem off7 : ∀ b, k0_off7 b = ![b.val,6] := by decide +kernel
theorem off8 : ∀ b, k0_off8 b = ![b.val,7] := by decide +kernel
theorem off9 : ∀ b, k0_off9 b = ![b.val,8] := by decide +kernel
theorem off10 : ∀ b, k0_off10 b = ![b.val,9] := by decide +kernel
theorem off11 : ∀ b, k0_off11 b = ![b.val,10] := by decide +kernel
theorem off12 : ∀ b, k0_off12 b = ![b.val,11] := by decide +kernel
theorem off13 : ∀ b, k0_off13 b = ![b.val,12] := by decide +kernel
theorem off14 : ∀ b, k0_off14 b = ![b.val,13] := by decide +kernel
theorem off15 : ∀ b, k0_off15 b = ![b.val,14] := by decide +kernel
theorem off16 : ∀ b, k0_off16 b = ![b.val,15] := by decide +kernel
theorem off17 : ∀ b, k0_off17 b = ![b.val,16] := by decide +kernel
theorem off18 : ∀ b, k0_off18 b = ![b.val,0,0,0] := by decide +kernel
theorem off19 : ∀ b, k0_off19 b = ![b.val,1,0,0] := by decide +kernel
theorem off20 : ∀ b, k0_off20 b = ![b.val,2,0,0] := by decide +kernel
theorem off21 : ∀ b, k0_off21 b = ![b.val,0,0] := by decide +kernel
theorem off22 : ∀ b, k0_off22 b = ![0,b.val,0] := by decide +kernel
theorem off23 : ∀ b, k0_off23 b = ![b.val,1,0] := by decide +kernel
theorem off24 : ∀ b, k0_off24 b = ![1,b.val,0] := by decide +kernel
theorem off25 : ∀ b, k0_off25 b = ![b.val,2,0] := by decide +kernel
theorem off26 : ∀ b, k0_off26 b = ![2,b.val,0] := by decide +kernel
theorem off27 : ∀ b, k0_off27 b = ![b.val,3,0] := by decide +kernel
theorem off28 : ∀ b, k0_off28 b = ![3,b.val,0] := by decide +kernel
theorem off29 : ∀ b, k0_off29 b = ![b.val,4,0] := by decide +kernel
theorem off30 : ∀ b, k0_off30 b = ![4,b.val,0] := by decide +kernel
theorem off31 : ∀ b, k0_off31 b = ![b.val,5,0] := by decide +kernel
theorem off32 : ∀ b, k0_off32 b = ![5,b.val,0] := by decide +kernel
theorem off33 : ∀ b, k0_off33 b = ![b.val,6,0] := by decide +kernel
theorem off34 : ∀ b, k0_off34 b = ![6,b.val,0] := by decide +kernel
theorem off35 : ∀ b, k0_off35 b = ![b.val,7,0] := by decide +kernel
theorem off36 : ∀ b, k0_off36 b = ![7,b.val,0] := by decide +kernel
theorem off37_0 : ∀ (i : grid0.Coords) b, k0_off37 i b 0#32 = ![2*(i 1).val+0,b.val,0] :=
  fun i b => (by decide +kernel : ∀ (a : Fin 14) (d : Fin 4) b, k0_off37 (fun x => match x with | ⟨0, _⟩ => a | ⟨1, _⟩ => d) b 0#32 = ![2*d.val+0,b.val,0]) (i 0) (i 1) b
theorem off37_1 : ∀ (i : grid0.Coords) b, k0_off37 i b 1#32 = ![2*(i 1).val+1,b.val,0] :=
  fun i b => (by decide +kernel : ∀ (a : Fin 14) (d : Fin 4) b, k0_off37 (fun x => match x with | ⟨0, _⟩ => a | ⟨1, _⟩ => d) b 1#32 = ![2*d.val+1,b.val,0]) (i 0) (i 1) b
theorem off40_0 : ∀ (i : grid0.Coords) b, k0_off40 i b 0#32 = ![2*(i 1).val+0,b.val,128] :=
  fun i b => (by decide +kernel : ∀ (a : Fin 14) (d : Fin 4) b, k0_off40 (fun x => match x with | ⟨0, _⟩ => a | ⟨1, _⟩ => d) b 0#32 = ![2*d.val+0,b.val,128]) (i 0) (i 1) b
theorem off40_1 : ∀ (i : grid0.Coords) b, k0_off40 i b 1#32 = ![2*(i 1).val+1,b.val,128] :=
  fun i b => (by decide +kernel : ∀ (a : Fin 14) (d : Fin 4) b, k0_off40 (fun x => match x with | ⟨0, _⟩ => a | ⟨1, _⟩ => d) b 1#32 = ![2*d.val+1,b.val,128]) (i 0) (i 1) b

end Cert.KernelIdeal.Hand
-- ==== Proof.IdealMath.lean ====
/-
  The kernel's arithmetic at a position, and the ten running sums by their numbers.
-/
module

public import proofs.«01_k».proof.Proof.IdealLib
public import proofs.«01_k».proof.Proof.IdealOffs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- One half, as the kernel's constant denotes it. -/
def half : EReal := Ideal.ofBits FTy.f32 1056964608#32

/-- The gradient at the convolution's output from half the pre-activation without bias, half the bias, and half the
    incoming gradient. -/
def dzv (z bb dy : EReal) : EReal := dy * (1 + Ideal.tanh (z + bb)) * (1 + (z + bb) * (1 - Ideal.tanh (z + bb)))

/-- The gradient at row `t`, channel `l` of channel group `g`. -/
def DZ (z dy : ℕ → ℕ → ℕ → ℕ → EReal) (bias : ℕ → ℕ → EReal) (p g t l : ℕ) : EReal :=
  dzv (z p g t l) (bias 0 (g * 128 + l) * half) (dy p g t l)

/-- A value, or zero where the mask is zero. -/
def msk (mk : BitVec 32) (x : EReal) : EReal := Scalar.select (IntOp.cmpi CmpIPredicate.ne mk 0#32) x 0

/-- The row `s` rows before row `t`, or zero where the mask tells that a document starts in between. -/
def VW (x : ℕ → ℕ → ℕ → ℕ → EReal) (mk : ℕ → ℕ → ℕ → ℕ → BitVec 32) (b p g t l s : ℕ) : EReal :=
  if s = 0 then x p g (8 + t) l else msk (mk b (s - 1) t l) (x p g (8 + t - s) l)

/-- The ten running sums. -/
abbrev Acc : Type := FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32

/-- The running sum of tap `k`, channel group `g`. -/
def accw (a : Acc) (k g : ℕ) : FVec Ideal S8x128 .f32 :=
  match k, g with
  | 0, 0 => a.1
  | 0, _ => a.2.1
  | 1, 0 => a.2.2.1
  | 1, _ => a.2.2.2.1
  | 2, 0 => a.2.2.2.2.1
  | 2, _ => a.2.2.2.2.2.1
  | _, 0 => a.2.2.2.2.2.2.1
  | _, _ => a.2.2.2.2.2.2.2.1

/-- The running sum of the bias's gradient, channel group `g`. -/
def accb (a : Acc) (g : ℕ) : FVec Ideal S8x128 .f32 :=
  match g with
  | 0 => a.2.2.2.2.2.2.2.2.1
  | _ => a.2.2.2.2.2.2.2.2.2

end Cert.KernelIdeal.Hand
-- ==== Proof.IdealT3.lean ====
/-
  What one batch trip stores: the dequantized rows of both operands and half the convolution's output.
-/
module

public import proofs.«01_k».proof.Proof.IdealMath
public import proofs.«01_k».proof.Proof.IdealOffs
public import proofs.«01_k».proof.Proof.IdealBatch

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

/-- The dequantized input at batch row `b`, row `t`, channel `l` of group `g`; `q` is the block's place in its scale row. -/
def XB (sc x : ℕ → ℕ → ℕ → EReal) (q b g t l : ℕ) : EReal := sc (2 * q + g) b t * x b t (g * 128 + l)

/-- Half the dequantized incoming gradient. -/
def YB (sc y : ℕ → ℕ → ℕ → EReal) (q b g t l : ℕ) : EReal := sc (2 * q + g) b t * half * y b t (g * 128 + l)

/-- Half the convolution's output, from half the weights `wh`. -/
def ZV (x : ℕ → ℕ → ℕ → ℕ → EReal) (mk : ℕ → ℕ → ℕ → ℕ → BitVec 32) (wh : ℕ → ℕ → EReal) (b p g t l : ℕ) : EReal :=
  VW x mk b p g t l 3 * wh 0 (g * 128 + l) + VW x mk b p g t l 2 * wh 1 (g * 128 + l)
    + VW x mk b p g t l 1 * wh 2 (g * 128 + l) + VW x mk b p g t l 0 * wh 3 (g * 128 + l)

theorem z3 : Ideal.ofBits .fp8e4m3 0#8 = 0 := Ideal.ofBits_zero _
theorem z2 : Ideal.ofBits .fp8e5m2 0#8 = 0 := Ideal.ofBits_zero _

theorem msk_ite (m : BitVec 32) (a w : EReal) (P : Prop) [Decidable P] :
    msk m (a * (if P then w else 0)) = if P then msk m a * w else 0 := by
  unfold msk Scalar.select
  split_ifs <;> simp

theorem msk_pick (m : BitVec 32) (x : EReal) (P : Prop) [Decidable P] :
    msk m (if P then x else 0) = if P then msk m x else 0 := by
  unfold msk Scalar.select
  split_ifs <;> simp

theorem msk_zero (m : BitVec 32) : msk m 0 = 0 := by
  unfold msk Scalar.select
  split_ifs <;> rfl

theorem msk_mul (m : BitVec 32) (a w : EReal) : msk m (a * w) = msk m a * w := by
  unfold msk Scalar.select
  split_ifs <;> simp

theorem sum_pick {n : ℕ} (a : Fin n) (f : Fin n → EReal) (h : ∀ x, x ≠ a → f x = 0) : ∑ x, f x = f a :=
  Finset.sum_eq_single a (fun x _ hx => h x hx) fun h => absurd (Finset.mem_univ _) h

theorem mul_ite0 (a w : EReal) (P : Prop) [Decidable P] : a * (if P then w else 0) = if P then a * w else 0 := by
  split_ifs <;> simp

section
variable (D0 D1 D2 D3 : FVec Ideal S1x256x256 .bf16) (m0 m1 m2 : Vec Ideal S1x1x256x128 .i32)
  (a0 a1 a2 a3 b0 b1 b2 b3 : Vec Ideal S1x1x256x128 .f32) (W : ℕ → ℕ → EReal)
  (h0 : ∀ a c : Fin 256, D0 (ix3 0 a c) = if a = c then W 0 c else 0)
  (h1 : ∀ a c : Fin 256, D1 (ix3 0 a c) = if a = c then W 1 c else 0)
  (h2 : ∀ a c : Fin 256, D2 (ix3 0 a c) = if a = c then W 2 c else 0)
  (h3 : ∀ a c : Fin 256, D3 (ix3 0 a c) = if a = c then W 3 c else 0)
include h0 h1 h2 h3

theorem z_pay0 (t : Fin 256) (l : Fin 128) :
    k0_pay143 (F := Ideal) (k0_pay102 (k0_pay100 (k0_pay98 a3 m2) (k0_pay99 b3) m2 D0) (k0_pay101 a2 m1 b2 m1) D1 a1 m0 b1 m0 D2)
      (k0_pay103 a0) b0 D3 (ix4 (0 : Fin 1) (0 : Fin 1) t l)
      = msk (m2 (ix4 0 0 t l)) (a3 (ix4 0 0 t l)) * W 0 l.val + msk (m1 (ix4 0 0 t l)) (a2 (ix4 0 0 t l)) * W 1 l.val
        + msk (m0 (ix4 0 0 t l)) (a1 (ix4 0 0 t l)) * W 2 l.val + a0 (ix4 0 0 t l) * W 3 l.val := by
  have e1 : ∀ x l : Fin 128, (128 + x.val = l.val) = False := fun x l => by simp; omega
  have hm : ∀ (m : BitVec 32) (x : EReal), Scalar.select (IntOp.cmpi CmpIPredicate.ne m 0#32) x 0 = msk m x := fun _ _ => rfl
  pointwise [k0_pay98, k0_pay99, k0_pay100, k0_pay101, k0_pay102, k0_pay103, k0_pay104, k0_pay105, k0_pay106, k0_pay107, k0_pay108, k0_pay109, k0_pay110, k0_pay111, k0_pay142, k0_pay143, k0_pay144]
  simp only [h0, h1, h2, h3, Fin.mk.injEq, e1, if_false, Fin.val_inj]
  simp only [hm, mul_ite0, mul_zero, msk_pick, msk_zero, msk_mul]
  have hs : ∀ f : Fin 128 → EReal, ∑ x, (if x = l then f x else 0) = f l := fun f =>
    (sum_pick l _ fun x hx => if_neg hx).trans (if_pos rfl)
  simp [hs]

theorem z_pay1 (t : Fin 256) (l : Fin 128) :
    k0_pay144 (F := Ideal) (k0_pay102 (k0_pay100 (k0_pay98 a3 m2) (k0_pay99 b3) m2 D0) (k0_pay101 a2 m1 b2 m1) D1 a1 m0 b1 m0 D2)
      (k0_pay103 a0) b0 D3 (ix4 (0 : Fin 1) (0 : Fin 1) t l)
      = msk (m2 (ix4 0 0 t l)) (b3 (ix4 0 0 t l)) * W 0 (128 + l.val) + msk (m1 (ix4 0 0 t l)) (b2 (ix4 0 0 t l)) * W 1 (128 + l.val)
        + msk (m0 (ix4 0 0 t l)) (b1 (ix4 0 0 t l)) * W 2 (128 + l.val) + b0 (ix4 0 0 t l) * W 3 (128 + l.val) := by
  have e1 : ∀ x l : Fin 128, (x.val = 128 + l.val) = False := fun x l => by simp; omega
  have hm : ∀ (m : BitVec 32) (x : EReal), Scalar.select (IntOp.cmpi CmpIPredicate.ne m 0#32) x 0 = msk m x := fun _ _ => rfl
  pointwise [k0_pay98, k0_pay99, k0_pay100, k0_pay101, k0_pay102, k0_pay103, k0_pay104, k0_pay105, k0_pay106, k0_pay107, k0_pay108, k0_pay109, k0_pay110, k0_pay111, k0_pay142, k0_pay143, k0_pay144]
  simp only [h0, h1, h2, h3, Fin.mk.injEq, e1, if_false, Fin.val_inj, Nat.add_left_cancel_iff]
  simp only [hm, mul_ite0, mul_zero, msk_pick, msk_zero, msk_mul]
  have hs : ∀ f : Fin 128 → EReal, ∑ x, (if x = l then f x else 0) = f l := fun f =>
    (sum_pick l _ fun x hx => if_neg hx).trans (if_pos rfl)
  simp [hs]
end

section
variable (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec Ideal S128x128 .bf16) (v19 : FVec Ideal S1x256 .f32) (v98 : FVec Ideal S8x128 .f32) (v101 : FVec Ideal S8x128 .f32) (v104 : FVec Ideal S8x128 .f32) (v107 : FVec Ideal S8x128 .f32) (v110 : FVec Ideal S8x128 .f32) (v113 : FVec Ideal S8x128 .f32) (v116 : FVec Ideal S8x128 .f32) (v119 : FVec Ideal S8x128 .f32) (X2 : BufTy.Contents (Elt Ideal) arg2.view.ty) (X4 : BufTy.Contents (Elt Ideal) arg4.view.ty) (X12 : BufTy.Contents (Elt Ideal) arg12.view.ty) (X13 : BufTy.Contents (Elt Ideal) arg13.view.ty) (X14 : BufTy.Contents (Elt Ideal) arg14.view.ty) (X18 : BufTy.Contents (Elt Ideal) arg18.view.ty) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f9 : BufTy.Contents (Elt Ideal) arg9.view.ty) (b : Fin k0_t3_loop.trips) (acc : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)

theorem t3_x (hE : ∀ a c : Fin 128, v14 (ix2 a c) = if a = c then (1 : EReal) else 0) (f : BufTy.Contents (Elt Ideal) arg15.view.ty) (p g r l : ℕ) :
    rd4 (arg15.view.read (Elt Ideal) (arg15.view.writes (Elt Ideal) f (trip3.sl.HW15_4 i arg2 arg13 v14 X2 X13 b))) p g r l
      = if p = b.val % 2 ∧ g < 2 ∧ (8 ≤ r ∧ r < 264) ∧ l < 128 then
          XB (rd3 (arg13.view.read (Elt Ideal) X13)) (rd3 (arg2.view.read (Elt Ideal) X2)) (i 1).val b.val g (r - 8) l
        else rd4 (arg15.view.read (Elt Ideal) f) p g r l := by
  have hb : ∀ (w : (⟨4, ![1, 1, 128, 128]⟩ : Shape).Idx → EReal) (a b t l : ℕ) (ha : a = 0) (hb : b = 0) (h : t < 128) (hl : l < 128),
      rd4 w a b t l = w (ix4 0 0 ⟨t, h⟩ ⟨l, hl⟩) := fun w a b t l ha hb h hl => by subst ha hb; exact (at4 w (0 : Fin 1) (0 : Fin 1) ⟨t, h⟩ ⟨l, hl⟩).symm
  generalize hR : (if p = b.val % 2 ∧ g < 2 ∧ (8 ≤ r ∧ r < 264) ∧ l < 128 then
          XB (rd3 (arg13.view.read (Elt Ideal) X13)) (rd3 (arg2.view.read (Elt Ideal) X2)) (i 1).val b.val g (r - 8) l
        else rd4 (arg15.view.read (Elt Ideal) f) p g r l) = R
  dsimp only [trip3.sl.r_6, trip3.sl.r_7, trip3.sl.r_8, trip3.sl.r_9, trip3.sl.r_10, trip3.sl.r_11, trip3.sl.r_12, trip3.sl.r_13, trip3.sl.r_14, trip3.sl.r_15, trip3.sl.r, trip3.sl.r_1, trip3.sl.r_2, trip3.sl.r_3, trip3.sl.r_4, trip3.sl.r_5, trip3.sl.v428, trip3.sl.v431, trip3.sl.HW15_4]
  erw [wr4, wr4, wr4, wr4]
  simp only [off43, off44, off45, off46, Matrix.cons_val]
  subst hR
  by_cases hA : p = b.val % 2 ∧ g < 2 ∧ (8 ≤ r ∧ r < 264) ∧ l < 128
  · rw [if_pos hA]
    obtain ⟨rfl, hg, hr, hl⟩ := hA
    have hr' : r < 136 ∨ 136 ≤ r := by omega
    obtain rfl | rfl : g = 0 ∨ g = 1 := by omega
    · obtain h | h := hr'
      · rw [if_neg (by omega), if_neg (by omega), if_neg (by omega), if_pos (by omega)]
        refine (hb _ _ _ _ _ (by omega) (by omega) (by omega) (by omega)).trans ?_
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, XB, z3, hl]
        refine (sum_pick (⟨r - 8, by omega⟩ : Fin 128) _ fun x hx => if_neg fun h => hx h.symm).trans ((if_pos rfl).trans ?_)
        simp
      · rw [if_neg (by omega), if_pos (by omega)]
        refine (hb _ _ _ _ _ (by omega) (by omega) (by omega) (by omega)).trans ?_
        have e : 128 + (r - 136) = r - 8 := by omega
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, XB, z3, hl]
        refine (sum_pick (⟨r - 136, by omega⟩ : Fin 128) _ fun x hx => if_neg fun h => hx h.symm).trans ((if_pos rfl).trans ?_)
        simp [e]
    · obtain h | h := hr'
      · rw [if_neg (by omega), if_neg (by omega), if_pos (by omega)]
        refine (hb _ _ _ _ _ (by omega) (by omega) (by omega) (by omega)).trans ?_
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, XB, z3, hl]
        refine (sum_pick (⟨r - 8, by omega⟩ : Fin 128) _ fun x hx => if_neg fun h => hx h.symm).trans ((if_pos rfl).trans ?_)
        simp
      · rw [if_pos (by omega)]
        refine (hb _ _ _ _ _ (by omega) (by omega) (by omega) (by omega)).trans ?_
        have e : 128 + (r - 136) = r - 8 := by omega
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, XB, z3, hl]
        refine (sum_pick (⟨r - 136, by omega⟩ : Fin 128) _ fun x hx => if_neg fun h => hx h.symm).trans ((if_pos rfl).trans ?_)
        simp [e]
  · rw [if_neg hA, if_neg (by omega), if_neg (by omega), if_neg (by omega), if_neg (by omega)]
    rfl

theorem t3_y (hE : ∀ a c : Fin 128, v14 (ix2 a c) = if a = c then (1 : EReal) else 0) (p g r l : ℕ) :
    rd4 (arg17.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.1) p g r l
      = if p = b.val % 2 ∧ g < 2 ∧ r < 256 ∧ l < 128 then
          YB (rd3 (arg14.view.read (Elt Ideal) X14)) (rd3 (arg4.view.read (Elt Ideal) X4)) (i 1).val b.val g r l
        else rd4 (arg17.view.read (Elt Ideal) f17) p g r l := by
  have hb : ∀ (w : (⟨4, ![1, 1, 128, 128]⟩ : Shape).Idx → EReal) (a b t l : ℕ) (ha : a = 0) (hb : b = 0) (h : t < 128) (hl : l < 128),
      rd4 w a b t l = w (ix4 0 0 ⟨t, h⟩ ⟨l, hl⟩) := fun w a b t l ha hb h hl => by subst ha hb; exact (at4 w (0 : Fin 1) (0 : Fin 1) ⟨t, h⟩ ⟨l, hl⟩).symm
  generalize hR : (if p = b.val % 2 ∧ g < 2 ∧ r < 256 ∧ l < 128 then
          YB (rd3 (arg14.view.read (Elt Ideal) X14)) (rd3 (arg4.view.read (Elt Ideal) X4)) (i 1).val b.val g r l
        else rd4 (arg17.view.read (Elt Ideal) f17) p g r l) = R
  unfold trip3
  dsimp only
  dsimp only [trip3.sl.r_6, trip3.sl.r_7, trip3.sl.r_8, trip3.sl.r_9, trip3.sl.r_10, trip3.sl.r_11, trip3.sl.r_12, trip3.sl.r_13, trip3.sl.r_14, trip3.sl.r_15, trip3.sl.r, trip3.sl.r_1, trip3.sl.r_2, trip3.sl.r_3, trip3.sl.r_4, trip3.sl.r_5, trip3.sl.v428, trip3.sl.v431, trip3.sl.HW15_4]
  erw [wr4, wr4, wr4, wr4]
  simp only [off47, off48, off49, off50, Matrix.cons_val]
  subst hR
  by_cases hA : p = b.val % 2 ∧ g < 2 ∧ r < 256 ∧ l < 128
  · rw [if_pos hA]
    obtain ⟨rfl, hg, hr, hl⟩ := hA
    have hr' : r < 128 ∨ 128 ≤ r := by omega
    obtain rfl | rfl : g = 0 ∨ g = 1 := by omega
    · obtain h | h := hr'
      · rw [if_neg (by omega), if_neg (by omega), if_neg (by omega), if_pos (by omega)]
        refine (hb _ _ _ _ _ (by omega) (by omega) (by omega) (by omega)).trans ?_
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, YB, half, z2, hl]
        refine (sum_pick (⟨r, by omega⟩ : Fin 128) _ fun x hx => if_neg fun h => hx h.symm).trans ((if_pos rfl).trans ?_)
        simp
      · rw [if_neg (by omega), if_pos (by omega)]
        refine (hb _ _ _ _ _ (by omega) (by omega) (by omega) (by omega)).trans ?_
        have e : 128 + (r - 128) = r := by omega
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, YB, half, z2, hl]
        refine (sum_pick (⟨r - 128, by omega⟩ : Fin 128) _ fun x hx => if_neg fun h => hx h.symm).trans ((if_pos rfl).trans ?_)
        simp [e]
    · obtain h | h := hr'
      · rw [if_neg (by omega), if_neg (by omega), if_pos (by omega)]
        refine (hb _ _ _ _ _ (by omega) (by omega) (by omega) (by omega)).trans ?_
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, YB, half, z2, hl]
        refine (sum_pick (⟨r, by omega⟩ : Fin 128) _ fun x hx => if_neg fun h => hx h.symm).trans ((if_pos rfl).trans ?_)
        simp
      · rw [if_pos (by omega)]
        refine (hb _ _ _ _ _ (by omega) (by omega) (by omega) (by omega)).trans ?_
        have e : 128 + (r - 128) = r := by omega
        pointwise [k0_pay82, k0_pay83, k0_pay84, k0_pay85, k0_pay86, k0_pay87, k0_pay88, k0_pay89, k0_pay90, k0_pay91, k0_pay92, k0_pay93, k0_pay94, k0_pay95, k0_pay96, k0_pay97]
        simp only [ld3, ld4, off37_0, off37_1, off40_0, off40_1, off38, off39, off41, off42]
        simp [hE, YB, half, z2, hl]
        refine (sum_pick (⟨r - 128, by omega⟩ : Fin 128) _ fun x hx => if_neg fun h => hx h.symm).trans ((if_pos rfl).trans ?_)
        simp [e]
  · rw [if_neg hA, if_neg (by omega), if_neg (by omega), if_neg (by omega), if_neg (by omega)]
    rfl

theorem t3_x1 (hE : ∀ a c : Fin 128, v14 (ix2 a c) = if a = c then (1 : EReal) else 0) (p g r l : ℕ) :
    rd4 (arg15.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).1) p g r l
      = if p = b.val % 2 ∧ g < 2 ∧ (8 ≤ r ∧ r < 264) ∧ l < 128 then
          XB (rd3 (arg13.view.read (Elt Ideal) X13)) (rd3 (arg2.view.read (Elt Ideal) X2)) (i 1).val b.val g (r - 8) l
        else rd4 (arg15.view.read (Elt Ideal) f15) p g r l := by
  unfold trip3
  dsimp only
  exact t3_x (hE := hE) ..

theorem t3_z (hE : ∀ a c : Fin 128, v14 (ix2 a c) = if a = c then (1 : EReal) else 0) (wh : ℕ → ℕ → EReal)
    (hD : ∀ k a c, k < 4 → a < 256 → c < 256 → rd3 (arg18.view.read (Elt Ideal) X18) k a c = if a = c then wh k c else 0) (p g r l : ℕ) :
    rd4 (arg19.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.1) p g r l
      = if p = b.val % 2 ∧ g < 2 ∧ r < 256 ∧ l < 128 then
          ZV (rd4 (arg15.view.read (Elt Ideal) (arg15.view.writes (Elt Ideal) f15 (trip3.sl.HW15_4 i arg2 arg13 v14 X2 X13 b)))) (rd4 (arg12.view.read (Elt Ideal) X12)) wh b.val (b.val % 2) g r l
        else rd4 (arg19.view.read (Elt Ideal) f19) p g r l := by
  have hb : ∀ (w : (⟨4, ![1, 1, 256, 128]⟩ : Shape).Idx → EReal) (a b t l : ℕ) (ha : a = 0) (hb : b = 0) (h : t < 256) (hl : l < 128),
      rd4 w a b t l = w (ix4 0 0 ⟨t, h⟩ ⟨l, hl⟩) := fun w a b t l ha hb h hl => by subst ha hb; exact (at4 w (0 : Fin 1) (0 : Fin 1) ⟨t, h⟩ ⟨l, hl⟩).symm
  have hx : ∀ g r l : ℕ, g < 2 → (8 ≤ r ∧ r < 264) → l < 128 →
      rd4 (arg15.view.read (Elt Ideal) (arg15.view.writes (Elt Ideal) arg15.view.junk (trip3.sl.HW15_4 i arg2 arg13 v14 X2 X13 b))) (b.val % 2) g r l
        = rd4 (arg15.view.read (Elt Ideal) (arg15.view.writes (Elt Ideal) f15 (trip3.sl.HW15_4 i arg2 arg13 v14 X2 X13 b))) (b.val % 2) g r l := by
    intro g r l hg hr hl
    rw [t3_x (hE := hE), t3_x (hE := hE), if_pos ⟨rfl, hg, hr, hl⟩, if_pos ⟨rfl, hg, hr, hl⟩]
  have hv428 : trip3.sl.v428 i arg2 arg13 arg15 v14 X2 X13 b
      = arg15.view.readAt (Elt Ideal) (Rect.unit (s := S2x2x272x128) (k0_off60 b) ![1, 1, 256, 128]
          (fun a => by rw [off60]; fin_cases a <;> simp <;> omega)).toLoadRect
          (arg15.view.writes (Elt Ideal) arg15.view.junk (trip3.sl.HW15_4 i arg2 arg13 v14 X2 X13 b)) := rfl
  have hv431 : trip3.sl.v431 i arg2 arg13 arg15 v14 X2 X13 b
      = arg15.view.readAt (Elt Ideal) (Rect.unit (s := S2x2x272x128) (k0_off61 b) ![1, 1, 256, 128]
          (fun a => by rw [off61]; fin_cases a <;> simp <;> omega)).toLoadRect
          (arg15.view.writes (Elt Ideal) arg15.view.junk (trip3.sl.HW15_4 i arg2 arg13 v14 X2 X13 b)) := rfl
  unfold trip3
  dsimp only
  dsimp only [trip3.sl.r_14, trip3.sl.r_15, trip3.sl.r_13, trip3.sl.r_12, trip3.sl.r_11, trip3.sl.r_10, trip3.sl.r_9]
  rw [hv428, hv431]
  clear hv428 hv431
  generalize trip3.sl.HW15_4 i arg2 arg13 v14 X2 X13 b = L at hx ⊢
  generalize arg15.view.writes (Elt Ideal) f15 L = ZZ at hx ⊢
  generalize arg15.view.writes (Elt Ideal) arg15.view.junk L = JJ at hx ⊢
  generalize hR : (if p = b.val % 2 ∧ g < 2 ∧ r < 256 ∧ l < 128 then
          ZV (rd4 (arg15.view.read (Elt Ideal) ZZ)) (rd4 (arg12.view.read (Elt Ideal) X12)) wh b.val (b.val % 2) g r l
        else rd4 (arg19.view.read (Elt Ideal) f19) p g r l) = R
  erw [wr4, wr4]
  simp only [off62, off63, Matrix.cons_val]
  subst hR
  by_cases hA : p = b.val % 2 ∧ g < 2 ∧ r < 256 ∧ l < 128
  · rw [if_pos hA]
    obtain ⟨rfl, hg, hr, hl⟩ := hA
    obtain rfl | rfl : g = 0 ∨ g = 1 := by omega
    · rw [if_neg (by omega), if_pos (by omega)]
      refine (hb _ _ _ _ _ (by omega) (by omega) (by omega) (by omega)).trans ?_
      refine (z_pay0 (W := wh) (h0 := fun a c => ?_) (h1 := fun a c => ?_) (h2 := fun a c => ?_) (h3 := fun a c => ?_) ..).trans ?_
      · rw [ld3]; simpa [Fin.ext_iff] using hD 0 a.val c.val (by omega) a.isLt c.isLt
      · rw [ld3]; simpa [Fin.ext_iff] using hD 1 a.val c.val (by omega) a.isLt c.isLt
      · rw [ld3]; simpa [Fin.ext_iff] using hD 2 a.val c.val (by omega) a.isLt c.isLt
      · rw [ld3]; simpa [Fin.ext_iff] using hD 3 a.val c.val (by omega) a.isLt c.isLt
      have hx' := hx 0 (8 + r) l (by omega) (by omega) hl
      have e5 : 8 + r - 3 = 5 + r := by omega
      have e6 : 8 + r - 2 = 6 + r := by omega
      have e7 : 8 + r - 1 = 7 + r := by omega
      simp only [ld4, off51, off52, off53, off54, off55, off56, off57, off58, off59, off60, off61, Matrix.cons_val,
        Nat.add_zero, Nat.zero_add, Nat.sub_zero, Fin.val_zero, ZV, VW]
      rw [hx']
      simp [e5, e6, e7]
    · rw [if_pos (by omega)]
      refine (hb _ _ _ _ _ (by omega) (by omega) (by omega) (by omega)).trans ?_
      refine (z_pay1 (W := wh) (h0 := fun a c => ?_) (h1 := fun a c => ?_) (h2 := fun a c => ?_) (h3 := fun a c => ?_) ..).trans ?_
      · rw [ld3]; simpa [Fin.ext_iff] using hD 0 a.val c.val (by omega) a.isLt c.isLt
      · rw [ld3]; simpa [Fin.ext_iff] using hD 1 a.val c.val (by omega) a.isLt c.isLt
      · rw [ld3]; simpa [Fin.ext_iff] using hD 2 a.val c.val (by omega) a.isLt c.isLt
      · rw [ld3]; simpa [Fin.ext_iff] using hD 3 a.val c.val (by omega) a.isLt c.isLt
      have hx' := hx 1 (8 + r) l (by omega) (by omega) hl
      have e5 : 8 + r - 3 = 5 + r := by omega
      have e6 : 8 + r - 2 = 6 + r := by omega
      have e7 : 8 + r - 1 = 7 + r := by omega
      simp only [ld4, off51, off52, off53, off54, off55, off56, off57, off58, off59, off60, off61, Matrix.cons_val,
        Nat.add_zero, Nat.zero_add, Nat.sub_zero, Fin.val_zero, ZV, VW]
      rw [hx']
      simp [e5, e6, e7]
  · rw [if_neg hA, if_neg (by omega), if_neg (by omega)]
    rfl
end
end Cert.KernelIdeal.Hand
-- ==== Proof.IdealT4.lean ====
/-
  What one trip of the activation loop adds to the running sums and leaves in the gradient buffer, and so what the loop
  does.
-/
module

public import proofs.«01_k».proof.Proof.IdealMath

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section
variable (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec Ideal S128x128 .bf16) (v19 : FVec Ideal S1x256 .f32) (v98 : FVec Ideal S8x128 .f32) (v101 : FVec Ideal S8x128 .f32) (v104 : FVec Ideal S8x128 .f32) (v107 : FVec Ideal S8x128 .f32) (v110 : FVec Ideal S8x128 .f32) (v113 : FVec Ideal S8x128 .f32) (v116 : FVec Ideal S8x128 .f32) (v119 : FVec Ideal S8x128 .f32) (b : Fin k0_t3_loop.trips) (arg20 v172 : BitVec 32) (X12 : BufTy.Contents (Elt Ideal) arg12.view.ty) (X15 : BufTy.Contents (Elt Ideal) arg15.view.ty) (X17 : BufTy.Contents (Elt Ideal) arg17.view.ty) (X19 : BufTy.Contents (Elt Ideal) arg19.view.ty)

set_option maxHeartbeats 4000000 in
theorem t4_w (r : Fin k0_t4_loop.trips) (acc : Acc) (k g : ℕ) (hk : k < 4) (hg : g < 2) (s : Fin 8) (l : Fin 128) :
    accw (tripR_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X15 X17 X19 r acc) k g (ix2 s l)
      = accw acc k g (ix2 s l) + DZ (rd4 (arg19.view.read (Elt Ideal) X19)) (rd4 (arg17.view.read (Elt Ideal) X17)) (rd2 v19) (b.val % 2) g (8 * r.val + s.val) l.val * VW (rd4 (arg15.view.read (Elt Ideal) X15)) (rd4 (arg12.view.read (Elt Ideal) X12)) b.val (b.val % 2) g (8 * r.val + s.val) l.val (3 - k) := by
  have e5 : 8 + (8 * r.val + s.val) - 3 = 8 * r.val + 5 + s.val := by omega
  have e6 : 8 + (8 * r.val + s.val) - 2 = 8 * r.val + 6 + s.val := by omega
  have e7 : 8 + (8 * r.val + s.val) - 1 = 8 * r.val + 7 + s.val := by omega
  have e8 : 8 + (8 * r.val + s.val) = 8 * r.val + 8 + s.val := by omega
  obtain rfl | rfl | rfl | rfl : k = 0 ∨ k = 1 ∨ k = 2 ∨ k = 3 := by omega
  all_goals (obtain rfl | rfl : g = 0 ∨ g = 1 := by omega)
  all_goals (
    unfold tripR_k0_t4 trip_k0_t4
    dsimp only [accw]
    dsimp only [trip_k0_t4.sl.r, trip_k0_t4.sl.r_1, trip_k0_t4.sl.r_2, trip_k0_t4.sl.r_3, trip_k0_t4.sl.r_4, trip_k0_t4.sl.r_5, trip_k0_t4.sl.r_6, trip_k0_t4.sl.r_7, trip_k0_t4.sl.r_8, trip_k0_t4.sl.r_9, trip_k0_t4.sl.r_10, trip_k0_t4.sl.r_11, trip_k0_t4.sl.r_12, trip_k0_t4.sl.r_13, trip_k0_t4.sl.r_14, trip_k0_t4.sl.r_15]
    pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay145, k0_pay130, k0_pay131, DZ, dzv, VW, msk, half]
    simp only [ld4, at2, off64, off65, off70, off71, off67, off68, off69, off66_0, off72_0, off66_1, off72_1, off66_2, off72_2, off66_3, off72_3]
    simp only [Matrix.cons_val, Nat.reduceSub, Nat.reduceEqDiff, OfNat.ofNat_ne_zero, if_true, if_false, Fin.coe_ofNat_eq_mod, Nat.reduceMod, Nat.reduceAdd, Nat.reduceMul, Nat.zero_add, Nat.add_zero, e5, e6, e7]
    try simp only [e8]
    try simp)

set_option maxHeartbeats 4000000 in
theorem t4_b (r : Fin k0_t4_loop.trips) (acc : Acc) (g : ℕ) (hg : g < 2) (s : Fin 8) (l : Fin 128) :
    accb (tripR_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X15 X17 X19 r acc) g (ix2 s l)
      = accb acc g (ix2 s l) + DZ (rd4 (arg19.view.read (Elt Ideal) X19)) (rd4 (arg17.view.read (Elt Ideal) X17)) (rd2 v19) (b.val % 2) g (8 * r.val + s.val) l.val := by
  obtain rfl | rfl : g = 0 ∨ g = 1 := by omega
  all_goals (
    unfold tripR_k0_t4 trip_k0_t4
    dsimp only [accb]
    dsimp only [trip_k0_t4.sl.r, trip_k0_t4.sl.r_1, trip_k0_t4.sl.r_2, trip_k0_t4.sl.r_3, trip_k0_t4.sl.r_4, trip_k0_t4.sl.r_5, trip_k0_t4.sl.r_6, trip_k0_t4.sl.r_7, trip_k0_t4.sl.r_8, trip_k0_t4.sl.r_9, trip_k0_t4.sl.r_10, trip_k0_t4.sl.r_11, trip_k0_t4.sl.r_12, trip_k0_t4.sl.r_13, trip_k0_t4.sl.r_14, trip_k0_t4.sl.r_15]
    pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay145, k0_pay130, k0_pay131, DZ, dzv, VW, msk, half]
    simp only [ld4, at2, off64, off65, off70, off71, off67, off68, off69, off66_0, off72_0, off66_1, off72_1, off66_2, off72_2, off66_3, off72_3]
    simp [Nat.add_comm])

set_option maxHeartbeats 4000000 in
theorem t4_dz (r : Fin k0_t4_loop.trips) (acc : Acc) (f : BufTy.Contents (Elt Ideal) arg16.view.ty)
    (L : List (View.Piece (Elt Ideal) S2x2x264x128 .f32)) (p g t l : ℕ) :
    rd4 (arg16.view.read (Elt Ideal) (arg16.view.writes (Elt Ideal) f (tripL_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X15 X17 X19 r acc ++ L))) p g t l
      = if p = b.val % 2 ∧ g < 2 ∧ (8 * r.val ≤ t ∧ t < 8 * r.val + 8) ∧ l < 128 then
          DZ (rd4 (arg19.view.read (Elt Ideal) X19)) (rd4 (arg17.view.read (Elt Ideal) X17)) (rd2 v19) (b.val % 2) g t l
        else rd4 (arg16.view.read (Elt Ideal) (arg16.view.writes (Elt Ideal) f L)) p g t l := by
  have hb : ∀ (h : t - 8 * r.val < 8) (w : (⟨4, ![1, 1, 8, 128]⟩ : Shape).Idx → EReal) (hl : l < 128),
      rd4 w 0 0 (t - 8 * r.val) l = w (ix4 0 0 ⟨t - 8 * r.val, h⟩ ⟨l, hl⟩) := fun h w hl => (at4 w (0 : Fin 1) (0 : Fin 1) ⟨t - 8 * r.val, h⟩ ⟨l, hl⟩).symm
  unfold tripL_k0_t4 trip_k0_t4
  dsimp only
  simp only [List.cons_append, List.nil_append]
  erw [wr4]
  erw [wr4]
  simp only [off71, off65, Matrix.cons_val]
  by_cases hA : p = b.val % 2 ∧ g < 2 ∧ (8 * r.val ≤ t ∧ t < 8 * r.val + 8) ∧ l < 128
  · rw [if_pos hA]
    obtain ⟨rfl, hg, ht, hl⟩ := hA
    have et : 8 * r.val + (t - 8 * r.val) = t := by omega
    obtain rfl | rfl : g = 0 ∨ g = 1 := by omega
    · rw [if_neg (by omega), if_pos (by omega)]
      simp only [Nat.sub_self, Nat.sub_zero]
      refine (hb (by omega) _ hl).trans ?_
      pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay145, k0_pay130, k0_pay131, DZ, dzv, VW, msk, half]
      simp only [ld4, at2, off64, off65, off70, off71, off67, off68, off69, off66_0, off72_0, off66_1, off72_1, off66_2, off72_2, off66_3, off72_3]
      simp [et]
    · rw [if_pos (by omega)]
      simp only [Nat.sub_self, Nat.sub_zero]
      refine (hb (by omega) _ hl).trans ?_
      pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay145, k0_pay130, k0_pay131, DZ, dzv, VW, msk, half]
      simp only [ld4, at2, off64, off65, off70, off71, off67, off68, off69, off66_0, off72_0, off66_1, off72_1, off66_2, off72_2, off66_3, off72_3]
      simp [et]
  · rw [if_neg hA, if_neg (by omega), if_neg (by omega)]

/-- The running sums of the taps before trip `n`. -/
theorem st4_w (init : Acc) (n : ℕ) (hn : n ≤ 32) (k g : ℕ) (hk : k < 4) (hg : g < 2) (s : Fin 8) (l : Fin 128) :
    accw (st_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X15 X17 X19 init n).1 k g (ix2 s l)
      = accw init k g (ix2 s l)
        + ∑ r ∈ Finset.range n, DZ (rd4 (arg19.view.read (Elt Ideal) X19)) (rd4 (arg17.view.read (Elt Ideal) X17)) (rd2 v19) (b.val % 2) g (8 * r + s.val) l.val * VW (rd4 (arg15.view.read (Elt Ideal) X15)) (rd4 (arg12.view.read (Elt Ideal) X12)) b.val (b.val % 2) g (8 * r + s.val) l.val (3 - k) := by
  induction n with
  | zero => rw [Finset.sum_range_zero, add_zero]; rfl
  | succ n ih =>
    have hr : n < k0_t4_loop.trips := by rw [trips_t4]; omega
    rw [show n + 1 = (⟨n, hr⟩ : Fin k0_t4_loop.trips).val + 1 from rfl, st_k0_t4_succ]
    refine (t4_w (hk := hk) (hg := hg) ..).trans ?_
    rw [Finset.sum_range_succ, ← add_assoc, ← ih (by omega)]

/-- The running sums of the bias before trip `n`. -/
theorem st4_b (init : Acc) (n : ℕ) (hn : n ≤ 32) (g : ℕ) (hg : g < 2) (s : Fin 8) (l : Fin 128) :
    accb (st_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X15 X17 X19 init n).1 g (ix2 s l)
      = accb init g (ix2 s l) + ∑ r ∈ Finset.range n, DZ (rd4 (arg19.view.read (Elt Ideal) X19)) (rd4 (arg17.view.read (Elt Ideal) X17)) (rd2 v19) (b.val % 2) g (8 * r + s.val) l.val := by
  induction n with
  | zero => rw [Finset.sum_range_zero, add_zero]; rfl
  | succ n ih =>
    have hr : n < k0_t4_loop.trips := by rw [trips_t4]; omega
    rw [show n + 1 = (⟨n, hr⟩ : Fin k0_t4_loop.trips).val + 1 from rfl, st_k0_t4_succ]
    refine (t4_b (hg := hg) ..).trans ?_
    rw [Finset.sum_range_succ, ← add_assoc, ← ih (by omega)]

/-- The gradient buffer before trip `n`. -/
theorem st4_dz (init : Acc) (f : BufTy.Contents (Elt Ideal) arg16.view.ty) (n : ℕ) (hn : n ≤ 32) (p g t l : ℕ) :
    rd4 (arg16.view.read (Elt Ideal) (arg16.view.writes (Elt Ideal) f (st_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X15 X17 X19 init n).2)) p g t l
      = if p = b.val % 2 ∧ g < 2 ∧ t < 8 * n ∧ l < 128 then DZ (rd4 (arg19.view.read (Elt Ideal) X19)) (rd4 (arg17.view.read (Elt Ideal) X17)) (rd2 v19) (b.val % 2) g t l
        else rd4 (arg16.view.read (Elt Ideal) f) p g t l := by
  induction n with
  | zero => rw [if_neg (by omega)]; rfl
  | succ n ih =>
    have hr : n < k0_t4_loop.trips := by rw [trips_t4]; omega
    rw [show n + 1 = (⟨n, hr⟩ : Fin k0_t4_loop.trips).val + 1 from rfl, st_k0_t4_succ]
    refine (t4_dz ..).trans ?_
    rw [ih (by omega)]
    dsimp only
    by_cases h1 : p = b.val % 2 ∧ g < 2 ∧ (8 * n ≤ t ∧ t < 8 * n + 8) ∧ l < 128
    · rw [if_pos h1, if_pos (by omega)]
    · rw [if_neg h1]
      by_cases h2 : p = b.val % 2 ∧ g < 2 ∧ t < 8 * n ∧ l < 128
      · rw [if_pos h2, if_pos (by omega)]
      · rw [if_neg h2, if_neg (by omega)]
end
end Cert.KernelIdeal.Hand
-- ==== Proof.IdealT5.lean ====
/-
  What the input-gradient loop leaves in its block.
-/
module

public import proofs.«01_k».proof.Proof.IdealMath

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The gradient of the input at row `t`, channel `l` of channel group `g`, from the taps' weights. -/
def DXV (wv : ℕ → ℕ → EReal) (dz : ℕ → ℕ → ℕ → ℕ → EReal) (mk : ℕ → ℕ → ℕ → ℕ → BitVec 32) (p b g t l : ℕ) : EReal :=
  wv 3 (g * 128 + l) * dz p g t l + wv 2 (g * 128 + l) * msk (mk b 0 (t + 1) l) (dz p g (t + 1) l)
    + wv 1 (g * 128 + l) * msk (mk b 1 (t + 2) l) (dz p g (t + 2) l)
    + wv 0 (g * 128 + l) * msk (mk b 2 (t + 3) l) (dz p g (t + 3) l)

theorem mul_msk (a : EReal) (m : BitVec 32) (x : EReal) : a * msk m x = msk m (a * x) := by
  unfold msk Scalar.select
  split_ifs <;> simp

section
variable (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec Ideal S128x128 .bf16) (v19 : FVec Ideal S1x256 .f32) (v98 : FVec Ideal S8x128 .f32) (v101 : FVec Ideal S8x128 .f32) (v104 : FVec Ideal S8x128 .f32) (v107 : FVec Ideal S8x128 .f32) (v110 : FVec Ideal S8x128 .f32) (v113 : FVec Ideal S8x128 .f32) (v116 : FVec Ideal S8x128 .f32) (v119 : FVec Ideal S8x128 .f32) (b : Fin k0_t3_loop.trips) (arg20 v172 : BitVec 32) (X12 : BufTy.Contents (Elt Ideal) arg12.view.ty) (X16 : BufTy.Contents (Elt Ideal) arg16.view.ty)

variable (wv : ℕ → ℕ → EReal)
variable (hw00 : ∀ (s : Fin 8) (l : Fin 128), v98 (ix2 s l) = wv 0 (0 * 128 + l.val))
variable (hw01 : ∀ (s : Fin 8) (l : Fin 128), v101 (ix2 s l) = wv 0 (1 * 128 + l.val))
variable (hw10 : ∀ (s : Fin 8) (l : Fin 128), v104 (ix2 s l) = wv 1 (0 * 128 + l.val))
variable (hw11 : ∀ (s : Fin 8) (l : Fin 128), v107 (ix2 s l) = wv 1 (1 * 128 + l.val))
variable (hw20 : ∀ (s : Fin 8) (l : Fin 128), v110 (ix2 s l) = wv 2 (0 * 128 + l.val))
variable (hw21 : ∀ (s : Fin 8) (l : Fin 128), v113 (ix2 s l) = wv 2 (1 * 128 + l.val))
variable (hw30 : ∀ (s : Fin 8) (l : Fin 128), v116 (ix2 s l) = wv 3 (0 * 128 + l.val))
variable (hw31 : ∀ (s : Fin 8) (l : Fin 128), v119 (ix2 s l) = wv 3 (1 * 128 + l.val))

include hw00 hw01 hw10 hw11 hw20 hw21 hw30 hw31

set_option maxHeartbeats 4000000 in
theorem t5_dx (r : Fin k0_t5_loop.trips) (f : BufTy.Contents (Elt Ideal) arg9.view.ty)
    (L : List (View.Piece (Elt Ideal) S6x256x256 .bf16)) (b' t ch : ℕ) :
    rd3 (arg9.view.read (Elt Ideal) (arg9.view.writes (Elt Ideal) f (tripL_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X16 r ++ L))) b' t ch
      = if b' = b.val ∧ (16 * r.val ≤ t ∧ t < 16 * r.val + 16) ∧ ch < 256 then
          DXV wv (rd4 (arg16.view.read (Elt Ideal) X16)) (rd4 (arg12.view.read (Elt Ideal) X12)) (b.val % 2) b.val (ch / 128) t (ch % 128)
        else rd3 (arg9.view.read (Elt Ideal) (arg9.view.writes (Elt Ideal) f L)) b' t ch := by
  have h3 : ∀ (x : Fin 16) (y : Fin 128) (w : (⟨3, ![1, 16, 128]⟩ : Shape).Idx → EReal) {a c : ℕ} (ha : a = x.val) (hc : c = y.val),
      rd3 w 0 a c = w (ix3 0 x y) := fun x y w a c ha hc => by subst ha; subst hc; exact (at3' w (0 : Fin 1) x y).symm
  unfold tripL_k0_t5 trip_k0_t5
  dsimp only
  dsimp only [trip_k0_t5.sl.r, trip_k0_t5.sl.r_1, trip_k0_t5.sl.r_2, trip_k0_t5.sl.r_3, trip_k0_t5.sl.r_4, trip_k0_t5.sl.r_5, trip_k0_t5.sl.r_6, trip_k0_t5.sl.r_7, trip_k0_t5.sl.r_8, trip_k0_t5.sl.r_9, trip_k0_t5.sl.r_10, trip_k0_t5.sl.r_11, trip_k0_t5.sl.r_12, trip_k0_t5.sl.r_13, trip_k0_t5.sl.r_14, trip_k0_t5.sl.r_15]
  simp only [List.cons_append, List.nil_append]
  erw [wr3]
  erw [wr3]
  simp only [off78, off81, Matrix.cons_val]
  by_cases hA : b' = b.val ∧ (16 * r.val ≤ t ∧ t < 16 * r.val + 16) ∧ ch < 256
  · rw [if_pos hA]
    obtain ⟨rfl, ht, hc⟩ := hA
    by_cases hg : ch < 128
    · rw [if_neg (by omega), if_pos (by omega)]
      have cA : ch / 128 = 0 := by omega
      have cB : ch % 128 = ch := by omega
      have cC := hg
      have cD := hg
      simp only [Nat.sub_self, Nat.sub_zero]
      by_cases hq : t - 16 * r.val < 8
      · obtain ⟨s, hs⟩ : ∃ s : Fin 8, t - 16 * r.val = s.val := ⟨⟨t - 16 * r.val, by omega⟩, by first | omega | (simp; done) | (simp; omega)⟩
        have et : t = 16 * r.val + s.val := by omega
        have e1 : 16 * r.val + s.val + 1 = 16 * r.val + 1 + s.val := by omega
        have e2 : 16 * r.val + s.val + 2 = 16 * r.val + 2 + s.val := by omega
        have e3 : 16 * r.val + s.val + 3 = 16 * r.val + 3 + s.val := by omega
        refine (h3 ⟨s.val, by omega⟩ ⟨ch, by omega⟩ _ hs rfl).trans ?_
        pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay146]
        simp only [ld4, hw00, hw10, hw20, hw30, off73_0, off73_1, off79_0, off79_1, off74_0_1, off74_0_2, off74_0_3, off74_1_1, off74_1_2, off74_1_3, off80_0_1, off80_0_2, off80_0_3, off80_1_1, off80_1_2, off80_1_3, off75_0, off75_1, off76_0, off76_1, off77_0, off77_1]
        rw [et, DXV, e1, e2, e3]
        simp only [mul_msk]
        simp [msk, cA, cB, cC, cD, Nat.add_assoc]
      · obtain ⟨s, hs⟩ : ∃ s : Fin 8, t - 16 * r.val = 8 + s.val := ⟨⟨t - 16 * r.val - 8, by omega⟩, by first | omega | (simp; done) | (simp; omega)⟩
        have et : t = 16 * r.val + 8 + s.val := by omega
        have e1 : 16 * r.val + 8 + s.val + 1 = 16 * r.val + 9 + s.val := by omega
        have e2 : 16 * r.val + 8 + s.val + 2 = 16 * r.val + 10 + s.val := by omega
        have e3 : 16 * r.val + 8 + s.val + 3 = 16 * r.val + 11 + s.val := by omega
        refine (h3 ⟨8 + s.val, by omega⟩ ⟨ch, by omega⟩ _ hs rfl).trans ?_
        pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay146]
        simp only [ld4, hw00, hw10, hw20, hw30, off73_0, off73_1, off79_0, off79_1, off74_0_1, off74_0_2, off74_0_3, off74_1_1, off74_1_2, off74_1_3, off80_0_1, off80_0_2, off80_0_3, off80_1_1, off80_1_2, off80_1_3, off75_0, off75_1, off76_0, off76_1, off77_0, off77_1]
        rw [et, DXV, e1, e2, e3]
        simp only [mul_msk]
        simp [msk, cA, cB, cC, cD, Nat.add_assoc]
    · rw [if_pos (by omega)]
      have cA : ch / 128 = 1 := by omega
      have cB : ch % 128 = ch - 128 := by omega
      have cC : 128 + (ch - 128) = ch := by omega
      have cD := hg
      simp only [Nat.sub_self, Nat.sub_zero]
      by_cases hq : t - 16 * r.val < 8
      · obtain ⟨s, hs⟩ : ∃ s : Fin 8, t - 16 * r.val = s.val := ⟨⟨t - 16 * r.val, by omega⟩, by first | omega | (simp; done) | (simp; omega)⟩
        have et : t = 16 * r.val + s.val := by omega
        have e1 : 16 * r.val + s.val + 1 = 16 * r.val + 1 + s.val := by omega
        have e2 : 16 * r.val + s.val + 2 = 16 * r.val + 2 + s.val := by omega
        have e3 : 16 * r.val + s.val + 3 = 16 * r.val + 3 + s.val := by omega
        refine (h3 ⟨s.val, by omega⟩ ⟨ch - 128, by omega⟩ _ hs rfl).trans ?_
        pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay146]
        simp only [ld4, hw01, hw11, hw21, hw31, off73_0, off73_1, off79_0, off79_1, off74_0_1, off74_0_2, off74_0_3, off74_1_1, off74_1_2, off74_1_3, off80_0_1, off80_0_2, off80_0_3, off80_1_1, off80_1_2, off80_1_3, off75_0, off75_1, off76_0, off76_1, off77_0, off77_1]
        rw [et, DXV, e1, e2, e3]
        simp only [mul_msk]
        simp [msk, cA, cB, cC, cD, Nat.add_assoc]
      · obtain ⟨s, hs⟩ : ∃ s : Fin 8, t - 16 * r.val = 8 + s.val := ⟨⟨t - 16 * r.val - 8, by omega⟩, by first | omega | (simp; done) | (simp; omega)⟩
        have et : t = 16 * r.val + 8 + s.val := by omega
        have e1 : 16 * r.val + 8 + s.val + 1 = 16 * r.val + 9 + s.val := by omega
        have e2 : 16 * r.val + 8 + s.val + 2 = 16 * r.val + 10 + s.val := by omega
        have e3 : 16 * r.val + 8 + s.val + 3 = 16 * r.val + 11 + s.val := by omega
        refine (h3 ⟨8 + s.val, by omega⟩ ⟨ch - 128, by omega⟩ _ hs rfl).trans ?_
        pointwise [k0_pay65, k0_pay66, k0_pay67, k0_pay68, k0_pay69, k0_pay70, k0_pay71, k0_pay72, k0_pay73, k0_pay74, k0_pay75, k0_pay76, k0_pay77, k0_pay78, k0_pay79, k0_pay80, k0_pay81, k0_pay146]
        simp only [ld4, hw01, hw11, hw21, hw31, off73_0, off73_1, off79_0, off79_1, off74_0_1, off74_0_2, off74_0_3, off74_1_1, off74_1_2, off74_1_3, off80_0_1, off80_0_2, off80_0_3, off80_1_1, off80_1_2, off80_1_3, off75_0, off75_1, off76_0, off76_1, off77_0, off77_1]
        rw [et, DXV, e1, e2, e3]
        simp only [mul_msk]
        simp [msk, cA, cB, cC, cD, Nat.add_assoc]
  · rw [if_neg hA, if_neg (by omega), if_neg (by omega)]

/-- The block before trip `n`. -/
theorem pb5_dx (f : BufTy.Contents (Elt Ideal) arg9.view.ty) (n : ℕ) (hn : n ≤ 16) (b' t ch : ℕ) :
    rd3 (arg9.view.read (Elt Ideal) (arg9.view.writes (Elt Ideal) f (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 b arg20 v172 X12 X16 n))) b' t ch
      = if b' = b.val ∧ t < 16 * n ∧ ch < 256 then
          DXV wv (rd4 (arg16.view.read (Elt Ideal) X16)) (rd4 (arg12.view.read (Elt Ideal) X12)) (b.val % 2) b.val (ch / 128) t (ch % 128)
        else rd3 (arg9.view.read (Elt Ideal) f) b' t ch := by
  induction n with
  | zero => rw [if_neg (by omega)]; rfl
  | succ n ih =>
    have hr : n < k0_t5_loop.trips := by rw [trips_t5]; omega
    rw [show n + 1 = (⟨n, hr⟩ : Fin k0_t5_loop.trips).val + 1 from rfl, pb_k0_t5_succ]
    refine (t5_dx (wv := wv) (hw00 := hw00) (hw01 := hw01) (hw10 := hw10) (hw11 := hw11) (hw20 := hw20) (hw21 := hw21) (hw30 := hw30) (hw31 := hw31) ..).trans ?_
    rw [ih (by omega)]
    dsimp only
    by_cases h1 : b' = b.val ∧ (16 * n ≤ t ∧ t < 16 * n + 16) ∧ ch < 256
    · rw [if_pos h1, if_pos (by omega)]
    · rw [if_neg h1]
      by_cases h2 : b' = b.val ∧ t < 16 * n ∧ ch < 256
      · rw [if_pos h2, if_pos (by omega)]
      · rw [if_neg h2, if_neg (by omega)]
end
end Cert.KernelIdeal.Hand
-- ==== Proof.IdealSt3.lean ====
/-
  What the batch loop leaves: its invariant, trip by trip, from the arrays its operands hold.
-/
module

public import proofs.«01_k».proof.Proof.IdealT3
public import proofs.«01_k».proof.Proof.IdealT4
public import proofs.«01_k».proof.Proof.IdealT5

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

/-- What one grid point computes from: scales, codes, masks, half the weights, the weights, the bias, and the place of
    the point's channels in a scale row. -/
structure In where of ::
  sc : ℕ → ℕ → ℕ → EReal
  x : ℕ → ℕ → ℕ → EReal
  scy : ℕ → ℕ → ℕ → EReal
  y : ℕ → ℕ → ℕ → EReal
  mk : ℕ → ℕ → ℕ → ℕ → BitVec 32
  wh : ℕ → ℕ → EReal
  wv : ℕ → ℕ → EReal
  bias : ℕ → ℕ → EReal
  q : ℕ

/-- The dequantized input rows, eight rows of zero before the first. -/
def In.XR (I : In) (b p g r l : ℕ) : EReal := if r < 8 then 0 else XB I.sc I.x I.q b g (r - 8) l

/-- The gradient at the convolution's output. -/
def In.dz (I : In) (b g t l : ℕ) : EReal :=
  dzv (ZV (I.XR b) I.mk I.wh b 0 g t l) (I.bias 0 (g * 128 + l) * half) (YB I.scy I.y I.q b g t l)

/-- The same, rows of zero after the last. -/
def In.DR (I : In) (b p g t l : ℕ) : EReal := if t < 256 then I.dz b g t l else 0

/-- The gradient of the input. -/
def In.dx (I : In) (b t ch : ℕ) : EReal := DXV I.wv (I.DR b) I.mk 0 b (ch / 128) t (ch % 128)

/-- The term of row `t` in the gradient of tap `k`. -/
def In.dw (I : In) (k b g t l : ℕ) : EReal := I.dz b g t l * VW (I.XR b) I.mk b 0 g t l (3 - k)

theorem VW_congr {x x' : ℕ → ℕ → ℕ → ℕ → EReal} {mk : ℕ → ℕ → ℕ → ℕ → BitVec 32} {b p p' g t l s : ℕ}
    (h : ∀ r, r < 264 → x p g r l = x' p' g r l) (ht : t < 256) : VW x mk b p g t l s = VW x' mk b p' g t l s := by
  unfold VW
  rw [h _ (by omega), h _ (by omega)]

theorem ZV_congr {x x' : ℕ → ℕ → ℕ → ℕ → EReal} {mk : ℕ → ℕ → ℕ → ℕ → BitVec 32} {wh : ℕ → ℕ → EReal} {b p p' g t l : ℕ}
    (h : ∀ r, r < 264 → x p g r l = x' p' g r l) (ht : t < 256) : ZV x mk wh b p g t l = ZV x' mk wh b p' g t l := by
  unfold ZV
  rw [VW_congr h ht, VW_congr h ht, VW_congr h ht, VW_congr h ht]

theorem DXV_congr {wv : ℕ → ℕ → EReal} {d d' : ℕ → ℕ → ℕ → ℕ → EReal} {mk : ℕ → ℕ → ℕ → ℕ → BitVec 32} {p p' b g t l : ℕ}
    (h : ∀ r, r < 264 → d p g r l = d' p' g r l) (ht : t < 256) : DXV wv d mk p b g t l = DXV wv d' mk p' b g t l := by
  unfold DXV
  rw [h _ (by omega), h _ (by omega), h _ (by omega), h _ (by omega)]

/-- What holds of the loop's state before trip `n`. -/
structure Inv3 (I : In) (arg9 : Memref sig .tc .vmem S6x256x256 .bf16) (arg15 : Memref sig .tc .vmem S2x2x272x128 .f32) (arg16 : Memref sig .tc .vmem S2x2x264x128 .f32) (arg17 : Memref sig .tc .vmem S2x2x256x128 .f32) (arg19 : Memref sig .tc .vmem S2x2x256x128 .f32) (s0 s : St3 (F := Ideal) arg9 arg15 arg16 arg17 arg19) (n : ℕ) : Prop where
  x0 : ∀ p g r l, r < 8 → rd4 (arg15.view.read (Elt Ideal) s.1) p g r l = rd4 (arg15.view.read (Elt Ideal) s0.1) p g r l
  d0 : ∀ p g t l, 256 ≤ t → rd4 (arg16.view.read (Elt Ideal) s.2.1) p g t l = rd4 (arg16.view.read (Elt Ideal) s0.2.1) p g t l
  dx : ∀ b t ch, rd3 (arg9.view.read (Elt Ideal) s.2.2.2.2.1) b t ch
    = if b < n ∧ t < 256 ∧ ch < 256 then I.dx b t ch else rd3 (arg9.view.read (Elt Ideal) s0.2.2.2.2.1) b t ch
  w : ∀ k g, k < 4 → g < 2 → ∀ (u : Fin 8) (l : Fin 128), accw s.2.2.2.2.2 k g (ix2 u l)
    = accw s0.2.2.2.2.2 k g (ix2 u l) + ∑ b ∈ Finset.range n, ∑ r ∈ Finset.range 32, I.dw k b g (8 * r + u.val) l.val
  b : ∀ g, g < 2 → ∀ (u : Fin 8) (l : Fin 128), accb s.2.2.2.2.2 g (ix2 u l)
    = accb s0.2.2.2.2.2 g (ix2 u l) + ∑ b ∈ Finset.range n, ∑ r ∈ Finset.range 32, I.dz b g (8 * r + u.val) l.val

section
variable (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (arg1 : BitVec 32) (v14 : FVec Ideal S128x128 .bf16) (v19 : FVec Ideal S1x256 .f32) (v98 : FVec Ideal S8x128 .f32) (v101 : FVec Ideal S8x128 .f32) (v104 : FVec Ideal S8x128 .f32) (v107 : FVec Ideal S8x128 .f32) (v110 : FVec Ideal S8x128 .f32) (v113 : FVec Ideal S8x128 .f32) (v116 : FVec Ideal S8x128 .f32) (v119 : FVec Ideal S8x128 .f32) (X2 : BufTy.Contents (Elt Ideal) arg2.view.ty) (X4 : BufTy.Contents (Elt Ideal) arg4.view.ty) (X12 : BufTy.Contents (Elt Ideal) arg12.view.ty) (X13 : BufTy.Contents (Elt Ideal) arg13.view.ty) (X14 : BufTy.Contents (Elt Ideal) arg14.view.ty) (X18 : BufTy.Contents (Elt Ideal) arg18.view.ty) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f9 : BufTy.Contents (Elt Ideal) arg9.view.ty) (b : Fin k0_t3_loop.trips) (acc : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)

theorem t3_dz (p g t l : ℕ) :
    rd4 (arg16.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.1) p g t l
      = if p = b.val % 2 ∧ g < 2 ∧ t < 256 ∧ l < 128 then DZ (rd4 (arg19.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.1)) (rd4 (arg17.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.1)) (rd2 v19) (b.val % 2) g t l
        else rd4 (arg16.view.read (Elt Ideal) f16) p g t l := by
  unfold trip3
  dsimp only
  exact (st4_dz (hn := le_of_eq trips_t4) ..).trans (if_congr (by rw [show k0_t4_loop.trips = 32 from trips_t4]) rfl rfl)

theorem t3_w (k g : ℕ) (hk : k < 4) (hg : g < 2) (s : Fin 8) (l : Fin 128) :
    accw (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.2.2.1 k g (ix2 s l)
      = accw acc k g (ix2 s l) + ∑ r ∈ Finset.range 32, DZ (rd4 (arg19.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.1)) (rd4 (arg17.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.1)) (rd2 v19) (b.val % 2) g (8 * r + s.val) l.val * VW (rd4 (arg15.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).1)) (rd4 (arg12.view.read (Elt Ideal) X12)) b.val (b.val % 2) g (8 * r + s.val) l.val (3 - k) := by
  unfold trip3
  dsimp only
  exact (st4_w (hn := le_of_eq trips_t4) (hk := hk) (hg := hg) ..).trans (by rw [show k0_t4_loop.trips = 32 from trips_t4])

theorem t3_b (g : ℕ) (hg : g < 2) (s : Fin 8) (l : Fin 128) :
    accb (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.2.2.1 g (ix2 s l)
      = accb acc g (ix2 s l) + ∑ r ∈ Finset.range 32, DZ (rd4 (arg19.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.1)) (rd4 (arg17.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.1)) (rd2 v19) (b.val % 2) g (8 * r + s.val) l.val := by
  unfold trip3
  dsimp only
  exact (st4_b (hn := le_of_eq trips_t4) (hg := hg) ..).trans (by rw [show k0_t4_loop.trips = 32 from trips_t4])

theorem t3_dx (I : In) (hw00 : ∀ (s : Fin 8) (l : Fin 128), v98 (ix2 s l) = I.wv 0 (0 * 128 + l.val)) (hw01 : ∀ (s : Fin 8) (l : Fin 128), v101 (ix2 s l) = I.wv 0 (1 * 128 + l.val)) (hw10 : ∀ (s : Fin 8) (l : Fin 128), v104 (ix2 s l) = I.wv 1 (0 * 128 + l.val)) (hw11 : ∀ (s : Fin 8) (l : Fin 128), v107 (ix2 s l) = I.wv 1 (1 * 128 + l.val)) (hw20 : ∀ (s : Fin 8) (l : Fin 128), v110 (ix2 s l) = I.wv 2 (0 * 128 + l.val)) (hw21 : ∀ (s : Fin 8) (l : Fin 128), v113 (ix2 s l) = I.wv 2 (1 * 128 + l.val)) (hw30 : ∀ (s : Fin 8) (l : Fin 128), v116 (ix2 s l) = I.wv 3 (0 * 128 + l.val)) (hw31 : ∀ (s : Fin 8) (l : Fin 128), v119 (ix2 s l) = I.wv 3 (1 * 128 + l.val)) (b' t ch : ℕ) :
    rd3 (arg9.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.2.2.2.1) b' t ch
      = if b' = b.val ∧ t < 256 ∧ ch < 256 then
          DXV I.wv (rd4 (arg16.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 b f15 f16 f17 f19 f9 acc).2.1)) (rd4 (arg12.view.read (Elt Ideal) X12)) (b.val % 2) b.val (ch / 128) t (ch % 128)
        else rd3 (arg9.view.read (Elt Ideal) f9) b' t ch := by
  unfold trip3
  dsimp only
  exact (pb5_dx (hn := le_of_eq trips_t5) (wv := I.wv) (hw00 := hw00) (hw01 := hw01) (hw10 := hw10) (hw11 := hw11) (hw20 := hw20) (hw21 := hw21) (hw30 := hw30) (hw31 := hw31) ..).trans (if_congr (by rw [show k0_t5_loop.trips = 16 from trips_t5]) rfl rfl)

theorem st3_inv (I : In) (hE : ∀ a c : Fin 128, v14 (ix2 a c) = if a = c then (1 : EReal) else 0)
  (hD : ∀ k a c, k < 4 → a < 256 → c < 256 → rd3 (arg18.view.read (Elt Ideal) X18) k a c = if a = c then I.wh k c else 0)
  (hsc : rd3 (arg13.view.read (Elt Ideal) X13) = I.sc) (hx : rd3 (arg2.view.read (Elt Ideal) X2) = I.x)
  (hscy : rd3 (arg14.view.read (Elt Ideal) X14) = I.scy) (hy : rd3 (arg4.view.read (Elt Ideal) X4) = I.y)
  (hmk : rd4 (arg12.view.read (Elt Ideal) X12) = I.mk) (hbias : rd2 v19 = I.bias) (hq : (i 1).val = I.q)
  (hw00 : ∀ (s : Fin 8) (l : Fin 128), v98 (ix2 s l) = I.wv 0 (0 * 128 + l.val)) (hw01 : ∀ (s : Fin 8) (l : Fin 128), v101 (ix2 s l) = I.wv 0 (1 * 128 + l.val)) (hw10 : ∀ (s : Fin 8) (l : Fin 128), v104 (ix2 s l) = I.wv 1 (0 * 128 + l.val)) (hw11 : ∀ (s : Fin 8) (l : Fin 128), v107 (ix2 s l) = I.wv 1 (1 * 128 + l.val)) (hw20 : ∀ (s : Fin 8) (l : Fin 128), v110 (ix2 s l) = I.wv 2 (0 * 128 + l.val)) (hw21 : ∀ (s : Fin 8) (l : Fin 128), v113 (ix2 s l) = I.wv 2 (1 * 128 + l.val)) (hw30 : ∀ (s : Fin 8) (l : Fin 128), v116 (ix2 s l) = I.wv 3 (0 * 128 + l.val)) (hw31 : ∀ (s : Fin 8) (l : Fin 128), v119 (ix2 s l) = I.wv 3 (1 * 128 + l.val))
    (s0 : St3 (F := Ideal) arg9 arg15 arg16 arg17 arg19)
    (hx0 : ∀ p g r l, p < 2 → g < 2 → r < 8 → l < 128 → rd4 (arg15.view.read (Elt Ideal) s0.1) p g r l = 0)
    (hd0 : ∀ p g t l, p < 2 → g < 2 → 256 ≤ t → t < 264 → l < 128 → rd4 (arg16.view.read (Elt Ideal) s0.2.1) p g t l = 0)
    (n : ℕ) (hn : n ≤ 6) : Inv3 I arg9 arg15 arg16 arg17 arg19 s0 (st3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 n) n := by
  induction n with
  | zero =>
    refine ⟨fun _ _ _ _ _ => rfl, fun _ _ _ _ _ => rfl, fun b t ch => by rw [if_neg (by omega)]; rfl, fun k g _ _ u l => ?_, fun g _ u l => ?_⟩
    · rw [Finset.sum_range_zero, add_zero]; rfl
    · rw [Finset.sum_range_zero, add_zero]; rfl
  | succ n ih =>
    have ih := ih (by omega)
    rw [st3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 ⟨n, by rw [trips_t3]; omega⟩]
    dsimp only
    generalize st3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 s0 n = s at ih ⊢
    obtain ⟨ix0, id0, idx, iw, ib⟩ := ih
    have hq' : ((i 1) : ℕ) = I.q := hq
    have HX : ∀ g r l, g < 2 → r < 264 → l < 128 → rd4 (arg15.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨n, by rw [trips_t3]; omega⟩ s.1 s.2.1 s.2.2.1 s.2.2.2.1 s.2.2.2.2.1 s.2.2.2.2.2).1) (n % 2) g r l = I.XR n 0 g r l := by
      intro g r l hg hr hl
      rw [t3_x1 (hE := hE), hsc, hx, hq]
      unfold In.XR
      by_cases h8 : r < 8
      · rw [if_neg (by omega), if_pos h8, ix0 _ _ _ _ h8]
        exact hx0 _ _ _ _ (by omega) hg h8 hl
      · rw [if_pos ⟨rfl, hg, ⟨by omega, hr⟩, hl⟩, if_neg h8]
    have HX' : ∀ g r l, g < 2 → r < 264 → l < 128 → rd4 (arg15.view.read (Elt Ideal) (arg15.view.writes (Elt Ideal) s.1 (trip3.sl.HW15_4 i arg2 arg13 v14 X2 X13 ⟨n, by rw [trips_t3]; omega⟩))) (n % 2) g r l = I.XR n 0 g r l := by
      intro g r l hg hr hl
      rw [t3_x (hE := hE), hsc, hx, hq]
      unfold In.XR
      by_cases h8 : r < 8
      · rw [if_neg (by omega), if_pos h8, ix0 _ _ _ _ h8]
        exact hx0 _ _ _ _ (by omega) hg h8 hl
      · rw [if_pos ⟨rfl, hg, ⟨by omega, hr⟩, hl⟩, if_neg h8]
    have HZ : ∀ g t l, g < 2 → t < 256 → l < 128 → DZ (rd4 (arg19.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨n, by rw [trips_t3]; omega⟩ s.1 s.2.1 s.2.2.1 s.2.2.2.1 s.2.2.2.2.1 s.2.2.2.2.2).2.2.2.1)) (rd4 (arg17.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨n, by rw [trips_t3]; omega⟩ s.1 s.2.1 s.2.2.1 s.2.2.2.1 s.2.2.2.2.1 s.2.2.2.2.2).2.2.1)) (rd2 v19) (n % 2) g t l = I.dz n g t l := by
      intro g t l hg ht hl
      unfold DZ In.dz
      rw [t3_y (hE := hE), t3_z (hE := hE) (wh := I.wh) (hD := hD), if_pos ⟨rfl, hg, ht, hl⟩, if_pos ⟨rfl, hg, ht, hl⟩, hscy, hy, hmk, hbias, hq]
      rw [ZV_congr (fun r hr => HX' g r l hg hr hl) ht]
    have HR : ∀ g t l, g < 2 → t < 264 → l < 128 → rd4 (arg16.view.read (Elt Ideal) (trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v14 v19 v98 v101 v104 v107 v110 v113 v116 v119 X2 X4 X12 X13 X14 X18 ⟨n, by rw [trips_t3]; omega⟩ s.1 s.2.1 s.2.2.1 s.2.2.2.1 s.2.2.2.2.1 s.2.2.2.2.2).2.1) (n % 2) g t l = I.DR n 0 g t l := by
      intro g t l hg ht hl
      rw [t3_dz]
      unfold In.DR
      by_cases h : t < 256
      · rw [if_pos ⟨rfl, hg, h, hl⟩, if_pos h]
        exact HZ g t l hg h hl
      · rw [if_neg (by omega), if_neg h, id0 _ _ _ _ (by omega)]
        exact hd0 _ _ _ _ (by omega) hg (by omega) ht hl
    refine ⟨?_, ?_, ?_, ?_, ?_⟩
    · intro p g r l hr
      dsimp only
      rw [t3_x1 (hE := hE), if_neg (by omega)]
      exact ix0 p g r l hr
    · intro p g t l ht
      dsimp only
      rw [t3_dz, if_neg (by omega)]
      exact id0 p g t l ht
    · intro b t ch
      dsimp only
      rw [t3_dx (I := I) (hw00 := hw00) (hw01 := hw01) (hw10 := hw10) (hw11 := hw11) (hw20 := hw20) (hw21 := hw21) (hw30 := hw30) (hw31 := hw31), hmk]
      by_cases h : b = n ∧ t < 256 ∧ ch < 256
      · obtain ⟨rfl, ht, hc⟩ := h
        rw [if_pos ⟨rfl, ht, hc⟩, if_pos ⟨by omega, ht, hc⟩]
        unfold In.dx
        exact DXV_congr (fun r hr => HR _ r _ (by omega) hr (by omega)) ht
      · rw [if_neg h, idx]
        exact if_congr (by omega) rfl rfl
    · intro k g hk hg u l
      dsimp only
      rw [t3_w (hk := hk) (hg := hg), iw k g hk hg u l, Finset.sum_range_succ _ n, ← add_assoc]
      congr 1
      refine Finset.sum_congr rfl fun r hr => ?_
      have hr := Finset.mem_range.1 hr
      dsimp only
      rw [HZ g _ _ hg (by omega) l.isLt, hmk, VW_congr (fun r hr => HX g r _ hg hr l.isLt) (by omega)]
      rfl
    · intro g hg u l
      dsimp only
      rw [t3_b (hg := hg), ib g hg u l, Finset.sum_range_succ _ n, ← add_assoc]
      congr 1
      refine Finset.sum_congr rfl fun r hr => ?_
      have hr := Finset.mem_range.1 hr
      dsimp only
      rw [HZ g _ _ hg (by omega) l.isLt]
end
end Cert.KernelIdeal.Hand
-- ==== Proof.IdealPieces.lean ====
/-
  The weights a grid point works with, and the column sums of its running sums.
-/
module

public import proofs.«01_k».proof.Proof.IdealSt3

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

theorem one_bits : Ideal.ofBits .f32 1065353216#32 = 1 := by
  norm_num [Ideal.ofBits, Ideal.ieee, show (1065353216 >>> 23 : ℕ) = 127 from rfl, show BitVec.extractLsb' 31 1 1065353216#32 = 0#1 from rfl]

theorem half_eq : half = ((1 / 2 : ℝ) : EReal) := by
  norm_num [half, Ideal.ofBits, Ideal.ieee, show (1056964608 >>> 23 : ℕ) = 126 from rfl, show BitVec.extractLsb' 31 1 1056964608#32 = 0#1 from rfl]

theorem eye_val (a c : Fin 128) : k0_pay108 (F := Ideal) (ix2 a c) = if a = c then (1 : EReal) else 0 := by
  have hz : Ideal.ofBits .f32 0#32 = 0 := Ideal.ofBits_zero .f32
  have ho : Ideal.ofBits .f32 1065353216#32 = 1 := one_bits
  pointwise [k0_pay108]
  by_cases h : a = c
  · subst h
    simp [Scalar.select, IntOp.cmpi, ho, hz]
  · have h' : ¬ (BitVec.ofNat 32 a.val = BitVec.ofNat 32 c.val) := by
      intro e
      have e := congrArg BitVec.toNat e
      simp only [BitVec.toNat_ofNat] at e
      exact h (Fin.ext (by omega))
    simp [Scalar.select, IntOp.cmpi, ho, hz, h, beq_eq_false_iff_ne.2 h']

theorem wv_00 (v : FVec Ideal S4x256 .f32) (s : Fin 8) (l : Fin 128) : k0_pay122 v (ix2 s l) = rd2 v 0 (0 * 128 + l.val) := by
  pointwise [k0_pay122]
  simp only [at2]
  first | rfl | (simp; done) | (congr 1 <;> simp <;> omega)

theorem wv_01 (v : FVec Ideal S4x256 .f32) (s : Fin 8) (l : Fin 128) : k0_pay123 v (ix2 s l) = rd2 v 0 (1 * 128 + l.val) := by
  pointwise [k0_pay123]
  simp only [at2]
  first | rfl | (simp; done) | (congr 1 <;> simp <;> omega)

theorem wv_10 (v : FVec Ideal S4x256 .f32) (s : Fin 8) (l : Fin 128) : k0_pay124 v (ix2 s l) = rd2 v 1 (0 * 128 + l.val) := by
  pointwise [k0_pay124]
  simp only [at2]
  first | rfl | (simp; done) | (congr 1 <;> simp <;> omega)

theorem wv_11 (v : FVec Ideal S4x256 .f32) (s : Fin 8) (l : Fin 128) : k0_pay125 v (ix2 s l) = rd2 v 1 (1 * 128 + l.val) := by
  pointwise [k0_pay125]
  simp only [at2]
  first | rfl | (simp; done) | (congr 1 <;> simp <;> omega)

theorem wv_20 (v : FVec Ideal S4x256 .f32) (s : Fin 8) (l : Fin 128) : k0_pay126 v (ix2 s l) = rd2 v 2 (0 * 128 + l.val) := by
  pointwise [k0_pay126]
  simp only [at2]
  first | rfl | (simp; done) | (congr 1 <;> simp <;> omega)

theorem wv_21 (v : FVec Ideal S4x256 .f32) (s : Fin 8) (l : Fin 128) : k0_pay127 v (ix2 s l) = rd2 v 2 (1 * 128 + l.val) := by
  pointwise [k0_pay127]
  simp only [at2]
  first | rfl | (simp; done) | (congr 1 <;> simp <;> omega)

theorem wv_30 (v : FVec Ideal S4x256 .f32) (s : Fin 8) (l : Fin 128) : k0_pay128 v (ix2 s l) = rd2 v 3 (0 * 128 + l.val) := by
  pointwise [k0_pay128]
  simp only [at2]
  first | rfl | (simp; done) | (congr 1 <;> simp <;> omega)

theorem wv_31 (v : FVec Ideal S4x256 .f32) (s : Fin 8) (l : Fin 128) : k0_pay129 v (ix2 s l) = rd2 v 3 (1 * 128 + l.val) := by
  pointwise [k0_pay129]
  simp only [at2]
  first | rfl | (simp; done) | (congr 1 <;> simp <;> omega)

theorem rowsum_147 (v : FVec Ideal S8x128 .f32) (s : Fin 1) (l : Fin 128) : k0_pay147 v (ix2 s l) = ∑ u : Fin 8, v (ix2 u l) := by
  pointwise [k0_pay147]
  done

theorem rowsum_148 (v : FVec Ideal S8x128 .f32) (s : Fin 1) (l : Fin 128) : k0_pay148 v (ix2 s l) = ∑ u : Fin 8, v (ix2 u l) := by
  pointwise [k0_pay148]
  done

theorem rowsum_149 (v : FVec Ideal S8x128 .f32) (s : Fin 1) (l : Fin 128) : k0_pay149 v (ix2 s l) = ∑ u : Fin 8, v (ix2 u l) := by
  pointwise [k0_pay149]
  done

theorem rowsum_1 (v : FVec Ideal S8x128 .f32) (s : Fin 1) (l : Fin 128) : k0_pay1 v (ix2 s l) = ∑ u : Fin 8, v (ix2 u l) := by
  pointwise [k0_pay1]
  done

theorem rowsum_2 (v : FVec Ideal S8x128 .f32) (s : Fin 1) (l : Fin 128) : k0_pay2 v (ix2 s l) = ∑ u : Fin 8, v (ix2 u l) := by
  pointwise [k0_pay2]
  done

theorem rowsum_3 (v : FVec Ideal S8x128 .f32) (s : Fin 1) (l : Fin 128) : k0_pay3 v (ix2 s l) = ∑ u : Fin 8, v (ix2 u l) := by
  pointwise [k0_pay3]
  done

theorem rowsum_4 (v : FVec Ideal S8x128 .f32) (s : Fin 1) (l : Fin 128) : k0_pay4 v (ix2 s l) = ∑ u : Fin 8, v (ix2 u l) := by
  pointwise [k0_pay4]
  done

theorem rowsum_5 (v : FVec Ideal S8x128 .f32) (s : Fin 1) (l : Fin 128) : k0_pay5 v (ix2 s l) = ∑ u : Fin 8, v (ix2 u l) := by
  pointwise [k0_pay5]
  done

theorem rowsum_6 (v : FVec Ideal S8x128 .f32) (s : Fin 1) (l : Fin 128) : k0_pay6 v (ix2 s l) = ∑ u : Fin 8, v (ix2 u l) := by
  pointwise [k0_pay6]
  done

theorem rowsum_7 (v : FVec Ideal S8x128 .f32) (s : Fin 1) (l : Fin 128) : k0_pay7 v (ix2 s l) = ∑ u : Fin 8, v (ix2 u l) := by
  pointwise [k0_pay7]
  done

theorem acc0_132 (s : Fin 8) (l : Fin 128) : k0_pay132 (F := Ideal) (ix2 s l) = 0 := by
  pointwise [k0_pay132]
  try exact Ideal.ofBits_zero .f32

theorem acc0_133 (s : Fin 8) (l : Fin 128) : k0_pay133 (F := Ideal) (ix2 s l) = 0 := by
  pointwise [k0_pay133]
  try exact Ideal.ofBits_zero .f32

theorem acc0_134 (s : Fin 8) (l : Fin 128) : k0_pay134 (F := Ideal) (ix2 s l) = 0 := by
  pointwise [k0_pay134]
  try exact Ideal.ofBits_zero .f32

theorem acc0_135 (s : Fin 8) (l : Fin 128) : k0_pay135 (F := Ideal) (ix2 s l) = 0 := by
  pointwise [k0_pay135]
  try exact Ideal.ofBits_zero .f32

theorem acc0_136 (s : Fin 8) (l : Fin 128) : k0_pay136 (F := Ideal) (ix2 s l) = 0 := by
  pointwise [k0_pay136]
  try exact Ideal.ofBits_zero .f32

theorem acc0_137 (s : Fin 8) (l : Fin 128) : k0_pay137 (F := Ideal) (ix2 s l) = 0 := by
  pointwise [k0_pay137]
  try exact Ideal.ofBits_zero .f32

theorem acc0_138 (s : Fin 8) (l : Fin 128) : k0_pay138 (F := Ideal) (ix2 s l) = 0 := by
  pointwise [k0_pay138]
  try exact Ideal.ofBits_zero .f32

theorem acc0_139 (s : Fin 8) (l : Fin 128) : k0_pay139 (F := Ideal) (ix2 s l) = 0 := by
  pointwise [k0_pay139]
  try exact Ideal.ofBits_zero .f32

theorem acc0_140 (s : Fin 8) (l : Fin 128) : k0_pay140 (F := Ideal) (ix2 s l) = 0 := by
  pointwise [k0_pay140]
  try exact Ideal.ofBits_zero .f32

theorem acc0_141 (s : Fin 8) (l : Fin 128) : k0_pay141 (F := Ideal) (ix2 s l) = 0 := by
  pointwise [k0_pay141]
  try exact Ideal.ofBits_zero .f32

theorem eye_rd (a c : ℕ) (ha : a < 128) (hc : c < 128) : rd2 (k0_pay108 (F := Ideal)) a c = if a = c then (1 : EReal) else 0 := by
  refine (at2 (k0_pay108 (F := Ideal)) ⟨a, ha⟩ ⟨c, hc⟩).symm.trans ((eye_val _ _).trans ?_)
  simp only [Fin.mk.injEq]

section
variable (arg18 : Memref sig .tc .vmem S4x256x256 .bf16) (v15 : Vec Ideal S4x256 .bf16)

/-- The pieces written into the diagonal matrices. -/
def diagL : List (View.Piece (Elt Ideal) S4x256x256 .bf16) :=
  [⟨Rect.unit ![3, 128, 128] S1x128x128.size inb_S4x256x256_S1x128x128_3_128_128, k0_pay121 k0_pay108 (k0_pay109 v15)⟩,
    ⟨Rect.unit ![3, 0, 0] S1x128x128.size inb_S4x256x256_S1x128x128_3_0_0, k0_pay120 k0_pay108 (k0_pay109 v15)⟩,
    ⟨Rect.unit ![2, 128, 128] S1x128x128.size inb_S4x256x256_S1x128x128_2_128_128, k0_pay119 k0_pay108 (k0_pay118 (k0_pay109 v15))⟩,
    ⟨Rect.unit ![2, 0, 0] S1x128x128.size inb_S4x256x256_S1x128x128_2_0_0, k0_pay117 k0_pay108 (k0_pay109 v15)⟩,
    ⟨Rect.unit ![1, 128, 128] S1x128x128.size inb_S4x256x256_S1x128x128_1_128_128, k0_pay116 k0_pay108 (k0_pay109 v15)⟩,
    ⟨Rect.unit ![1, 0, 0] S1x128x128.size inb_S4x256x256_S1x128x128_1_0_0, k0_pay115 k0_pay108 (k0_pay109 v15)⟩,
    ⟨Rect.unit ![0, 128, 128] S1x128x128.size inb_S4x256x256_S1x128x128_0_128_128, k0_pay114 k0_pay108 (k0_pay113 v15) (Scalar.ofBits .f32 0x3F000000#32)⟩,
    ⟨Rect.unit ![0, 0, 0] S1x128x128.size inb_S4x256x256_S1x128x128_0_0_0, k0_pay112 v15⟩,
    ⟨Rect.unit ![0, 0, 0] S4x256x256.size inb_S4x256x256_S4x256x256_0_0_0, k0_pay111 (F := Ideal)⟩]

theorem diag_val (k a c : ℕ) (hk : k < 4) (ha : a < 256) (hc : c < 256) :
    rd3 (arg18.view.read (Elt Ideal) (arg18.view.writes (Elt Ideal) arg18.view.junk (diagL v15))) k a c
      = if a = c then rd2 v15 k c * half else 0 := by
  have hb : ∀ (w : (⟨3, ![1, 128, 128]⟩ : Shape).Idx → EReal) (a t l : ℕ) (ha : a = 0) (h : t < 128) (hl : l < 128),
      rd3 w a t l = w (ix3 0 ⟨t, h⟩ ⟨l, hl⟩) := fun w a t l ha h hl => by subst ha; exact (at3' w (0 : Fin 1) ⟨t, h⟩ ⟨l, hl⟩).symm
  have hb0 : ∀ (w : (⟨3, ![4, 256, 256]⟩ : Shape).Idx → EReal) (a t l : ℕ) (ha : a < 4) (h : t < 256) (hl : l < 256),
      rd3 w a t l = w (ix3 ⟨a, ha⟩ ⟨t, h⟩ ⟨l, hl⟩) := fun w a t l ha h hl => (at3' w ⟨a, ha⟩ ⟨t, h⟩ ⟨l, hl⟩).symm
  generalize hR : (if a = c then rd2 v15 k c * half else 0) = R
  unfold diagL
  erw [wr3, wr3, wr3, wr3, wr3, wr3, wr3, wr3, wr3]
  simp only [Matrix.cons_val]
  by_cases h31 : k = 3 ∧ (128 ≤ a ∧ a < 256) ∧ (128 ≤ c ∧ c < 256)
  · refine (if_pos (by omega)).trans ?_
    obtain ⟨rfl, ha1, hc1⟩ := h31
    refine (hb _ _ _ _ (by omega) (by omega) (by omega)).trans ?_
    subst hR
    have e : 128 + (c - 128) = c := by omega
    pointwise [k0_pay121, k0_pay109, k0_pay118]
    simp only [at2]
    by_cases h : a = c
    · subst h; simp [half, e, eye_rd _ _ (show a - 128 < 128 by omega) (show a - 128 < 128 by omega)]
    · simp [h, half, eye_rd _ _ (show a - 128 < 128 by omega) (show c - 128 < 128 by omega), show ¬ (a - 128 = c - 128) by omega]
  by_cases h30 : k = 3 ∧ (0 ≤ a ∧ a < 128) ∧ (0 ≤ c ∧ c < 128)
  · refine (if_neg (by omega)).trans ?_; refine (if_pos (by omega)).trans ?_
    obtain ⟨rfl, ha1, hc1⟩ := h30
    refine (hb _ _ _ _ (by omega) (by omega) (by omega)).trans ?_
    subst hR
    have e : 0 + (c - 0) = c := by omega
    pointwise [k0_pay120, k0_pay109, k0_pay118]
    simp only [at2]
    by_cases h : a = c
    · subst h; simp [half, e, eye_rd _ _ (show a < 128 by omega) (show a < 128 by omega)]
    · simp [h, half, eye_rd _ _ (show a < 128 by omega) (show c < 128 by omega), show ¬ (a = c) by omega]
  by_cases h21 : k = 2 ∧ (128 ≤ a ∧ a < 256) ∧ (128 ≤ c ∧ c < 256)
  · refine (if_neg (by omega)).trans ?_; refine (if_neg (by omega)).trans ?_; refine (if_pos (by omega)).trans ?_
    obtain ⟨rfl, ha1, hc1⟩ := h21
    refine (hb _ _ _ _ (by omega) (by omega) (by omega)).trans ?_
    subst hR
    have e : 128 + (c - 128) = c := by omega
    pointwise [k0_pay119, k0_pay109, k0_pay118]
    simp only [at2]
    by_cases h : a = c
    · subst h; simp [half, e, eye_rd _ _ (show a - 128 < 128 by omega) (show a - 128 < 128 by omega)]
    · simp [h, half, eye_rd _ _ (show a - 128 < 128 by omega) (show c - 128 < 128 by omega), show ¬ (a - 128 = c - 128) by omega]
  by_cases h20 : k = 2 ∧ (0 ≤ a ∧ a < 128) ∧ (0 ≤ c ∧ c < 128)
  · refine (if_neg (by omega)).trans ?_; refine (if_neg (by omega)).trans ?_; refine (if_neg (by omega)).trans ?_; refine (if_pos (by omega)).trans ?_
    obtain ⟨rfl, ha1, hc1⟩ := h20
    refine (hb _ _ _ _ (by omega) (by omega) (by omega)).trans ?_
    subst hR
    have e : 0 + (c - 0) = c := by omega
    pointwise [k0_pay117, k0_pay109, k0_pay118]
    simp only [at2]
    by_cases h : a = c
    · subst h; simp [half, e, eye_rd _ _ (show a < 128 by omega) (show a < 128 by omega)]
    · simp [h, half, eye_rd _ _ (show a < 128 by omega) (show c < 128 by omega), show ¬ (a = c) by omega]
  by_cases h11 : k = 1 ∧ (128 ≤ a ∧ a < 256) ∧ (128 ≤ c ∧ c < 256)
  · refine (if_neg (by omega)).trans ?_; refine (if_neg (by omega)).trans ?_; refine (if_neg (by omega)).trans ?_; refine (if_neg (by omega)).trans ?_; refine (if_pos (by omega)).trans ?_
    obtain ⟨rfl, ha1, hc1⟩ := h11
    refine (hb _ _ _ _ (by omega) (by omega) (by omega)).trans ?_
    subst hR
    have e : 128 + (c - 128) = c := by omega
    pointwise [k0_pay116, k0_pay109, k0_pay118]
    simp only [at2]
    by_cases h : a = c
    · subst h; simp [half, e, eye_rd _ _ (show a - 128 < 128 by omega) (show a - 128 < 128 by omega)]
    · simp [h, half, eye_rd _ _ (show a - 128 < 128 by omega) (show c - 128 < 128 by omega), show ¬ (a - 128 = c - 128) by omega]
  by_cases h10 : k = 1 ∧ (0 ≤ a ∧ a < 128) ∧ (0 ≤ c ∧ c < 128)
  · refine (if_neg (by omega)).trans ?_; refine (if_neg (by omega)).trans ?_; refine (if_neg (by omega)).trans ?_; refine (if_neg (by omega)).trans ?_; refine (if_neg (by omega)).trans ?_; refine (if_pos (by omega)).trans ?_
    obtain ⟨rfl, ha1, hc1⟩ := h10
    refine (hb _ _ _ _ (by omega) (by omega) (by omega)).trans ?_
    subst hR
    have e : 0 + (c - 0) = c := by omega
    pointwise [k0_pay115, k0_pay109, k0_pay118]
    simp only [at2]
    by_cases h : a = c
    · subst h; simp [half, e, eye_rd _ _ (show a < 128 by omega) (show a < 128 by omega)]
    · simp [h, half, eye_rd _ _ (show a < 128 by omega) (show c < 128 by omega), show ¬ (a = c) by omega]
  by_cases h01 : k = 0 ∧ (128 ≤ a ∧ a < 256) ∧ (128 ≤ c ∧ c < 256)
  · refine (if_neg (by omega)).trans ?_; refine (if_neg (by omega)).trans ?_; refine (if_neg (by omega)).trans ?_; refine (if_neg (by omega)).trans ?_; refine (if_neg (by omega)).trans ?_; refine (if_neg (by omega)).trans ?_; refine (if_pos (by omega)).trans ?_
    obtain ⟨rfl, ha1, hc1⟩ := h01
    refine (hb _ _ _ _ (by omega) (by omega) (by omega)).trans ?_
    subst hR
    have e : 128 + (c - 128) = c := by omega
    pointwise [k0_pay114, k0_pay113, k0_pay109]
    simp only [at2]
    by_cases h : a = c
    · subst h; simp [half, e, eye_rd _ _ (show a - 128 < 128 by omega) (show a - 128 < 128 by omega)]
    · simp [h, half, eye_rd _ _ (show a - 128 < 128 by omega) (show c - 128 < 128 by omega), show ¬ (a - 128 = c - 128) by omega]
  by_cases h00 : k = 0 ∧ (0 ≤ a ∧ a < 128) ∧ (0 ≤ c ∧ c < 128)
  · refine (if_neg (by omega)).trans ?_; refine (if_neg (by omega)).trans ?_; refine (if_neg (by omega)).trans ?_; refine (if_neg (by omega)).trans ?_; refine (if_neg (by omega)).trans ?_; refine (if_neg (by omega)).trans ?_; refine (if_neg (by omega)).trans ?_; refine (if_pos (by omega)).trans ?_
    obtain ⟨rfl, ha1, hc1⟩ := h00
    refine (hb _ _ _ _ (by omega) (by omega) (by omega)).trans ?_
    subst hR
    have e : 0 + (c - 0) = c := by omega
    pointwise [k0_pay112, k0_pay109]
    simp only [at2]
    by_cases h : a = c
    · subst h; simp [half, e, eye_rd _ _ (show a < 128 by omega) (show a < 128 by omega)]
    · simp [h, half, eye_rd _ _ (show a < 128 by omega) (show c < 128 by omega), show ¬ (a = c) by omega]
  · refine (if_neg (by omega)).trans ?_; refine (if_neg (by omega)).trans ?_; refine (if_neg (by omega)).trans ?_; refine (if_neg (by omega)).trans ?_; refine (if_neg (by omega)).trans ?_; refine (if_neg (by omega)).trans ?_; refine (if_neg (by omega)).trans ?_; refine (if_neg (by omega)).trans ?_; refine (if_pos (by omega)).trans ?_
    refine (hb0 _ _ _ _ (by omega) (by omega) (by omega)).trans ?_
    subst hR
    rw [if_neg (by omega)]
    pointwise [k0_pay111]
    try exact Ideal.ofBits_zero .bf16
end

end Cert.KernelIdeal.Hand
-- ==== Proof.IdealVal.lean ====
/-
  What a grid point leaves in its three output blocks, from the batch loop's sums and gradients.
-/
module

public import proofs.«01_k».proof.Proof.IdealPieces

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic

/-- What a grid point leaves in its output blocks. -/
structure Out (I : In) (arg9 : Memref sig .tc .vmem S6x256x256 .bf16) (arg10 : Memref sig .tc .vmem S4x256 .f32) (arg11 : Memref sig .tc .vmem S1x256 .f32) (s9 : BufTy.Contents (Elt Ideal) arg9.view.ty) (s10 : BufTy.Contents (Elt Ideal) arg10.view.ty) (s11 : BufTy.Contents (Elt Ideal) arg11.view.ty) : Prop where
  dx : ∀ b t ch, b < 6 → t < 256 → ch < 256 → rd3 (arg9.view.read (Elt Ideal) s9) b t ch = I.dx b t ch
  dw : ∀ k ch, k < 4 → ch < 256 → rd2 (arg10.view.read (Elt Ideal) s10) k ch
    = ∑ u : Fin 8, ∑ b ∈ Finset.range 6, ∑ r ∈ Finset.range 32, I.dw k b (ch / 128) (8 * r + u.val) (ch % 128)
  db : ∀ ch, ch < 256 → rd2 (arg11.view.read (Elt Ideal) s11) 0 ch
    = ∑ u : Fin 8, ∑ b ∈ Finset.range 6, ∑ r ∈ Finset.range 32, I.dz b (ch / 128) (8 * r + u.val) (ch % 128)

theorem rd2_congr {n0 n1 : ℕ} {α : Type} [Inhabited α] {X Y : (⟨2, ![n0, n1]⟩ : Shape).Idx → α} (h : ∀ i j, X (ix2 i j) = Y (ix2 i j)) : rd2 X = rd2 Y := by
  have : X = Y := by
    funext y
    obtain ⟨i, j, rfl⟩ : ∃ (i : Fin n0) (j : Fin n1), y = ix2 i j := ⟨y 0, y 1, by funext a; fin_cases a <;> rfl⟩
    exact h i j
  rw [this]

theorem rd3_congr {n0 n1 n2 : ℕ} {α : Type} [Inhabited α] {X Y : (⟨3, ![n0, n1, n2]⟩ : Shape).Idx → α} (h : ∀ i j k, X (ix3 i j k) = Y (ix3 i j k)) : X = Y := by
  funext y
  obtain ⟨i, j, k, rfl⟩ : ∃ (i : Fin n0) (j : Fin n1) (k : Fin n2), y = ix3 i j k := ⟨y 0, y 1, y 2, by funext a; fin_cases a <;> rfl⟩
  exact h i j k

theorem rd4_congr {n0 n1 n2 n3 : ℕ} {α : Type} [Inhabited α] {X Y : (⟨4, ![n0, n1, n2, n3]⟩ : Shape).Idx → α} (h : ∀ i j k l, X (ix4 i j k l) = Y (ix4 i j k l)) : X = Y := by
  funext y
  obtain ⟨i, j, k, l, rfl⟩ : ∃ (i : Fin n0) (j : Fin n1) (k : Fin n2) (l : Fin n3), y = ix4 i j k l := ⟨y 0, y 1, y 2, y 3, by funext a; fin_cases a <;> rfl⟩
  exact h i j k l

theorem ldw (arg6 : Memref sig .tc .vmem S4x256 .bf16) (X6 : BufTy.Contents (Elt Ideal) arg6.view.ty) :
    rd2 (k0_pay109 (F := Ideal) (View.readAt (Elt Ideal) arg6.view (Rect.unit ![0, 0] S4x256.size inb_S4x256_S4x256_0_0).toLoadRect X6)) = rd2 (arg6.view.read (Elt Ideal) X6) := by
  refine rd2_congr fun i j => ?_
  pointwise [k0_pay109]
  erw [ld2]
  simp [at2]

theorem ldv (arg6 : Memref sig .tc .vmem S4x256 .bf16) (X6 : BufTy.Contents (Elt Ideal) arg6.view.ty) :
    rd2 (n0 := 4) (n1 := 256) (View.readAt (Elt Ideal) arg6.view (Rect.unit ![0, 0] S4x256.size inb_S4x256_S4x256_0_0).toLoadRect X6) = rd2 (arg6.view.read (Elt Ideal) X6) := by
  refine rd2_congr fun i j => ?_
  erw [ld2]
  simp [at2]

theorem ldb (arg7 : Memref sig .tc .vmem S1x256 .f32) (X7 : BufTy.Contents (Elt Ideal) arg7.view.ty) :
    rd2 (k0_pay110 (F := Ideal) (View.readAt (Elt Ideal) arg7.view (Rect.unit ![0, 0] S1x256.size inb_S1x256_S1x256_0_0).toLoadRect X7)) = rd2 (arg7.view.read (Elt Ideal) X7) := by
  refine rd2_congr fun i j => ?_
  pointwise [k0_pay110]
  erw [ld2]
  simp [at2]

/-- The stores of the weight gradient's column sums. -/
def dwL (a : Acc) : List (View.Piece (Elt Ideal) S4x256 .f32) :=
  [⟨Rect.unit ![3, 128] ![1, 128] inb_S4x256_S1x128_3_128, k0_pay6 (accw a 3 1)⟩,
    ⟨Rect.unit ![2, 128] ![1, 128] inb_S4x256_S1x128_2_128, k0_pay5 (accw a 2 1)⟩,
    ⟨Rect.unit ![1, 128] ![1, 128] inb_S4x256_S1x128_1_128, k0_pay4 (accw a 1 1)⟩,
    ⟨Rect.unit ![0, 128] ![1, 128] inb_S4x256_S1x128_0_128, k0_pay3 (accw a 0 1)⟩,
    ⟨Rect.unit ![3, 0] ![1, 128] inb_S4x256_S1x128_3_0, k0_pay1 (accw a 3 0)⟩,
    ⟨Rect.unit ![2, 0] ![1, 128] inb_S4x256_S1x128_2_0, k0_pay149 (accw a 2 0)⟩,
    ⟨Rect.unit ![1, 0] ![1, 128] inb_S4x256_S1x128_1_0, k0_pay148 (accw a 1 0)⟩,
    ⟨Rect.unit ![0, 0] ![1, 128] inb_S4x256_S1x128_0_0, k0_pay147 (accw a 0 0)⟩]

/-- The stores of the bias gradient's column sums. -/
def dbL (a : Acc) : List (View.Piece (Elt Ideal) S1x256 .f32) :=
  [⟨Rect.unit ![0, 128] ![1, 128] inb_S1x256_S1x128_0_128, k0_pay7 (accb a 1)⟩,
    ⟨Rect.unit ![0, 0] ![1, 128] inb_S1x256_S1x128_0_0, k0_pay2 (accb a 0)⟩]

theorem dw_val (arg10 : Memref sig .tc .vmem S4x256 .f32) (f : BufTy.Contents (Elt Ideal) arg10.view.ty) (a : Acc) (k ch : ℕ) (hk : k < 4) (hc : ch < 256) :
    rd2 (arg10.view.read (Elt Ideal) (arg10.view.writes (Elt Ideal) f (dwL a))) k ch
      = ∑ u : Fin 8, accw a k (ch / 128) (ix2 u ⟨ch % 128, Nat.mod_lt _ (by decide)⟩) := by
  have hb : ∀ (w : (⟨2, ![1, 128]⟩ : Shape).Idx → EReal) (t l : ℕ) (ha : t = 0) (h : l < 128), rd2 w t l = w (ix2 0 ⟨l, h⟩) :=
    fun w t l ha h => by subst ha; exact (at2 w (0 : Fin 1) ⟨l, h⟩).symm
  generalize hR : (∑ u : Fin 8, accw a k (ch / 128) (ix2 u ⟨ch % 128, Nat.mod_lt _ (by decide)⟩)) = R
  unfold dwL
  erw [wr2, wr2, wr2, wr2, wr2, wr2, wr2, wr2]
  simp only [Matrix.cons_val]
  obtain h | h : ch < 128 ∨ 128 ≤ ch := by omega
  · obtain rfl | rfl | rfl | rfl : k = 0 ∨ k = 1 ∨ k = 2 ∨ k = 3 := by omega
    · refine (if_neg (by omega)).trans ?_; refine (if_neg (by omega)).trans ?_; refine (if_neg (by omega)).trans ?_; refine (if_neg (by omega)).trans ?_; refine (if_neg (by omega)).trans ?_; refine (if_neg (by omega)).trans ?_; refine (if_neg (by omega)).trans ?_; refine (if_pos (by omega)).trans ?_
      refine (hb _ _ _ (by omega) (by omega)).trans ((rowsum_147 _ _ _).trans ?_)
      subst hR
      have e1 : ch / 128 = 0 := by omega
      rw [e1]
      exact Finset.sum_congr rfl fun u _ => congrArg _ (congrArg (ix2 u) (Fin.ext (show ch - 0 = ch % 128 by omega)))
    · refine (if_neg (by omega)).trans ?_; refine (if_neg (by omega)).trans ?_; refine (if_neg (by omega)).trans ?_; refine (if_neg (by omega)).trans ?_; refine (if_neg (by omega)).trans ?_; refine (if_neg (by omega)).trans ?_; refine (if_pos (by omega)).trans ?_
      refine (hb _ _ _ (by omega) (by omega)).trans ((rowsum_148 _ _ _).trans ?_)
      subst hR
      have e1 : ch / 128 = 0 := by omega
      rw [e1]
      exact Finset.sum_congr rfl fun u _ => congrArg _ (congrArg (ix2 u) (Fin.ext (show ch - 0 = ch % 128 by omega)))
    · refine (if_neg (by omega)).trans ?_; refine (if_neg (by omega)).trans ?_; refine (if_neg (by omega)).trans ?_; refine (if_neg (by omega)).trans ?_; refine (if_neg (by omega)).trans ?_; refine (if_pos (by omega)).trans ?_
      refine (hb _ _ _ (by omega) (by omega)).trans ((rowsum_149 _ _ _).trans ?_)
      subst hR
      have e1 : ch / 128 = 0 := by omega
      rw [e1]
      exact Finset.sum_congr rfl fun u _ => congrArg _ (congrArg (ix2 u) (Fin.ext (show ch - 0 = ch % 128 by omega)))
    · refine (if_neg (by omega)).trans ?_; refine (if_neg (by omega)).trans ?_; refine (if_neg (by omega)).trans ?_; refine (if_neg (by omega)).trans ?_; refine (if_pos (by omega)).trans ?_
      refine (hb _ _ _ (by omega) (by omega)).trans ((rowsum_1 _ _ _).trans ?_)
      subst hR
      have e1 : ch / 128 = 0 := by omega
      rw [e1]
      exact Finset.sum_congr rfl fun u _ => congrArg _ (congrArg (ix2 u) (Fin.ext (show ch - 0 = ch % 128 by omega)))
  · obtain rfl | rfl | rfl | rfl : k = 0 ∨ k = 1 ∨ k = 2 ∨ k = 3 := by omega
    · refine (if_neg (by omega)).trans ?_; refine (if_neg (by omega)).trans ?_; refine (if_neg (by omega)).trans ?_; refine (if_pos (by omega)).trans ?_
      refine (hb _ _ _ (by omega) (by omega)).trans ((rowsum_3 _ _ _).trans ?_)
      subst hR
      have e1 : ch / 128 = 1 := by omega
      rw [e1]
      exact Finset.sum_congr rfl fun u _ => congrArg _ (congrArg (ix2 u) (Fin.ext (show ch - 128 = ch % 128 by omega)))
    · refine (if_neg (by omega)).trans ?_; refine (if_neg (by omega)).trans ?_; refine (if_pos (by omega)).trans ?_
      refine (hb _ _ _ (by omega) (by omega)).trans ((rowsum_4 _ _ _).trans ?_)
      subst hR
      have e1 : ch / 128 = 1 := by omega
      rw [e1]
      exact Finset.sum_congr rfl fun u _ => congrArg _ (congrArg (ix2 u) (Fin.ext (show ch - 128 = ch % 128 by omega)))
    · refine (if_neg (by omega)).trans ?_; refine (if_pos (by omega)).trans ?_
      refine (hb _ _ _ (by omega) (by omega)).trans ((rowsum_5 _ _ _).trans ?_)
      subst hR
      have e1 : ch / 128 = 1 := by omega
      rw [e1]
      exact Finset.sum_congr rfl fun u _ => congrArg _ (congrArg (ix2 u) (Fin.ext (show ch - 128 = ch % 128 by omega)))
    · refine (if_pos (by omega)).trans ?_
      refine (hb _ _ _ (by omega) (by omega)).trans ((rowsum_6 _ _ _).trans ?_)
      subst hR
      have e1 : ch / 128 = 1 := by omega
      rw [e1]
      exact Finset.sum_congr rfl fun u _ => congrArg _ (congrArg (ix2 u) (Fin.ext (show ch - 128 = ch % 128 by omega)))

theorem db_val (arg11 : Memref sig .tc .vmem S1x256 .f32) (f : BufTy.Contents (Elt Ideal) arg11.view.ty) (a : Acc) (ch : ℕ) (hc : ch < 256) :
    rd2 (arg11.view.read (Elt Ideal) (arg11.view.writes (Elt Ideal) f (dbL a))) 0 ch
      = ∑ u : Fin 8, accb a (ch / 128) (ix2 u ⟨ch % 128, Nat.mod_lt _ (by decide)⟩) := by
  have hb : ∀ (w : (⟨2, ![1, 128]⟩ : Shape).Idx → EReal) (t l : ℕ) (ha : t = 0) (h : l < 128), rd2 w t l = w (ix2 0 ⟨l, h⟩) :=
    fun w t l ha h => by subst ha; exact (at2 w (0 : Fin 1) ⟨l, h⟩).symm
  generalize hR : (∑ u : Fin 8, accb a (ch / 128) (ix2 u ⟨ch % 128, Nat.mod_lt _ (by decide)⟩)) = R
  unfold dbL
  erw [wr2, wr2]
  simp only [Matrix.cons_val]
  obtain h | h : ch < 128 ∨ 128 ≤ ch := by omega
  · refine (if_neg (by omega)).trans ?_; refine (if_pos (by omega)).trans ?_
    refine (hb _ _ _ (by omega) (by omega)).trans ((rowsum_2 _ _ _).trans ?_)
    subst hR
    have e1 : ch / 128 = 0 := by omega
    rw [e1]
    exact Finset.sum_congr rfl fun u _ => congrArg _ (congrArg (ix2 u) (Fin.ext (show ch - 0 = ch % 128 by omega)))
  · refine (if_pos (by omega)).trans ?_
    refine (hb _ _ _ (by omega) (by omega)).trans ((rowsum_7 _ _ _).trans ?_)
    subst hR
    have e1 : ch / 128 = 1 := by omega
    rw [e1]
    exact Finset.sum_congr rfl fun u _ => congrArg _ (congrArg (ix2 u) (Fin.ext (show ch - 128 = ch % 128 by omega)))

/-- The running sums before the first trip. -/
abbrev acc0 : Acc := (k0_pay132, k0_pay133, k0_pay134, k0_pay135, k0_pay136, k0_pay137, k0_pay138, k0_pay139, k0_pay140, k0_pay141)

theorem accw0 (k g : ℕ) (hk : k < 4) (hg : g < 2) (u : Fin 8) (l : Fin 128) : accw acc0 k g (ix2 u l) = 0 := by
  obtain rfl | rfl : g = 0 ∨ g = 1 := by omega
  · obtain rfl | rfl | rfl | rfl : k = 0 ∨ k = 1 ∨ k = 2 ∨ k = 3 := by omega
    · exact acc0_132 u l
    · exact acc0_134 u l
    · exact acc0_136 u l
    · exact acc0_138 u l
  · obtain rfl | rfl | rfl | rfl : k = 0 ∨ k = 1 ∨ k = 2 ∨ k = 3 := by omega
    · exact acc0_133 u l
    · exact acc0_135 u l
    · exact acc0_137 u l
    · exact acc0_139 u l

theorem accb0 (g : ℕ) (hg : g < 2) (u : Fin 8) (l : Fin 128) : accb acc0 g (ix2 u l) = 0 := by
  obtain rfl | rfl : g = 0 ∨ g = 1 := by omega
  · exact acc0_140 u l
  · exact acc0_141 u l

theorem out_of_inv (I : In) (arg9 : Memref sig .tc .vmem S6x256x256 .bf16) (arg10 : Memref sig .tc .vmem S4x256 .f32) (arg11 : Memref sig .tc .vmem S1x256 .f32) (arg15 : Memref sig .tc .vmem S2x2x272x128 .f32) (arg16 : Memref sig .tc .vmem S2x2x264x128 .f32) (arg17 : Memref sig .tc .vmem S2x2x256x128 .f32) (arg19 : Memref sig .tc .vmem S2x2x256x128 .f32)
    (X10 : BufTy.Contents (Elt Ideal) arg10.view.ty) (X11 : BufTy.Contents (Elt Ideal) arg11.view.ty)
    (s0 s : St3 (F := Ideal) arg9 arg15 arg16 arg17 arg19) (h0 : s0.2.2.2.2.2 = acc0) (h : Inv3 I arg9 arg15 arg16 arg17 arg19 s0 s 6) :
    Out I arg9 arg10 arg11 s.2.2.2.2.1 (arg10.view.writes (Elt Ideal) X10 (dwL s.2.2.2.2.2)) (arg11.view.writes (Elt Ideal) X11 (dbL s.2.2.2.2.2)) := by
  refine ⟨fun b t ch hb ht hc => ?_, fun k ch hk hc => ?_, fun ch hc => ?_⟩
  · rw [h.dx, if_pos ⟨hb, ht, hc⟩]
  · rw [dw_val _ _ _ _ _ hk hc]
    refine Finset.sum_congr rfl fun u _ => ?_
    rw [h.w k _ hk (by omega), h0, accw0 _ _ hk (by omega), zero_add]
  · rw [db_val _ _ _ _ hc]
    refine Finset.sum_congr rfl fun u _ => ?_
    rw [h.b _ (by omega), h0, accb0 _ (by omega), zero_add]

end Cert.KernelIdeal.Hand
-- ==== Proof.IdealT1.lean ====
/-
  The mask.
-/
module

public import proofs.«01_k».proof.Proof.IdealVal
public import proofs.«01_k».proof.Proof.IdealPre

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- The mask word of shift `s + 1` at row `t`: 0 where a document begins at one of the rows `t - s`, ..., `t`. -/
def MK (cu : ℕ → ℕ → BitVec 32) (b s t : ℕ) : BitVec 32 :=
  if ∃ (u : Fin 3) (j : Fin 17), u.val ≤ s ∧ BitVec.ofNat 32 t - BitVec.ofNat 32 u.val = cu b j.val then 0#32 else 1#32

/-- The word 1 where `P` holds. -/
def Bw (P : Prop) [Decidable P] : BitVec 32 := if P then 1#32 else 0#32

theorem selw (a v : BitVec 32) (P : Prop) [Decidable P] : Scalar.select (IntOp.cmpi .eq a v) 1#32 (Bw P) = Bw (a = v ∨ P) := by
  have : (IntOp.cmpi .eq a v = (1 : BitVec 1)) ↔ a = v := by
    simp only [IntOp.cmpi]
    by_cases h : a = v
    · subst h; simp
    · have h' : (a == v) = false := by simpa using h
      rw [h']
      exact ⟨fun e => absurd e (by decide), fun e => absurd e h⟩
  unfold Scalar.select Bw
  by_cases h : a = v
  · rw [if_pos (this.2 h), if_pos (Or.inl h)]
  · rw [if_neg (fun h' => h (this.1 h'))]
    by_cases hP : P <;> simp [h, hP]

theorem subw (P : Prop) [Decidable P] : IntOp.subi 1#32 (Bw P) = if P then 0#32 else 1#32 := by
  unfold Bw
  split_ifs <;> rfl

theorem ldS (arg8 : Memref sig .tc .smem S6x17 .i32) (X8 : BufTy.Contents (Elt Ideal) arg8.view.ty) {off : Fin 2 → ℕ} (h : ∀ a, off a + (![1, 1] : Fin 2 → ℕ) a ≤ S6x17.size a) (y : (⟨2, ![1, 1]⟩ : Shape).Idx) :
    View.readAt (Elt Ideal) arg8.view (Rect.unit (s := S6x17) off ![1, 1] h).toLoadRect X8 y = rd2 (arg8.view.read (Elt Ideal) X8) (off 0) (off 1) := by
  have hy : y = ix2 0 0 := by
    funext a
    fin_cases a <;> exact Subsingleton.elim (α := Fin 1) _ _
  rw [hy]
  erw [ld2]
  rfl

theorem subi0 (a : BitVec 32) : IntOp.subi a 0#32 = a := by simp [IntOp.subi]

theorem Bw_f : (0#32 : BitVec 32) = Bw False := by simp [Bw]

section
variable (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole)  (X8 : BufTy.Contents (Elt Ideal) arg8.view.ty) (h1 : k0_cond1 i = 1#1) (v172 : IVec S264x128 32) (hv : ∀ (t : Fin 264) (l : Fin 128), v172 (ix2 t l) = BitVec.ofNat 32 t.val)
include hv
theorem t1_m (r : Fin k0_t1_loop.trips) (f : BufTy.Contents (Elt Ideal) arg12.view.ty) (L : List (View.Piece (Elt Ideal) S6x3x264x128 .i32)) (b s t l : ℕ) (hs : s < 3) (ht : t < 264) (hl : l < 128) :
    rd4 (arg12.view.read (Elt Ideal) (arg12.view.writes (Elt Ideal) f (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 v172 X8 r ++ L))) b s t l
      = if b = r.val then MK (rd2 (arg8.view.read (Elt Ideal) X8)) b s t else rd4 (arg12.view.read (Elt Ideal) (arg12.view.writes (Elt Ideal) f L)) b s t l := by
  have h4 : ∀ (x : Fin 264) (y : Fin 128) (w : (⟨4, ![1, 1, 264, 128]⟩ : Shape).Idx → BitVec 32) {a c e d : ℕ} (ha : a = 0) (hc : c = 0) (he : e = x.val) (hd : d = y.val),
      rd4 w a c e d = w (ix4 0 0 x y) := fun x y w a c e d ha hc he hd => by subst ha; subst hc; subst he; subst hd; exact (at4 w (0 : Fin 1) (0 : Fin 1) x y).symm
  unfold tripL_k0_t1 trip_k0_t1
  dsimp only
  dsimp only [trip_k0_t1.sl.arg20, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v182, trip_k0_t1.sl.v183, trip_k0_t1.sl.v184, trip_k0_t1.sl.v186, trip_k0_t1.sl.v187, trip_k0_t1.sl.v189, trip_k0_t1.sl.v190, trip_k0_t1.sl.v191, trip_k0_t1.sl.v192, trip_k0_t1.sl.v197, trip_k0_t1.sl.v198, trip_k0_t1.sl.v200, trip_k0_t1.sl.v205, trip_k0_t1.sl.v206, trip_k0_t1.sl.v208, trip_k0_t1.sl.v213, trip_k0_t1.sl.v214, trip_k0_t1.sl.v216, trip_k0_t1.sl.v221, trip_k0_t1.sl.v222, trip_k0_t1.sl.v224, trip_k0_t1.sl.v229, trip_k0_t1.sl.v230, trip_k0_t1.sl.v232, trip_k0_t1.sl.v237, trip_k0_t1.sl.v238, trip_k0_t1.sl.v240, trip_k0_t1.sl.v245, trip_k0_t1.sl.v246, trip_k0_t1.sl.v248, trip_k0_t1.sl.v253, trip_k0_t1.sl.v254, trip_k0_t1.sl.v256, trip_k0_t1.sl.v261, trip_k0_t1.sl.v262, trip_k0_t1.sl.v264, trip_k0_t1.sl.v269, trip_k0_t1.sl.v270, trip_k0_t1.sl.v272, trip_k0_t1.sl.v277, trip_k0_t1.sl.v278, trip_k0_t1.sl.v280, trip_k0_t1.sl.v285, trip_k0_t1.sl.v286, trip_k0_t1.sl.v288, trip_k0_t1.sl.v293, trip_k0_t1.sl.v294, trip_k0_t1.sl.v296, trip_k0_t1.sl.v301, trip_k0_t1.sl.v302, trip_k0_t1.sl.v304, trip_k0_t1.sl.v309, trip_k0_t1.sl.v310, trip_k0_t1.sl.v312, trip_k0_t1.sl.v317, trip_k0_t1.sl.v318, trip_k0_t1.sl.v320, trip_k0_t1.sl.v322, trip_k0_t1.sl.v325, trip_k0_t1.sl.v326, trip_k0_t1.sl.v328, trip_k0_t1.sl.v332, trip_k0_t1.sl.v334, trip_k0_t1.sl.v340, trip_k0_t1.sl.v342, trip_k0_t1.sl.v348, trip_k0_t1.sl.v350, trip_k0_t1.sl.v356, trip_k0_t1.sl.v358, trip_k0_t1.sl.v364, trip_k0_t1.sl.v366, trip_k0_t1.sl.v372, trip_k0_t1.sl.v374, trip_k0_t1.sl.v380, trip_k0_t1.sl.v382, trip_k0_t1.sl.v388, trip_k0_t1.sl.v390, trip_k0_t1.sl.v396, trip_k0_t1.sl.v398, trip_k0_t1.sl.v404, trip_k0_t1.sl.v406, trip_k0_t1.sl.v412, trip_k0_t1.sl.v414, trip_k0_t1.sl.v420, trip_k0_t1.sl.v422, trip_k0_t1.sl.v428, trip_k0_t1.sl.v430, trip_k0_t1.sl.v436, trip_k0_t1.sl.v438, trip_k0_t1.sl.v444, trip_k0_t1.sl.v446, trip_k0_t1.sl.v452, trip_k0_t1.sl.v454, trip_k0_t1.sl.v460, trip_k0_t1.sl.v462, trip_k0_t1.sl.v464, trip_k0_t1.sl.v466, trip_k0_t1.sl.v467, trip_k0_t1.sl.v468, trip_k0_t1.sl.v469, trip_k0_t1.sl.v470, trip_k0_t1.sl.v474, trip_k0_t1.sl.v476, trip_k0_t1.sl.v482, trip_k0_t1.sl.v484, trip_k0_t1.sl.v490, trip_k0_t1.sl.v492, trip_k0_t1.sl.v498, trip_k0_t1.sl.v500, trip_k0_t1.sl.v506, trip_k0_t1.sl.v508, trip_k0_t1.sl.v514, trip_k0_t1.sl.v516, trip_k0_t1.sl.v522, trip_k0_t1.sl.v524, trip_k0_t1.sl.v530, trip_k0_t1.sl.v532, trip_k0_t1.sl.v538, trip_k0_t1.sl.v540, trip_k0_t1.sl.v546, trip_k0_t1.sl.v548, trip_k0_t1.sl.v554, trip_k0_t1.sl.v556, trip_k0_t1.sl.v562, trip_k0_t1.sl.v564, trip_k0_t1.sl.v570, trip_k0_t1.sl.v572, trip_k0_t1.sl.v578, trip_k0_t1.sl.v580, trip_k0_t1.sl.v586, trip_k0_t1.sl.v588, trip_k0_t1.sl.v594, trip_k0_t1.sl.v596, trip_k0_t1.sl.v602, trip_k0_t1.sl.v604, trip_k0_t1.sl.v606, trip_k0_t1.sl.v608, trip_k0_t1.sl.v609, trip_k0_t1.sl.v610]
  simp only [List.cons_append, List.nil_append]
  generalize hR : (if b = r.val then MK (rd2 (arg8.view.read (Elt Ideal) X8)) b s t else rd4 (arg12.view.read (Elt Ideal) (arg12.view.writes (Elt Ideal) f L)) b s t l) = RHS
  iterate 3 erw [wr4]
  simp only [off18, off19, off20, Matrix.cons_val]
  by_cases hA : b = r.val
  · rw [if_pos hA] at hR
    subst hA
    by_cases hk : s = 2
    · subst hk
      refine (if_pos (by omega)).trans ?_
      refine (h4 ⟨t, ht⟩ ⟨l, hl⟩ _ (by omega) (by omega) (by simp) (by simp)).trans ?_
      pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
      rw [← hR]
      simp only [hv, ldS, subi0, off1, off2, off3, off4, off5, off6, off7, off8, off9, off10, off11, off12, off13, off14, off15, off16, off17, Matrix.cons_val]
      rw [Bw_f]
      simp only [selw, subw]
      unfold MK
      refine if_congr ?_ rfl rfl
      simp [Fin.exists_fin_succ, IntOp.subi]
      refine Iff.of_eq ?_
      ac_rfl
    refine (if_neg (by omega)).trans ?_
    by_cases hk : s = 1
    · subst hk
      refine (if_pos (by omega)).trans ?_
      refine (h4 ⟨t, ht⟩ ⟨l, hl⟩ _ (by omega) (by omega) (by simp) (by simp)).trans ?_
      pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
      rw [← hR]
      simp only [hv, ldS, subi0, off1, off2, off3, off4, off5, off6, off7, off8, off9, off10, off11, off12, off13, off14, off15, off16, off17, Matrix.cons_val]
      rw [Bw_f]
      simp only [selw, subw]
      unfold MK
      refine if_congr ?_ rfl rfl
      simp [Fin.exists_fin_succ, IntOp.subi]
      refine Iff.of_eq ?_
      ac_rfl
    refine (if_neg (by omega)).trans ?_
    by_cases hk : s = 0
    · subst hk
      refine (if_pos (by omega)).trans ?_
      refine (h4 ⟨t, ht⟩ ⟨l, hl⟩ _ (by omega) (by omega) (by simp) (by simp)).trans ?_
      pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
      rw [← hR]
      simp only [hv, ldS, subi0, off1, off2, off3, off4, off5, off6, off7, off8, off9, off10, off11, off12, off13, off14, off15, off16, off17, Matrix.cons_val]
      rw [Bw_f]
      simp only [selw, subw]
      unfold MK
      refine if_congr ?_ rfl rfl
      simp [Fin.exists_fin_succ, IntOp.subi]
      refine Iff.of_eq ?_
      ac_rfl
    refine (if_neg (by omega)).trans ?_
    omega
  · rw [if_neg hA] at hR
    rw [← hR]
    refine (if_neg (by omega)).trans ?_
    refine (if_neg (by omega)).trans ?_
    refine (if_neg (by omega)).trans ?_
    rfl

/-- The mask before trip `n`. -/
theorem pb1_m (f : BufTy.Contents (Elt Ideal) arg12.view.ty) (n : ℕ) (hn : n ≤ 6) (b s t l : ℕ) (hs : s < 3) (ht : t < 264) (hl : l < 128) :
    rd4 (arg12.view.read (Elt Ideal) (arg12.view.writes (Elt Ideal) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 v172 X8 n))) b s t l
      = if b < n then MK (rd2 (arg8.view.read (Elt Ideal) X8)) b s t else rd4 (arg12.view.read (Elt Ideal) f) b s t l := by
  induction n with
  | zero => rw [if_neg (by omega)]; rfl
  | succ n ih =>
    have hr : n < k0_t1_loop.trips := by rw [trips_t1]; omega
    rw [show n + 1 = (⟨n, hr⟩ : Fin k0_t1_loop.trips).val + 1 from rfl, pb_k0_t1_succ]
    refine (t1_m (hv := hv) (hs := hs) (ht := ht) (hl := hl) ..).trans ?_
    rw [ih (by omega)]
    dsimp only
    by_cases h1 : b = n
    · rw [if_pos h1, if_pos (by omega)]
    · rw [if_neg h1]
      by_cases h2 : b < n
      · rw [if_pos h2, if_pos (by omega)]
      · rw [if_neg h2, if_neg (by omega)]
end

end Cert.KernelIdeal.Hand
-- ==== Proof.IdealT2.lean ====
/-
  The copies of the scales, made once per channel block group.
-/
module

public import proofs.«01_k».proof.Proof.IdealVal
public import proofs.«01_k».proof.Proof.IdealPre

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

section
variable (𝒱 : Variants) (c : Dev nD) (bd : Option 𝒱.V) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole)  (X3 : BufTy.Contents (Elt Ideal) arg3.view.ty) (X5 : BufTy.Contents (Elt Ideal) arg5.view.ty) (h2 : k0_cond2 i = 1#1)

theorem t2_x (r : Fin k0_t2_loop.trips) (f : BufTy.Contents (Elt Ideal) arg13.view.ty) (L : List (View.Piece (Elt Ideal) S8x6x256 .f32)) (g b t : ℕ) (ht : t < 256) :
    rd3 (arg13.view.read (Elt Ideal) (arg13.view.writes (Elt Ideal) f ((tripL_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 X3 X5 r).1 ++ L))) g b t
      = if b = r.val ∧ g < 8 then rd3 (arg3.view.read (Elt Ideal) X3) b g t else rd3 (arg13.view.read (Elt Ideal) (arg13.view.writes (Elt Ideal) f L)) g b t := by
  have h3 : ∀ (y : Fin 256) (w : (⟨3, ![1, 1, 256]⟩ : Shape).Idx → EReal) {a c e : ℕ} (ha : a = 0) (hc : c = 0) (he : e = y.val),
      rd3 w a c e = w (ix3 0 0 y) := fun y w a c e ha hc he => by subst ha; subst hc; subst he; exact (at3' w (0 : Fin 1) (0 : Fin 1) y).symm
  unfold tripL_k0_t2 trip_k0_t2
  dsimp only
  dsimp only [trip_k0_t2.sl.arg20, trip_k0_t2.sl.v173, trip_k0_t2.sl.v174, trip_k0_t2.sl.v175, trip_k0_t2.sl.v177, trip_k0_t2.sl.v180, trip_k0_t2.sl.v181, trip_k0_t2.sl.v184, trip_k0_t2.sl.v187, trip_k0_t2.sl.v188, trip_k0_t2.sl.v191, trip_k0_t2.sl.v193, trip_k0_t2.sl.v194, trip_k0_t2.sl.v195, trip_k0_t2.sl.v198, trip_k0_t2.sl.v200, trip_k0_t2.sl.v201, trip_k0_t2.sl.v202, trip_k0_t2.sl.v205, trip_k0_t2.sl.v207, trip_k0_t2.sl.v208, trip_k0_t2.sl.v209, trip_k0_t2.sl.v212, trip_k0_t2.sl.v214, trip_k0_t2.sl.v215, trip_k0_t2.sl.v216, trip_k0_t2.sl.v219, trip_k0_t2.sl.v221, trip_k0_t2.sl.v222, trip_k0_t2.sl.v223, trip_k0_t2.sl.v226, trip_k0_t2.sl.v228, trip_k0_t2.sl.v229, trip_k0_t2.sl.v230, trip_k0_t2.sl.v233, trip_k0_t2.sl.v235, trip_k0_t2.sl.v236, trip_k0_t2.sl.v237, trip_k0_t2.sl.v240, trip_k0_t2.sl.v242, trip_k0_t2.sl.v243, trip_k0_t2.sl.v244, trip_k0_t2.sl.v247, trip_k0_t2.sl.v249, trip_k0_t2.sl.v250, trip_k0_t2.sl.v251, trip_k0_t2.sl.v254, trip_k0_t2.sl.v256, trip_k0_t2.sl.v257, trip_k0_t2.sl.v258, trip_k0_t2.sl.v261, trip_k0_t2.sl.v263, trip_k0_t2.sl.v264, trip_k0_t2.sl.v265, trip_k0_t2.sl.v268, trip_k0_t2.sl.v270, trip_k0_t2.sl.v271, trip_k0_t2.sl.v272, trip_k0_t2.sl.v275]
  simp only [List.cons_append, List.nil_append]
  generalize hR : (if b = r.val ∧ g < 8 then rd3 (arg3.view.read (Elt Ideal) X3) b g t else rd3 (arg13.view.read (Elt Ideal) (arg13.view.writes (Elt Ideal) f L)) g b t) = RHS
  iterate 8 erw [wr3]
  simp only [off22, off24, off26, off28, off30, off32, off34, off36, Matrix.cons_val]
  by_cases hA : b = r.val ∧ g < 8
  · rw [if_pos hA] at hR
    obtain ⟨rfl, hg⟩ := hA
    by_cases hk : g = 7
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 6
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 5
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 4
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 3
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 2
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 1
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 0
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    omega
  · rw [if_neg hA] at hR
    rw [← hR]
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    rfl

/-- The scales' copy before trip `n`. -/
theorem pb2_x (f : BufTy.Contents (Elt Ideal) arg13.view.ty) (n : ℕ) (hn : n ≤ 6) (g b t : ℕ) (ht : t < 256) :
    rd3 (arg13.view.read (Elt Ideal) (arg13.view.writes (Elt Ideal) f (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 X3 X5 n).1)) g b t
      = if b < n ∧ g < 8 then rd3 (arg3.view.read (Elt Ideal) X3) b g t else rd3 (arg13.view.read (Elt Ideal) f) g b t := by
  induction n with
  | zero => rw [if_neg (by omega)]; rfl
  | succ n ih =>
    have hr : n < k0_t2_loop.trips := by rw [trips_t2]; omega
    rw [show n + 1 = (⟨n, hr⟩ : Fin k0_t2_loop.trips).val + 1 from rfl, pb_k0_t2_succ]
    refine (t2_x (ht := ht) ..).trans ?_
    rw [ih (by omega)]
    dsimp only
    by_cases h1 : b = n ∧ g < 8
    · rw [if_pos h1, if_pos (by omega)]
    · rw [if_neg h1]
      by_cases h2 : b < n ∧ g < 8
      · rw [if_pos h2, if_pos (by omega)]
      · rw [if_neg h2, if_neg (by omega)]

theorem t2_y (r : Fin k0_t2_loop.trips) (f : BufTy.Contents (Elt Ideal) arg14.view.ty) (L : List (View.Piece (Elt Ideal) S8x6x256 .f32)) (g b t : ℕ) (ht : t < 256) :
    rd3 (arg14.view.read (Elt Ideal) (arg14.view.writes (Elt Ideal) f ((tripL_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 X3 X5 r).2 ++ L))) g b t
      = if b = r.val ∧ g < 8 then rd3 (arg5.view.read (Elt Ideal) X5) b g t else rd3 (arg14.view.read (Elt Ideal) (arg14.view.writes (Elt Ideal) f L)) g b t := by
  have h3 : ∀ (y : Fin 256) (w : (⟨3, ![1, 1, 256]⟩ : Shape).Idx → EReal) {a c e : ℕ} (ha : a = 0) (hc : c = 0) (he : e = y.val),
      rd3 w a c e = w (ix3 0 0 y) := fun y w a c e ha hc he => by subst ha; subst hc; subst he; exact (at3' w (0 : Fin 1) (0 : Fin 1) y).symm
  unfold tripL_k0_t2 trip_k0_t2
  dsimp only
  dsimp only [trip_k0_t2.sl.arg20, trip_k0_t2.sl.v173, trip_k0_t2.sl.v174, trip_k0_t2.sl.v175, trip_k0_t2.sl.v177, trip_k0_t2.sl.v180, trip_k0_t2.sl.v181, trip_k0_t2.sl.v184, trip_k0_t2.sl.v187, trip_k0_t2.sl.v188, trip_k0_t2.sl.v191, trip_k0_t2.sl.v193, trip_k0_t2.sl.v194, trip_k0_t2.sl.v195, trip_k0_t2.sl.v198, trip_k0_t2.sl.v200, trip_k0_t2.sl.v201, trip_k0_t2.sl.v202, trip_k0_t2.sl.v205, trip_k0_t2.sl.v207, trip_k0_t2.sl.v208, trip_k0_t2.sl.v209, trip_k0_t2.sl.v212, trip_k0_t2.sl.v214, trip_k0_t2.sl.v215, trip_k0_t2.sl.v216, trip_k0_t2.sl.v219, trip_k0_t2.sl.v221, trip_k0_t2.sl.v222, trip_k0_t2.sl.v223, trip_k0_t2.sl.v226, trip_k0_t2.sl.v228, trip_k0_t2.sl.v229, trip_k0_t2.sl.v230, trip_k0_t2.sl.v233, trip_k0_t2.sl.v235, trip_k0_t2.sl.v236, trip_k0_t2.sl.v237, trip_k0_t2.sl.v240, trip_k0_t2.sl.v242, trip_k0_t2.sl.v243, trip_k0_t2.sl.v244, trip_k0_t2.sl.v247, trip_k0_t2.sl.v249, trip_k0_t2.sl.v250, trip_k0_t2.sl.v251, trip_k0_t2.sl.v254, trip_k0_t2.sl.v256, trip_k0_t2.sl.v257, trip_k0_t2.sl.v258, trip_k0_t2.sl.v261, trip_k0_t2.sl.v263, trip_k0_t2.sl.v264, trip_k0_t2.sl.v265, trip_k0_t2.sl.v268, trip_k0_t2.sl.v270, trip_k0_t2.sl.v271, trip_k0_t2.sl.v272, trip_k0_t2.sl.v275]
  simp only [List.cons_append, List.nil_append]
  generalize hR : (if b = r.val ∧ g < 8 then rd3 (arg5.view.read (Elt Ideal) X5) b g t else rd3 (arg14.view.read (Elt Ideal) (arg14.view.writes (Elt Ideal) f L)) g b t) = RHS
  iterate 8 erw [wr3]
  simp only [off22, off24, off26, off28, off30, off32, off34, off36, Matrix.cons_val]
  by_cases hA : b = r.val ∧ g < 8
  · rw [if_pos hA] at hR
    obtain ⟨rfl, hg⟩ := hA
    by_cases hk : g = 7
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 6
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 5
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 4
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 3
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 2
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 1
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    by_cases hk : g = 0
    · subst hk
      refine (if_pos (by omega)).trans ?_
      refine (h3 ⟨t, ht⟩ _ (by omega) (by omega) (by simp)).trans ?_
      pointwise [k0_pay30, k0_pay31, k0_pay32, k0_pay33, k0_pay34, k0_pay35, k0_pay36, k0_pay37, k0_pay38, k0_pay39, k0_pay40, k0_pay41, k0_pay42, k0_pay43, k0_pay44, k0_pay45, k0_pay106, k0_pay107]
      rw [← hR]
      simp [ld3, off21, off23, off25, off27, off29, off31, off33, off35, Matrix.cons_val]
    refine (if_neg (by omega)).trans ?_
    omega
  · rw [if_neg hA] at hR
    rw [← hR]
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    refine (if_neg (by omega)).trans ?_
    rfl

/-- The scales' copy before trip `n`. -/
theorem pb2_y (f : BufTy.Contents (Elt Ideal) arg14.view.ty) (n : ℕ) (hn : n ≤ 6) (g b t : ℕ) (ht : t < 256) :
    rd3 (arg14.view.read (Elt Ideal) (arg14.view.writes (Elt Ideal) f (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 X3 X5 n).2)) g b t
      = if b < n ∧ g < 8 then rd3 (arg5.view.read (Elt Ideal) X5) b g t else rd3 (arg14.view.read (Elt Ideal) f) g b t := by
  induction n with
  | zero => rw [if_neg (by omega)]; rfl
  | succ n ih =>
    have hr : n < k0_t2_loop.trips := by rw [trips_t2]; omega
    rw [show n + 1 = (⟨n, hr⟩ : Fin k0_t2_loop.trips).val + 1 from rfl, pb_k0_t2_succ]
    refine (t2_y (ht := ht) ..).trans ?_
    rw [ih (by omega)]
    dsimp only
    by_cases h1 : b = n ∧ g < 8
    · rw [if_pos h1, if_pos (by omega)]
    · rw [if_neg h1]
      by_cases h2 : b < n ∧ g < 8
      · rw [if_pos h2, if_pos (by omega)]
      · rw [if_neg h2, if_neg (by omega)]

end
end Cert.KernelIdeal.Hand
-- ==== Proof.IdealValA.lean ====
/-
  What a grid point that starts the launch leaves: its output blocks, and the rows of the scratch buffers no trip writes.
-/
module

public import proofs.«01_k».proof.Proof.IdealVal
public import proofs.«01_k».proof.Proof.IdealRunA

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic

theorem zero15 (arg15 : Memref sig .tc .vmem S2x2x272x128 .f32) (p g r l : ℕ) (hp : p < 2) (hg : g < 2) (hr : r < 272) (hl : l < 128) :
    rd4 (arg15.view.read (Elt Ideal) (arg15.view.writes (Elt Ideal) arg15.view.junk (runA.sl.H15_1 (F := Ideal)))) p g r l = 0 := by
  dsimp only [runA.sl.H15_1]
  erw [wr4]
  simp only [Matrix.cons_val]
  refine (if_pos (by omega)).trans ?_
  refine (at4 _ ⟨p, hp⟩ ⟨g, hg⟩ ⟨r, hr⟩ ⟨l, hl⟩).symm.trans ?_
  pointwise [k0_pay106]
  try exact Ideal.ofBits_zero .f32

theorem zero16 (arg16 : Memref sig .tc .vmem S2x2x264x128 .f32) (p g r l : ℕ) (hp : p < 2) (hg : g < 2) (hr : r < 264) (hl : l < 128) :
    rd4 (arg16.view.read (Elt Ideal) (arg16.view.writes (Elt Ideal) arg16.view.junk (runA.sl.H16_1 (F := Ideal)))) p g r l = 0 := by
  dsimp only [runA.sl.H16_1]
  erw [wr4]
  simp only [Matrix.cons_val]
  refine (if_pos (by omega)).trans ?_
  refine (at4 _ ⟨p, hp⟩ ⟨g, hg⟩ ⟨r, hr⟩ ⟨l, hl⟩).symm.trans ?_
  pointwise [k0_pay107]
  try exact Ideal.ofBits_zero .f32

theorem runA_val (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : cond0_0 i) (hc1 : cond0_1 i) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (I : In)
    (hsc : rd3 (arg13.view.read (Elt Ideal) (arg13.view.writes (Elt Ideal) X13 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).1)) = I.sc) (hx : rd3 (arg2.view.read (Elt Ideal) X2) = I.x)
    (hscy : rd3 (arg14.view.read (Elt Ideal) (arg14.view.writes (Elt Ideal) X14 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).2)) = I.scy) (hy : rd3 (arg4.view.read (Elt Ideal) X4) = I.y)
    (hmk : rd4 (arg12.view.read (Elt Ideal) (arg12.view.writes (Elt Ideal) X12 (pb_k0_t1 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 runA.sl.v172 X8 (Scf.trips (0#32) (Scalar.addi 0#32 6#32) 1#32)))) = I.mk) (hbias : rd2 (arg7.view.read (Elt Ideal) X7) = I.bias) (hq : (i 1).val = I.q)
    (hwv : rd2 (arg6.view.read (Elt Ideal) X6) = I.wv) (hwh : ∀ k c, I.wh k c = I.wv k c * half) :
    Out I arg9 arg10 arg11 (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).1 (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.1 (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.1
      ∧ (∀ p g r l, p < 2 → g < 2 → r < 8 → l < 128 → rd4 (arg15.view.read (Elt Ideal) (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.2.1) p g r l = 0)
      ∧ (∀ p g t l, p < 2 → g < 2 → 256 ≤ t → t < 264 → l < 128 → rd4 (arg16.view.read (Elt Ideal) (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.2.2.1) p g t l = 0)
      ∧ (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.1 = (arg12.view.writes (Elt Ideal) X12 (pb_k0_t1 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 runA.sl.v172 X8 (Scf.trips (0#32) (Scalar.addi 0#32 6#32) 1#32))) ∧ (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.1 = (arg13.view.writes (Elt Ideal) X13 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).1) ∧ (runA (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.1 = (arg14.view.writes (Elt Ideal) X14 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).2) := by
  have hWw : rd2 (runA.sl.r (F := Ideal) arg6 X6) = I.wv := (ldw arg6 X6).trans hwv
  have hb : rd2 (runA.sl.r_1 (F := Ideal) arg7 X7) = I.bias := (ldb arg7 X7).trans hbias
  have hD : ∀ k a c, k < 4 → a < 256 → c < 256 → rd3 (arg18.view.read (Elt Ideal) (arg18.view.writes (Elt Ideal) arg18.view.junk (runA.sl.H18_9 (F := Ideal) arg6 X6))) k a c = if a = c then I.wh k c else 0 := by
    intro k a c hk ha hc
    refine (diag_val arg18 _ k a c hk ha hc).trans ?_
    rw [hwh, ← hwv]
    exact if_congr Iff.rfl (congrArg (· * half) (congrFun (congrFun (ldv arg6 X6) k) c)) rfl
  have e : (Scf.trips (0#32) (Scalar.addi 0#32 6#32) 1#32) = 6 := by decide
  have e' : Scf.trips k0_t3_loop.lb k0_t3_loop.ub k0_t3_loop.st = 6 := by decide
  have h := st3_inv 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k0_pay108 (runA.sl.r_1 arg7 X7) (runA.sl.r_4 arg6 X6) (runA.sl.r_5 arg6 X6) (runA.sl.r_6 arg6 X6) (runA.sl.r_7 arg6 X6) (runA.sl.r_8 arg6 X6) (runA.sl.r_9 arg6 X6) (runA.sl.r_10 arg6 X6) (runA.sl.r_11 arg6 X6) X2 X4 (arg12.view.writes (Elt Ideal) X12 (pb_k0_t1 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 runA.sl.v172 X8 (Scf.trips (0#32) (Scalar.addi 0#32 6#32) 1#32))) (arg13.view.writes (Elt Ideal) X13 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).1) (arg14.view.writes (Elt Ideal) X14 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).2) (arg18.view.writes (Elt Ideal) arg18.view.junk (runA.sl.H18_9 arg6 X6))
    (I := I) (hE := eye_val) (hD := hD) (hsc := hsc) (hx := hx) (hscy := hscy) (hy := hy) (hmk := hmk) (hbias := hb) (hq := hq)
    (hw00 := fun s l => (wv_00 _ s l).trans (congrFun (congrFun hWw 0) _)) (hw01 := fun s l => (wv_01 _ s l).trans (congrFun (congrFun hWw 0) _)) (hw10 := fun s l => (wv_10 _ s l).trans (congrFun (congrFun hWw 1) _)) (hw11 := fun s l => (wv_11 _ s l).trans (congrFun (congrFun hWw 1) _)) (hw20 := fun s l => (wv_20 _ s l).trans (congrFun (congrFun hWw 2) _)) (hw21 := fun s l => (wv_21 _ s l).trans (congrFun (congrFun hWw 2) _)) (hw30 := fun s l => (wv_30 _ s l).trans (congrFun (congrFun hWw 3) _)) (hw31 := fun s l => (wv_31 _ s l).trans (congrFun (congrFun hWw 3) _))
    (s0 := ((arg15.view.writes (Elt Ideal) arg15.view.junk runA.sl.H15_1), (arg16.view.writes (Elt Ideal) arg16.view.junk runA.sl.H16_1), X17, X19, X9, k0_pay132, k0_pay133, k0_pay134, k0_pay135, k0_pay136, k0_pay137, k0_pay138, k0_pay139, k0_pay140, k0_pay141)) (hx0 := (fun p g r l hp hg (hr : r < 8) hl => zero15 arg15 p g r l hp hg (by omega) hl)) (hd0 := (fun p g r l hp hg _ hr hl => zero16 arg16 p g r l hp hg hr hl)) 6 le_rfl
  unfold runA
  dsimp only
  dsimp only [runA.sl.r_12, runA.sl.r_13, runA.sl.r_14, runA.sl.r_15, runA.sl.r_16, runA.sl.r_17, runA.sl.r_18, at3]
  simp only [e, e'] at h ⊢
  generalize st3 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k0_pay108 (runA.sl.r_1 arg7 X7) (runA.sl.r_4 arg6 X6) (runA.sl.r_5 arg6 X6) (runA.sl.r_6 arg6 X6) (runA.sl.r_7 arg6 X6) (runA.sl.r_8 arg6 X6) (runA.sl.r_9 arg6 X6) (runA.sl.r_10 arg6 X6) (runA.sl.r_11 arg6 X6) X2 X4 _ _ _ (arg18.view.writes (Elt Ideal) arg18.view.junk (runA.sl.H18_9 arg6 X6)) _ 6 = s at h ⊢
  refine ⟨out_of_inv I arg9 arg10 arg11 arg15 arg16 arg17 arg19 X10 X11 _ s rfl h, fun p g r l hp hg hr hl => ?_, fun p g t l hp hg ht ht' hl => ?_, ?_, ?_, ?_⟩
  · exact (h.x0 p g r l hr).trans ((fun p g r l hp hg (hr : r < 8) hl => zero15 arg15 p g r l hp hg (by omega) hl) p g r l hp hg hr hl)
  · exact (h.d0 p g t l ht).trans ((fun p g r l hp hg _ hr hl => zero16 arg16 p g r l hp hg hr hl) p g t l hp hg ht ht' hl)
  all_goals first | rfl | trivial

end Cert.KernelIdeal.Hand
-- ==== Proof.IdealValB.lean ====
/-
  What a grid point inside a group of channels leaves: its output blocks, and the rows of the scratch buffers no trip writes.
-/
module

public import proofs.«01_k».proof.Proof.IdealVal
public import proofs.«01_k».proof.Proof.IdealRunB

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic

theorem runB_val (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : ¬cond0_0 i) (hc1 : ¬cond0_1 i) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (I : In)
    (hsc : rd3 (arg13.view.read (Elt Ideal) X13) = I.sc) (hx : rd3 (arg2.view.read (Elt Ideal) X2) = I.x)
    (hscy : rd3 (arg14.view.read (Elt Ideal) X14) = I.scy) (hy : rd3 (arg4.view.read (Elt Ideal) X4) = I.y)
    (hmk : rd4 (arg12.view.read (Elt Ideal) X12) = I.mk) (hbias : rd2 (arg7.view.read (Elt Ideal) X7) = I.bias) (hq : (i 1).val = I.q)
    (hwv : rd2 (arg6.view.read (Elt Ideal) X6) = I.wv) (hwh : ∀ k c, I.wh k c = I.wv k c * half)
    (hx0 : ∀ p g r l, p < 2 → g < 2 → r < 8 → l < 128 → rd4 (arg15.view.read (Elt Ideal) X15) p g r l = 0)
    (hd0 : ∀ p g t l, p < 2 → g < 2 → 256 ≤ t → t < 264 → l < 128 → rd4 (arg16.view.read (Elt Ideal) X16) p g t l = 0) :
    Out I arg9 arg10 arg11 (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).1 (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.1 (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.1
      ∧ (∀ p g r l, p < 2 → g < 2 → r < 8 → l < 128 → rd4 (arg15.view.read (Elt Ideal) (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.2.1) p g r l = 0)
      ∧ (∀ p g t l, p < 2 → g < 2 → 256 ≤ t → t < 264 → l < 128 → rd4 (arg16.view.read (Elt Ideal) (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.2.2.1) p g t l = 0)
      ∧ (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.1 = X12 ∧ (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.1 = X13 ∧ (runB (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.1 = X14 := by
  have hWw : rd2 (runB.sl.r (F := Ideal) arg6 X6) = I.wv := (ldw arg6 X6).trans hwv
  have hb : rd2 (runB.sl.r_1 (F := Ideal) arg7 X7) = I.bias := (ldb arg7 X7).trans hbias
  have hD : ∀ k a c, k < 4 → a < 256 → c < 256 → rd3 (arg18.view.read (Elt Ideal) (arg18.view.writes (Elt Ideal) arg18.view.junk (runB.sl.H18_9 (F := Ideal) arg6 X6))) k a c = if a = c then I.wh k c else 0 := by
    intro k a c hk ha hc
    refine (diag_val arg18 _ k a c hk ha hc).trans ?_
    rw [hwh, ← hwv]
    exact if_congr Iff.rfl (congrArg (· * half) (congrFun (congrFun (ldv arg6 X6) k) c)) rfl
  have e : (Scf.trips (0#32) (Scalar.addi 0#32 6#32) 1#32) = 6 := by decide
  have e' : Scf.trips k0_t3_loop.lb k0_t3_loop.ub k0_t3_loop.st = 6 := by decide
  have h := st3_inv 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k0_pay108 (runB.sl.r_1 arg7 X7) (runB.sl.r_4 arg6 X6) (runB.sl.r_5 arg6 X6) (runB.sl.r_6 arg6 X6) (runB.sl.r_7 arg6 X6) (runB.sl.r_8 arg6 X6) (runB.sl.r_9 arg6 X6) (runB.sl.r_10 arg6 X6) (runB.sl.r_11 arg6 X6) X2 X4 X12 X13 X14 (arg18.view.writes (Elt Ideal) arg18.view.junk (runB.sl.H18_9 arg6 X6))
    (I := I) (hE := eye_val) (hD := hD) (hsc := hsc) (hx := hx) (hscy := hscy) (hy := hy) (hmk := hmk) (hbias := hb) (hq := hq)
    (hw00 := fun s l => (wv_00 _ s l).trans (congrFun (congrFun hWw 0) _)) (hw01 := fun s l => (wv_01 _ s l).trans (congrFun (congrFun hWw 0) _)) (hw10 := fun s l => (wv_10 _ s l).trans (congrFun (congrFun hWw 1) _)) (hw11 := fun s l => (wv_11 _ s l).trans (congrFun (congrFun hWw 1) _)) (hw20 := fun s l => (wv_20 _ s l).trans (congrFun (congrFun hWw 2) _)) (hw21 := fun s l => (wv_21 _ s l).trans (congrFun (congrFun hWw 2) _)) (hw30 := fun s l => (wv_30 _ s l).trans (congrFun (congrFun hWw 3) _)) (hw31 := fun s l => (wv_31 _ s l).trans (congrFun (congrFun hWw 3) _))
    (s0 := (X15, X16, X17, X19, X9, k0_pay132, k0_pay133, k0_pay134, k0_pay135, k0_pay136, k0_pay137, k0_pay138, k0_pay139, k0_pay140, k0_pay141)) (hx0 := hx0) (hd0 := hd0) 6 le_rfl
  unfold runB
  dsimp only
  dsimp only [runB.sl.r_12, runB.sl.r_13, runB.sl.r_14, runB.sl.r_15, runB.sl.r_16, runB.sl.r_17, runB.sl.r_18, at3]
  simp only [e, e'] at h ⊢
  generalize st3 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k0_pay108 (runB.sl.r_1 arg7 X7) (runB.sl.r_4 arg6 X6) (runB.sl.r_5 arg6 X6) (runB.sl.r_6 arg6 X6) (runB.sl.r_7 arg6 X6) (runB.sl.r_8 arg6 X6) (runB.sl.r_9 arg6 X6) (runB.sl.r_10 arg6 X6) (runB.sl.r_11 arg6 X6) X2 X4 _ _ _ (arg18.view.writes (Elt Ideal) arg18.view.junk (runB.sl.H18_9 arg6 X6)) _ 6 = s at h ⊢
  refine ⟨out_of_inv I arg9 arg10 arg11 arg15 arg16 arg17 arg19 X10 X11 _ s rfl h, fun p g r l hp hg hr hl => ?_, fun p g t l hp hg ht ht' hl => ?_, ?_, ?_, ?_⟩
  · exact (h.x0 p g r l hr).trans (hx0 p g r l hp hg hr hl)
  · exact (h.d0 p g t l ht).trans (hd0 p g t l hp hg ht ht' hl)
  all_goals first | rfl | trivial

end Cert.KernelIdeal.Hand
-- ==== Proof.IdealValC.lean ====
/-
  What a grid point that starts a group of channels leaves: its output blocks, and the rows of the scratch buffers no trip writes.
-/
module

public import proofs.«01_k».proof.Proof.IdealVal
public import proofs.«01_k».proof.Proof.IdealRunC

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic

theorem runC_val (𝒱 : Variants) (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (hc0 : ¬cond0_0 i) (hc1 : cond0_1 i) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (I : In)
    (hsc : rd3 (arg13.view.read (Elt Ideal) (arg13.view.writes (Elt Ideal) X13 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).1)) = I.sc) (hx : rd3 (arg2.view.read (Elt Ideal) X2) = I.x)
    (hscy : rd3 (arg14.view.read (Elt Ideal) (arg14.view.writes (Elt Ideal) X14 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).2)) = I.scy) (hy : rd3 (arg4.view.read (Elt Ideal) X4) = I.y)
    (hmk : rd4 (arg12.view.read (Elt Ideal) X12) = I.mk) (hbias : rd2 (arg7.view.read (Elt Ideal) X7) = I.bias) (hq : (i 1).val = I.q)
    (hwv : rd2 (arg6.view.read (Elt Ideal) X6) = I.wv) (hwh : ∀ k c, I.wh k c = I.wv k c * half)
    (hx0 : ∀ p g r l, p < 2 → g < 2 → r < 8 → l < 128 → rd4 (arg15.view.read (Elt Ideal) X15) p g r l = 0)
    (hd0 : ∀ p g t l, p < 2 → g < 2 → 256 ≤ t → t < 264 → l < 128 → rd4 (arg16.view.read (Elt Ideal) X16) p g t l = 0) :
    Out I arg9 arg10 arg11 (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).1 (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.1 (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.1
      ∧ (∀ p g r l, p < 2 → g < 2 → r < 8 → l < 128 → rd4 (arg15.view.read (Elt Ideal) (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.2.1) p g r l = 0)
      ∧ (∀ p g t l, p < 2 → g < 2 → 256 ≤ t → t < 264 → l < 128 → rd4 (arg16.view.read (Elt Ideal) (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.2.2.1) p g t l = 0)
      ∧ (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.1 = X12 ∧ (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.1 = (arg13.view.writes (Elt Ideal) X13 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).1) ∧ (runC (F := Ideal) 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 X2 X3 X4 X5 X6 X7 X8 X9 X10 X11 X12 X13 X14 X15 X16 X17 X18 X19).2.2.2.2.2.1 = (arg14.view.writes (Elt Ideal) X14 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).2) := by
  have hWw : rd2 (runC.sl.r (F := Ideal) arg6 X6) = I.wv := (ldw arg6 X6).trans hwv
  have hb : rd2 (runC.sl.r_1 (F := Ideal) arg7 X7) = I.bias := (ldb arg7 X7).trans hbias
  have hD : ∀ k a c, k < 4 → a < 256 → c < 256 → rd3 (arg18.view.read (Elt Ideal) (arg18.view.writes (Elt Ideal) arg18.view.junk (runC.sl.H18_9 (F := Ideal) arg6 X6))) k a c = if a = c then I.wh k c else 0 := by
    intro k a c hk ha hc
    refine (diag_val arg18 _ k a c hk ha hc).trans ?_
    rw [hwh, ← hwv]
    exact if_congr Iff.rfl (congrArg (· * half) (congrFun (congrFun (ldv arg6 X6) k) c)) rfl
  have e : (Scf.trips (0#32) (Scalar.addi 0#32 6#32) 1#32) = 6 := by decide
  have e' : Scf.trips k0_t3_loop.lb k0_t3_loop.ub k0_t3_loop.st = 6 := by decide
  have h := st3_inv 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k0_pay108 (runC.sl.r_1 arg7 X7) (runC.sl.r_4 arg6 X6) (runC.sl.r_5 arg6 X6) (runC.sl.r_6 arg6 X6) (runC.sl.r_7 arg6 X6) (runC.sl.r_8 arg6 X6) (runC.sl.r_9 arg6 X6) (runC.sl.r_10 arg6 X6) (runC.sl.r_11 arg6 X6) X2 X4 X12 (arg13.view.writes (Elt Ideal) X13 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).1) (arg14.view.writes (Elt Ideal) X14 (pb_k0_t2 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 X3 X5 (Scf.trips (0#32) (Scalar.addi 0#32 6#32) 1#32)).2) (arg18.view.writes (Elt Ideal) arg18.view.junk (runC.sl.H18_9 arg6 X6))
    (I := I) (hE := eye_val) (hD := hD) (hsc := hsc) (hx := hx) (hscy := hscy) (hy := hy) (hmk := hmk) (hbias := hb) (hq := hq)
    (hw00 := fun s l => (wv_00 _ s l).trans (congrFun (congrFun hWw 0) _)) (hw01 := fun s l => (wv_01 _ s l).trans (congrFun (congrFun hWw 0) _)) (hw10 := fun s l => (wv_10 _ s l).trans (congrFun (congrFun hWw 1) _)) (hw11 := fun s l => (wv_11 _ s l).trans (congrFun (congrFun hWw 1) _)) (hw20 := fun s l => (wv_20 _ s l).trans (congrFun (congrFun hWw 2) _)) (hw21 := fun s l => (wv_21 _ s l).trans (congrFun (congrFun hWw 2) _)) (hw30 := fun s l => (wv_30 _ s l).trans (congrFun (congrFun hWw 3) _)) (hw31 := fun s l => (wv_31 _ s l).trans (congrFun (congrFun hWw 3) _))
    (s0 := (X15, X16, X17, X19, X9, k0_pay132, k0_pay133, k0_pay134, k0_pay135, k0_pay136, k0_pay137, k0_pay138, k0_pay139, k0_pay140, k0_pay141)) (hx0 := hx0) (hd0 := hd0) 6 le_rfl
  unfold runC
  dsimp only
  dsimp only [runC.sl.r_12, runC.sl.r_13, runC.sl.r_14, runC.sl.r_15, runC.sl.r_16, runC.sl.r_17, runC.sl.r_18, at3]
  simp only [e, e'] at h ⊢
  generalize st3 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k0_pay108 (runC.sl.r_1 arg7 X7) (runC.sl.r_4 arg6 X6) (runC.sl.r_5 arg6 X6) (runC.sl.r_6 arg6 X6) (runC.sl.r_7 arg6 X6) (runC.sl.r_8 arg6 X6) (runC.sl.r_9 arg6 X6) (runC.sl.r_10 arg6 X6) (runC.sl.r_11 arg6 X6) X2 X4 _ _ _ (arg18.view.writes (Elt Ideal) arg18.view.junk (runC.sl.H18_9 arg6 X6)) _ 6 = s at h ⊢
  refine ⟨out_of_inv I arg9 arg10 arg11 arg15 arg16 arg17 arg19 X10 X11 _ s rfl h, fun p g r l hp hg hr hl => ?_, fun p g t l hp hg ht ht' hl => ?_, ?_, ?_, ?_⟩
  · exact (h.x0 p g r l hr).trans (hx0 p g r l hp hg hr hl)
  · exact (h.d0 p g t l ht).trans (hd0 p g t l hp hg ht ht' hl)
  all_goals first | rfl | trivial

end Cert.KernelIdeal.Hand
-- ==== Proof.IdealBodyVal.lean ====
/-
  The body at a grid point with the values it leaves in its output blocks and carries in its scratch buffers.
-/
module

public import proofs.«01_k».proof.Proof.IdealT1
public import proofs.«01_k».proof.Proof.IdealT2
public import proofs.«01_k».proof.Proof.IdealValA
public import proofs.«01_k».proof.Proof.IdealValB
public import proofs.«01_k».proof.Proof.IdealValC
public import proofs.«01_k».proof.Proof.IdealFrame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The rows above the dequantized input's block are zero. -/
def Z15 (d : S2x2x272x128.Idx → EReal) : Prop := ∀ p g r l, p < 2 → g < 2 → r < 8 → l < 128 → rd4 d p g r l = 0

/-- The rows below the gradient's block are zero. -/
def Z16 (d : S2x2x264x128.Idx → EReal) : Prop := ∀ p g t l, p < 2 → g < 2 → 256 ≤ t → t < 264 → l < 128 → rd4 d p g t l = 0

theorem ext3 {n0 n1 n2 : ℕ} {α : Type} [Inhabited α] {X Y : (⟨3, ![n0, n1, n2]⟩ : Shape).Idx → α}
    (h : ∀ i j k, i < n0 → j < n1 → k < n2 → rd3 X i j k = rd3 Y i j k) : X = Y :=
  rd3_congr fun i j k => (at3' X i j k).trans ((h _ _ _ i.isLt j.isLt k.isLt).trans (at3' Y i j k).symm)

theorem ext4 {n0 n1 n2 n3 : ℕ} {α : Type} [Inhabited α] {X Y : (⟨4, ![n0, n1, n2, n3]⟩ : Shape).Idx → α}
    (h : ∀ i j k l, i < n0 → j < n1 → k < n2 → l < n3 → rd4 X i j k l = rd4 Y i j k l) : X = Y :=
  rd4_congr fun i j k l => (at4 X i j k l).trans ((h _ _ _ _ i.isLt j.isLt k.isLt l.isLt).trans (at4 Y i j k l).symm)

theorem trips6 : Scf.trips (0#32) (Scalar.addi 0#32 6#32) 1#32 = 6 := by decide +kernel

theorem v172_val (t : Fin 264) (l : Fin 128) : runA.sl.v172 (ix2 t l) = BitVec.ofNat 32 t.val := by
  dsimp only [runA.sl.v172]
  pointwise []

section
variable (c : Dev nD) (i : grid0.Coords) (arg2 : Memref sig .tc .vmem S6x256x256 .fp8e4m3) (harg2 : arg2.IsWhole) (arg3 : Memref sig .tc .vmem S6x8x256 .f32) (harg3 : arg3.IsWhole) (arg4 : Memref sig .tc .vmem S6x256x256 .fp8e5m2) (harg4 : arg4.IsWhole) (arg5 : Memref sig .tc .vmem S6x8x256 .f32) (harg5 : arg5.IsWhole) (arg6 : Memref sig .tc .vmem S4x256 .bf16) (harg6 : arg6.IsWhole) (arg7 : Memref sig .tc .vmem S1x256 .f32) (harg7 : arg7.IsWhole) (arg8 : Memref sig .tc .smem S6x17 .i32) (harg8 : arg8.IsWhole) (arg9 : Memref sig .tc .vmem S6x256x256 .bf16) (harg9 : arg9.IsWhole) (arg10 : Memref sig .tc .vmem S4x256 .f32) (harg10 : arg10.IsWhole) (arg11 : Memref sig .tc .vmem S1x256 .f32) (harg11 : arg11.IsWhole) (arg12 : Memref sig .tc .vmem S6x3x264x128 .i32) (harg12 : arg12.IsWhole) (arg13 : Memref sig .tc .vmem S8x6x256 .f32) (harg13 : arg13.IsWhole) (arg14 : Memref sig .tc .vmem S8x6x256 .f32) (harg14 : arg14.IsWhole) (arg15 : Memref sig .tc .vmem S2x2x272x128 .f32) (harg15 : arg15.IsWhole) (arg16 : Memref sig .tc .vmem S2x2x264x128 .f32) (harg16 : arg16.IsWhole) (arg17 : Memref sig .tc .vmem S2x2x256x128 .f32) (harg17 : arg17.IsWhole) (arg18 : Memref sig .tc .vmem S4x256x256 .bf16) (harg18 : arg18.IsWhole) (arg19 : Memref sig .tc .vmem S2x2x256x128 .f32) (harg19 : arg19.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (I : In)
  (mka : S6x3x264x128.Idx → BitVec 32) (sca scya : S8x6x256.Idx → EReal)
  (hsc : rd3 sca = I.sc) (hx : rd3 (arg2.view.read (Elt Ideal) X2) = I.x)
  (hscy : rd3 scya = I.scy) (hy : rd3 (arg4.view.read (Elt Ideal) X4) = I.y)
  (hmk : rd4 mka = I.mk) (hbias : rd2 (arg7.view.read (Elt Ideal) X7) = I.bias) (hq : (i 1).val = I.q)
  (hwv : rd2 (arg6.view.read (Elt Ideal) X6) = I.wv) (hwh : ∀ k c, I.wh k c = I.wv k c * half)
  (H1 : ∀ b s t l, b < 6 → s < 3 → t < 264 → l < 128 → rd4 mka b s t l = MK (rd2 (arg8.view.read (Elt Ideal) X8)) b s t)
  (H3 : ∀ g b t, g < 8 → b < 6 → t < 256 → rd3 sca g b t = rd3 (arg3.view.read (Elt Ideal) X3) b g t)
  (H5 : ∀ g b t, g < 8 → b < 6 → t < 256 → rd3 scya g b t = rd3 (arg5.view.read (Elt Ideal) X5) b g t)
  (N0 : ¬ cond0_0 i → arg12.view.read (Elt Ideal) X12 = mka ∧ Z15 (arg15.view.read (Elt Ideal) X15) ∧ Z16 (arg16.view.read (Elt Ideal) X16))
  (N1 : ¬ cond0_1 i → arg13.view.read (Elt Ideal) X13 = sca ∧ arg14.view.read (Elt Ideal) X14 = scya)

include H1 in
theorem m12 (h : cond0_0 i) : arg12.view.read (Elt Ideal) (arg12.view.writes (Elt Ideal) X12 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h runA.sl.v172 X8 (Scf.trips (0#32) (Scalar.addi 0#32 6#32) 1#32))) = mka :=
  ext4 fun b s t l hb hs ht hl => (pb1_m Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 h runA.sl.v172 v172_val X12 (Scf.trips (0#32) (Scalar.addi 0#32 6#32) 1#32) (by rw [trips6]) b s t l hs ht hl).trans
    ((if_pos (by rw [trips6]; exact hb)).trans (H1 b s t l hb hs ht hl).symm)

include H3 in
theorem m13 (h : cond0_1 i) : arg13.view.read (Elt Ideal) (arg13.view.writes (Elt Ideal) X13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X3 X5 (Scf.trips (0#32) (Scalar.addi 0#32 6#32) 1#32)).1) = sca :=
  ext3 fun g b t hg hb ht => (pb2_x Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 h X13 (Scf.trips (0#32) (Scalar.addi 0#32 6#32) 1#32) (by rw [trips6]) g b t ht).trans
    ((if_pos ⟨by rw [trips6]; exact hb, hg⟩).trans (H3 g b t hg hb ht).symm)

include H5 in
theorem m14 (h : cond0_1 i) : arg14.view.read (Elt Ideal) (arg14.view.writes (Elt Ideal) X14 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X3 X5 (Scf.trips (0#32) (Scalar.addi 0#32 6#32) 1#32)).2) = scya :=
  ext3 fun g b t hg hb ht => (pb2_y Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 h X14 (Scf.trips (0#32) (Scalar.addi 0#32 6#32) 1#32) (by rw [trips6]) g b t ht).trans
    ((if_pos ⟨by rw [trips6]; exact hb, hg⟩).trans (H5 g b t hg hb ht).symm)

/-- What a point leaves: its output blocks, and in the scratch buffers what the next points read. -/
def Left (s9 : BufTy.Contents (Elt Ideal) arg9.view.ty) (s10 : BufTy.Contents (Elt Ideal) arg10.view.ty) (s11 : BufTy.Contents (Elt Ideal) arg11.view.ty)
    (s12 : BufTy.Contents (Elt Ideal) arg12.view.ty) (s13 : BufTy.Contents (Elt Ideal) arg13.view.ty) (s14 : BufTy.Contents (Elt Ideal) arg14.view.ty)
    (s15 : BufTy.Contents (Elt Ideal) arg15.view.ty) (s16 : BufTy.Contents (Elt Ideal) arg16.view.ty) : Prop :=
  Out I arg9 arg10 arg11 s9 s10 s11 ∧ arg12.view.read (Elt Ideal) s12 = mka ∧ arg13.view.read (Elt Ideal) s13 = sca ∧ arg14.view.read (Elt Ideal) s14 = scya
    ∧ Z15 (arg15.view.read (Elt Ideal) s15) ∧ Z16 (arg16.view.read (Elt Ideal) s16)

include hsc hx hscy hy hmk hbias hq hwv hwh H1 H3 H5 N0 N1 in
theorem body_val (E : Set ℕ) :
    Body (F := Ideal) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp Idealize.ShloMosaic.frame (wpE (defs₀ (F := Ideal)) Variants.none (c : Thread nD τ) none) E (cc0_conv_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ s9 s10 s11 s12 s13 s14 s15 s16 s17 s18 s19, ⌜Left arg9 arg10 arg11 arg12 arg13 arg14 arg15 arg16 I mka sca scya s9 s10 s11 s12 s13 s14 s15 s16⌝ ∗ Body (F := Ideal) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19)) := by
  have key : ∀ s9 s10 s11 s12 s13 s14 s15 s16 s17 s18 s19, Left arg9 arg10 arg11 arg12 arg13 arg14 arg15 arg16 I mka sca scya s9 s10 s11 s12 s13 s14 s15 s16 → (Body (F := Ideal) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp Idealize.ShloMosaic.frame (wpE (defs₀ (F := Ideal)) Variants.none (c : Thread nD τ) none) E (cc0_conv_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Body (F := Ideal) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19)) →
      (Body (F := Ideal) c arg2 arg3 arg4 arg5 arg6 arg7 arg8 arg9 arg10 arg11 arg12 arg13 arg14 arg15 arg16 arg17 arg18 arg19 X2 X3 X4 X5 X6 X7 X8 X9 X10 X11 X12 X13 X14 X15 X16 X17 X18 X19
      ⊢ wp Idealize.ShloMosaic.frame (wpE (defs₀ (F := Ideal)) Variants.none (c : Thread nD τ) none) E (cc0_conv_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ s9 s10 s11 s12 s13 s14 s15 s16 s17 s18 s19, ⌜Left arg9 arg10 arg11 arg12 arg13 arg14 arg15 arg16 I mka sca scya s9 s10 s11 s12 s13 s14 s15 s16⌝ ∗ Body (F := Ideal) c arg2 arg3 arg4 arg5 arg6 arg7 arg8 arg9 arg10 arg11 arg12 arg13 arg14 arg15 arg16 arg17 arg18 arg19 X2 X3 X4 X5 X6 X7 X8 s9 s10 s11 s12 s13 s14 s15 s16 s17 s18 s19))) := by
    intro s9 s10 s11 s12 s13 s14 s15 s16 s17 s18 s19 hL h
    iintro H
    iapply (wp_wand_r Idealize.ShloMosaic.frame (wpE (defs₀ (F := Ideal)) Variants.none (c : Thread nD τ) none) E)
    isplitl [H]
    · iapply h; iexact H
    · iintro %_ H
      iexists s9, s10, s11, s12, s13, s14, s15, s16, s17, s18, s19
      isplitr
      · ipureintro; exact hL
      · iexact H
  by_cases h0 : cond0_0 i
  · have h1 : cond0_1 i := cond_of_first i h0
    obtain ⟨r1, r2, r3, r4, r5, r6⟩ := runA_val Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19 I
      ((congrArg rd3 (m13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X13 sca H3 h1)).trans hsc) hx
      ((congrArg rd3 (m14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X14 scya H5 h1)).trans hscy) hy
      ((congrArg rd4 (m12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 mka H1 h0)).trans hmk) hbias hq hwv hwh
    exact key _ _ _ _ _ _ _ _ _ _ _ ⟨r1, (congrArg _ r4).trans (m12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 mka H1 h0), (congrArg _ r5).trans (m13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X13 sca H3 h1),
      (congrArg _ r6).trans (m14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X14 scya H5 h1), r2, r3⟩
      ((runA (F := Ideal) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
  · obtain ⟨n12, n15, n16⟩ := N0 h0
    by_cases h1 : cond0_1 i
    · obtain ⟨r1, r2, r3, r4, r5, r6⟩ := runC_val Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19 I
        ((congrArg rd3 (m13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X13 sca H3 h1)).trans hsc) hx
        ((congrArg rd3 (m14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X14 scya H5 h1)).trans hscy) hy
        ((congrArg rd4 n12).trans hmk) hbias hq hwv hwh n15 n16
      exact key _ _ _ _ _ _ _ _ _ _ _ ⟨r1, (congrArg _ r4).trans n12, (congrArg _ r5).trans (m13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X13 sca H3 h1),
        (congrArg _ r6).trans (m14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X5 X14 scya H5 h1), r2, r3⟩
        ((runC (F := Ideal) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
    · obtain ⟨n13, n14⟩ := N1 h1
      obtain ⟨r1, r2, r3, r4, r5, r6⟩ := runB_val Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19 I
        ((congrArg rd3 n13).trans hsc) hx ((congrArg rd3 n14).trans hscy) hy
        ((congrArg rd4 n12).trans hmk) hbias hq hwv hwh n15 n16
      exact key _ _ _ _ _ _ _ _ _ _ _ ⟨r1, (congrArg _ r4).trans n12, (congrArg _ r5).trans n13, (congrArg _ r6).trans n14, r2, r3⟩
        ((runB (F := Ideal) Variants.none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 X2 X3 X4 X5 X6 X7 X8 X9 X10 X11 X12 X13 X14 X15 X16 X17 X18 X19).2.2.2.2.2.2.2.2.2.2.2 E)
end
end Cert.KernelIdeal.Hand
-- ==== Proof.IdealRunVal.lean ====
/-
  The kernel's run with the values it leaves: what every grid point leaves in its output blocks, and what the scratch
  buffers carry from one point to the next.
-/
module

public import proofs.«01_k».proof.Proof.IdealBodyVal
public import Idealize.ShloMosaic.Lib.Pipeline.ValueKit

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem idx : ∀ t : Fin cfg0.N, win0_0.index t = ![0, 0, t.val] ∧ win0_1.index t = ![0, t.val / 4, 0]
    ∧ win0_2.index t = ![0, 0, t.val] ∧ win0_3.index t = ![0, t.val / 4, 0] ∧ win0_4.index t = ![0, t.val]
    ∧ win0_5.index t = ![0, t.val] ∧ win0_6.index t = ![0, 0] ∧ win0_7.index t = ![0, 0, t.val]
    ∧ win0_8.index t = ![0, t.val] ∧ win0_9.index t = ![0, t.val] :=
  (by decide +kernel : ∀ t : Fin grid0.N, _)

theorem place : ∀ t : Fin cfg0.N, (grid0.coords t 1).val = t.val % 4 := (by decide +kernel : ∀ t : Fin grid0.N, _)

theorem lt_N (t : Fin cfg0.N) : t.val < 56 := Nat.lt_of_lt_of_eq t.isLt N_0

/-- The masks, from the document boundaries. -/
def MKA (c : Dev nD) : S6x3x264x128.Idx → BitVec 32 :=
  fun y => MK (rd2 (α := BitVec 32) (n0 := 6) (n1 := 17) (V m c main_arg6)) (y 0).val (y 1).val (y 2).val

/-- The scales of the eight channel groups at place `q`. -/
def SCX (c : Dev nD) (q : ℕ) : S8x6x256.Idx → EReal :=
  fun y => rd3 (α := EReal) (n0 := 6) (n1 := 112) (n2 := 256) (V m c main_v0) (y 1).val (8 * q + (y 0).val) (y 2).val

/-- The scales of the output gradient likewise. -/
def SCY (c : Dev nD) (q : ℕ) : S8x6x256.Idx → EReal :=
  fun y => rd3 (α := EReal) (n0 := 6) (n1 := 112) (n2 := 256) (V m c main_v1) (y 1).val (8 * q + (y 0).val) (y 2).val

/-- What the point `t` computes from. -/
def IN (c : Dev nD) (t : Fin cfg0.N) : In where
  sc := rd3 (SCX m c (t.val / 4))
  x := rd3 (α := EReal) (n0 := 6) (n1 := 256) (n2 := 256) (iblk m c 0 t)
  scy := rd3 (SCY m c (t.val / 4))
  y := rd3 (α := EReal) (n0 := 6) (n1 := 256) (n2 := 256) (iblk m c 2 t)
  mk := rd4 (MKA m c)
  wh := fun k ch => rd2 (α := EReal) (n0 := 4) (n1 := 256) (iblk m c 4 t) k ch * half
  wv := rd2 (α := EReal) (n0 := 4) (n1 := 256) (iblk m c 4 t)
  bias := rd2 (α := EReal) (n0 := 1) (n1 := 256) (iblk m c 5 t)
  q := t.val % 4

theorem blk1 (c : Dev nD) (t : Fin cfg0.N) (b g r : ℕ) (hb : b < 6) (hg : g < 8) (hr : r < 256) :
    rd3 (α := EReal) (n0 := 6) (n1 := 8) (n2 := 256) (iblk m c 1 t) b g r
      = rd3 (α := EReal) (n0 := 6) (n1 := 112) (n2 := 256) (V m c main_v0) b (8 * (t.val / 4) + g) r := by
  have ht := lt_N t
  refine (at3' (α := EReal) (n0 := 6) (n1 := 8) (n2 := 256) (iblk m c 1 t) ⟨b, hb⟩ ⟨g, hg⟩ ⟨r, hr⟩).symm.trans (Eq.trans ?_
    (at3' (α := EReal) (n0 := 6) (n1 := 112) (n2 := 256) (V m c main_v0) ⟨b, hb⟩ ⟨8 * (t.val / 4) + g, by omega⟩ ⟨r, hr⟩))
  unfold iblk
  blk_ext [idx t]

theorem blk3 (c : Dev nD) (t : Fin cfg0.N) (b g r : ℕ) (hb : b < 6) (hg : g < 8) (hr : r < 256) :
    rd3 (α := EReal) (n0 := 6) (n1 := 8) (n2 := 256) (iblk m c 3 t) b g r
      = rd3 (α := EReal) (n0 := 6) (n1 := 112) (n2 := 256) (V m c main_v1) b (8 * (t.val / 4) + g) r := by
  have ht := lt_N t
  refine (at3' (α := EReal) (n0 := 6) (n1 := 8) (n2 := 256) (iblk m c 3 t) ⟨b, hb⟩ ⟨g, hg⟩ ⟨r, hr⟩).symm.trans (Eq.trans ?_
    (at3' (α := EReal) (n0 := 6) (n1 := 112) (n2 := 256) (V m c main_v1) ⟨b, hb⟩ ⟨8 * (t.val / 4) + g, by omega⟩ ⟨r, hr⟩))
  unfold iblk
  blk_ext [idx t]

theorem blk6 (c : Dev nD) (t : Fin cfg0.N) : (iblk m c 6 t : S6x17.Idx → BitVec 32) = V m c main_arg6 := by
  funext y
  obtain ⟨i, j, rfl⟩ : ∃ (i : Fin 6) (j : Fin 17), y = ix2 i j := ⟨y 0, y 1, by funext a; fin_cases a <;> rfl⟩
  unfold iblk
  blk_ext [idx t]

theorem SCX_at (c : Dev nD) (q g b r : ℕ) (hg : g < 8) (hb : b < 6) (hr : r < 256) :
    rd3 (SCX m c q) g b r = rd3 (α := EReal) (n0 := 6) (n1 := 112) (n2 := 256) (V m c main_v0) b (8 * q + g) r :=
  (at3' (SCX m c q) ⟨g, hg⟩ ⟨b, hb⟩ ⟨r, hr⟩).symm

theorem SCY_at (c : Dev nD) (q g b r : ℕ) (hg : g < 8) (hb : b < 6) (hr : r < 256) :
    rd3 (SCY m c q) g b r = rd3 (α := EReal) (n0 := 6) (n1 := 112) (n2 := 256) (V m c main_v1) b (8 * q + g) r :=
  (at3' (SCY m c q) ⟨g, hg⟩ ⟨b, hb⟩ ⟨r, hr⟩).symm

theorem MKA_at (c : Dev nD) (b s t l : ℕ) (hb : b < 6) (hs : s < 3) (ht : t < 264) (hl : l < 128) :
    rd4 (MKA m c) b s t l = MK (rd2 (α := BitVec 32) (n0 := 6) (n1 := 17) (V m c main_arg6)) b s t :=
  (at4 (MKA m c) ⟨b, hb⟩ ⟨s, hs⟩ ⟨t, ht⟩ ⟨l, hl⟩).symm

/-- The scratch buffers after a point of the channel group `q`. -/
def ST (c : Dev nD) (q : ℕ) : sProp 𝕄 :=
  iprop((owns (c : Thread nD τ) scM0_0 fullShare (MKA m c) ∗ owns (c : Thread nD τ) scM0_1 fullShare (SCX m c q)
    ∗ owns (c : Thread nD τ) scM0_2 fullShare (SCY m c q)
    ∗ (∃ d, ⌜Z15 d⌝ ∗ owns (c : Thread nD τ) scM0_3 fullShare d) ∗ (∃ d, ⌜Z16 d⌝ ∗ owns (c : Thread nD τ) scM0_4 fullShare d)
    ∗ (∃ d, owns (c : Thread nD τ) scM0_5 fullShare d) ∗ (∃ d, owns (c : Thread nD τ) scM0_6 fullShare d)
    ∗ (∃ d, owns (c : Thread nD τ) scM0_7 fullShare d)) ∗ (∃ r, prngReg c r))

/-- What the point `t` leaves of the input's gradient, -/
def odx (c : Dev nD) (t : Fin cfg0.N) : S6x256x256.Idx → EReal := fun y => (IN m c t).dx (y 0).val (y 1).val (y 2).val
/-- of the weights' -/
def odw (c : Dev nD) (t : Fin cfg0.N) : S4x256.Idx → EReal := fun y =>
  ∑ u : Fin 8, ∑ b ∈ Finset.range 6, ∑ r ∈ Finset.range 32, (IN m c t).dw (y 0).val b ((y 1).val / 128) (8 * r + u.val) ((y 1).val % 128)
/-- and of the bias's. -/
def odb (c : Dev nD) (t : Fin cfg0.N) : S1x256.Idx → EReal := fun y =>
  ∑ u : Fin 8, ∑ b ∈ Finset.range 6, ∑ r ∈ Finset.range 32, (IN m c t).dz b ((y 1).val / 128) (8 * r + u.val) ((y 1).val % 128)

/-- The proof data of the pipeline: the arrays as the region finds them; each input's buffer at its block, each output's at
    its values; the invariant that after the first point the scratch buffers hold what `ST` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => odx m c t
    | ⟨8, _⟩ => odw m c t
    | ⟨9, _⟩ => odb m c t
  Φ k := if k.val = 0 then Pipeline.ΦA spec0 c else ST m c ((k.val - 1) / 4)
  q _ := fullShare
  owed _ := 0

theorem A_eq (c : Dev nD) (w : Fin cfg0.W) : (dats m 0 c).A w = V m c (Pipeline.arrRef spec0 w) := by
  dsimp only [dats]

theorem Phi_eq (c : Dev nD) (k : Fin (cfg0.N + 1)) : (dats m 0 c).Φ k = if k.val = 0 then Pipeline.ΦA spec0 c else ST m c ((k.val - 1) / 4) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = odx m c t := by dsimp only [dats]
theorem after0_8 (c : Dev nD) (t : Fin cfg0.N) : (dats m 0 c).after 8 t = odw m c t := by dsimp only [dats]
theorem after0_9 (c : Dev nD) (t : Fin cfg0.N) : (dats m 0 c).after 9 t = odb m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, `P` what the invariant says, -/
def bodyPre (P : sProp 𝕄) (c : Dev nD) (t : Fin cfg0.N) : sProp 𝕄 :=
  iprop(P ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- What the scratch buffers hold when a point's body starts. -/
def Held (c : Dev nD) (t : Fin cfg0.N) (d12 : S6x3x264x128.Idx → BitVec 32) (d13 d14 : S8x6x256.Idx → EReal)
    (d15 : S2x2x272x128.Idx → EReal) (d16 : S2x2x264x128.Idx → EReal) : Prop :=
  (¬ cond0_0 (grid0.coords t) → d12 = MKA m c ∧ Z15 d15 ∧ Z16 d16)
    ∧ (¬ cond0_1 (grid0.coords t) → d13 = SCX m c (t.val / 4) ∧ d14 = SCY m c (t.val / 4))

/-- The scratch buffers at some contents. -/
def Scr (c : Dev nD) (d12 : S6x3x264x128.Idx → BitVec 32) (d13 d14 : S8x6x256.Idx → EReal)
    (d15 : S2x2x272x128.Idx → EReal) (d16 : S2x2x264x128.Idx → EReal) (d17 : S2x2x256x128.Idx → EReal)
    (d18 : S4x256x256.Idx → EReal) (d19 : S2x2x256x128.Idx → EReal) : sProp 𝕄 :=
  iprop(owns (c : Thread nD τ) scM0_0 fullShare d12 ∗ owns (c : Thread nD τ) scM0_1 fullShare d13 ∗ owns (c : Thread nD τ) scM0_2 fullShare d14 ∗ owns (c : Thread nD τ) scM0_3 fullShare d15 ∗ owns (c : Thread nD τ) scM0_4 fullShare d16 ∗ owns (c : Thread nD τ) scM0_5 fullShare d17 ∗ owns (c : Thread nD τ) scM0_6 fullShare d18 ∗ owns (c : Thread nD τ) scM0_7 fullShare d19)

theorem Phi_pre (c : Dev nD) (t : Fin cfg0.N) : (dats m 0 c).Φ t.castSucc
    ⊢ iprop((∃ d12 d13 d14 d15 d16 d17 d18 d19, ⌜Held m c t d12 d13 d14 d15 d16⌝ ∗ Scr c d12 d13 d14 d15 d16 d17 d18 d19) ∗ (∃ r, prngReg c r)) := by
  have ht := lt_N t
  by_cases h : t.val = 0
  · rw [show (dats m 0 c).Φ t.castSucc = Pipeline.ΦA spec0 c from if_pos h, PhiA0_eq]
    iintro ⟨⟨⟨%d12, H12⟩, ⟨%d13, H13⟩, ⟨%d14, H14⟩, ⟨%d15, H15⟩, ⟨%d16, H16⟩, ⟨%d17, H17⟩, ⟨%d18, H18⟩, ⟨%d19, H19⟩⟩, Hg⟩
    isplitl [H12 H13 H14 H15 H16 H17 H18 H19]
    · iexists d12, d13, d14, d15, d16, d17, d18, d19
      isplitr
      · ipureintro
        exact ⟨fun h0 => absurd ((hcond0_0 t).mpr (by omega)) h0, fun h1 => absurd ((hcond0_1 t).mpr (by omega)) h1⟩
      · unfold Scr
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
    · iexact Hg
  · rw [show (dats m 0 c).Φ t.castSucc = ST m c ((t.val - 1) / 4) from if_neg h]
    unfold ST
    iintro ⟨⟨H12, H13, H14, ⟨%d15, %z15, H15⟩, ⟨%d16, %z16, H16⟩, ⟨%d17, H17⟩, ⟨%d18, H18⟩, ⟨%d19, H19⟩⟩, Hg⟩
    isplitl [H12 H13 H14 H15 H16 H17 H18 H19]
    · iexists MKA m c, SCX m c ((t.val - 1) / 4), SCY m c ((t.val - 1) / 4), d15, d16, d17, d18, d19
      isplitr
      · ipureintro
        refine ⟨fun _ => ⟨rfl, z15, z16⟩, fun h1 => ?_⟩
        have h4 : ¬ t.val % 4 = 0 := fun h4 => h1 ((hcond0_1 t).mpr h4)
        have e : (t.val - 1) / 4 = t.val / 4 := by omega
        rw [e]
        exact ⟨rfl, rfl⟩
      · unfold Scr
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
    · iexact Hg

theorem out_dx (c : Dev nD) (t : Fin cfg0.N) {X : S6x256x256.Idx → EReal}
    (h : ∀ b r ch, b < 6 → r < 256 → ch < 256 → rd3 X b r ch = (IN m c t).dx b r ch) : X = odx m c t :=
  rd3_congr fun i j k => (at3' X i j k).trans (h _ _ _ i.isLt j.isLt k.isLt)

theorem out_dw (c : Dev nD) (t : Fin cfg0.N) {X : S4x256.Idx → EReal}
    (h : ∀ k ch, k < 4 → ch < 256 → rd2 X k ch
      = ∑ u : Fin 8, ∑ b ∈ Finset.range 6, ∑ r ∈ Finset.range 32, (IN m c t).dw k b (ch / 128) (8 * r + u.val) (ch % 128)) : X = odw m c t := by
  funext y
  obtain ⟨i, j, rfl⟩ : ∃ (i : Fin 4) (j : Fin 256), y = ix2 i j := ⟨y 0, y 1, by funext a; fin_cases a <;> rfl⟩
  exact (at2 X i j).trans (h _ _ i.isLt j.isLt)

theorem out_db (c : Dev nD) (t : Fin cfg0.N) {X : S1x256.Idx → EReal}
    (h : ∀ ch, ch < 256 → rd2 X 0 ch
      = ∑ u : Fin 8, ∑ b ∈ Finset.range 6, ∑ r ∈ Finset.range 32, (IN m c t).dz b (ch / 128) (8 * r + u.val) (ch % 128)) : X = odb m c t := by
  funext y
  obtain ⟨i, j, rfl⟩ : ∃ (i : Fin 1) (j : Fin 256), y = ix2 i j := ⟨y 0, y 1, by funext a; fin_cases a <;> rfl⟩
  have e : i = 0 := Subsingleton.elim _ _
  subst e
  exact (at2 X 0 j).trans (h _ j.isLt)

set_option maxHeartbeats 4000000 in
/-- The body at any point. -/
theorem sound_held (c : Dev nD) (t : Fin cfg0.N) :
    bodyPre m iprop((∃ d12 d13 d14 d15 d16 d17 d18 d19, ⌜Held m c t d12 d13 d14 d15 d16⌝ ∗ Scr c d12 d13 d14 d15 d16 d17 d18 d19) ∗ (∃ r, prngReg c r)) c t ⊢ wp Idealize.ShloMosaic.frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [after0_7, after0_8, after0_9]
  rw [show (dats m 0 c).Φ t.succ = ST m c (t.val / 4) from (Phi_eq m c t.succ).trans (if_neg (Nat.succ_ne_zero _))]
  unfold ST Scr
  unfold owns
  iintro ⟨⟨⟨%d12, %d13, %d14, %d15, %d16, %d17, %d18, %d19, %held, ⟨%f12, %hf12, H12⟩, ⟨%f13, %hf13, H13⟩, ⟨%f14, %hf14, H14⟩, ⟨%f15, %hf15, H15⟩, ⟨%f16, %hf16, H16⟩, ⟨%f17, -, H17⟩, ⟨%f18, -, H18⟩, ⟨%f19, -, H19⟩⟩, Hg⟩, Ho, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩, ⟨%d10, %f10, -, H10⟩, ⟨%d11, %f11, -, H11⟩⟩
  iapply (wp_wand_r Idealize.ShloMosaic.frame (wpE (defs₀ (F := Ideal)) Variants.none (c : Thread nD τ) none) Set.univ)
  isplitl [H2 H3 H4 H5 H6 H7 H8 H9 H10 H11 H12 H13 H14 H15 H16 H17 H18 H19]
  · iapply (body_val c (grid0.coords t) _ (hs0_0 t) _ (hs0_1 t) _ (hs0_2 t) _ (hs0_3 t) _ (hs0_4 t) _ (hs0_5 t) _ (hs0_6 t) _ (hs0_7 t) _ (hs0_8 t) _ (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) f2 f3 f4 f5 f6 f7 f8 f9 f10 f11 f12 f13 f14 f15 f16 f17 f18 f19 (IN m c t) (MKA m c) (SCX m c (t.val / 4)) (SCY m c (t.val / 4))
      rfl (congrArg rd3 hf2) rfl (congrArg rd3 hf4) rfl (congrArg rd2 hf7) (place t) (congrArg rd2 hf6) (fun _ _ => rfl)
      (fun b s r l hb hs hr hl => (MKA_at m c b s r l hb hs hr hl).trans (congrArg (fun X => MK (rd2 X) b s r) (hf8.trans (blk6 m c t)).symm))
      (fun g b r hg hb hr => (SCX_at m c _ g b r hg hb hr).trans ((blk1 m c t b g r hb hg hr).symm.trans (congrArg (fun X => rd3 X b g r) hf3.symm)))
      (fun g b r hg hb hr => (SCY_at m c _ g b r hg hb hr).trans ((blk3 m c t b g r hb hg hr).symm.trans (congrArg (fun X => rd3 X b g r) hf5.symm)))
      (fun h0 => ⟨hf12.trans (held.1 h0).1, hf15 ▸ (held.1 h0).2.1, hf16 ▸ (held.1 h0).2.2⟩)
      (fun h1 => ⟨hf13.trans (held.2 h1).1, hf14.trans (held.2 h1).2⟩) Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro %_ ⟨%s9, %s10, %s11, %s12, %s13, %s14, %s15, %s16, %s17, %s18, %s19, %left, H2, H3, H4, H5, H6, H7, H8, H9, H10, H11, H12, H13, H14, H15, H16, H17, H18, H19⟩
    isplitl [H12 H13 H14 H15 H16 H17 H18 H19 Hg]
    · isplitl [H12 H13 H14 H15 H16 H17 H18 H19]
      isplitl [H12]
      · iexists _; isplitr; swap; · iexact H12
        ipureintro; exact left.2.1
      isplitl [H13]
      · iexists _; isplitr; swap; · iexact H13
        ipureintro; exact left.2.2.1
      isplitl [H14]
      · iexists _; isplitr; swap; · iexact H14
        ipureintro; exact left.2.2.2.1
      isplitl [H15]
      · iexists _; isplitr; · ipureintro; exact left.2.2.2.2.1
        iexists _; isplitr; swap; · iexact H15
        ipureintro; rfl
      isplitl [H16]
      · iexists _; isplitr; · ipureintro; exact left.2.2.2.2.2
        iexists _; isplitr; swap; · iexact H16
        ipureintro; rfl
      isplitl [H17]
      · iexists _, _; isplitr; swap; · iexact H17
        ipureintro; rfl
      isplitl [H18]
      · iexists _, _; isplitr; swap; · iexact H18
        ipureintro; rfl

      · iexists _, _; isplitr; swap; · iexact H19
        ipureintro; rfl
      iexact Hg
    isplitl [Ho]; · iexact Ho
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact out_dx m c t left.1.dx
    isplitl [H10]
    · iexists _; isplitr; swap; · iexact H10
      ipureintro; exact out_dw m c t left.1.dw

    · iexists _; isplitr; swap; · iexact H11
      ipureintro; exact out_db m c t left.1.db

theorem sound_body (c : Dev nD) (t : Fin cfg0.N) :
    bodyPre m ((dats m 0 c).Φ t.castSucc) c t ⊢ wp Idealize.ShloMosaic.frame (wpE (defs₀ (F := Ideal)) Variants.none c none) Set.univ (bodyAt0 t) (fun _ => bodyPost m c t) :=
  (sep_mono_l (Phi_pre m c t)).trans (sound_held m c t)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem Phi_out (c : Dev nD) : (dats m 0 c).Φ (Fin.last cfg0.N) ⊢ Pipeline.ΦA spec0 c := by
  have hN : cfg0.N = 56 := N_0
  rw [Phi_eq, if_neg (by show ¬ cfg0.N = 0; omega), PhiA0_eq]
  unfold ST
  iintro ⟨⟨H12, H13, H14, ⟨%d15, -, H15⟩, ⟨%d16, -, H16⟩, H17, H18, H19⟩, Hg⟩
  isplitl [H12 H13 H14 H15 H16 H17 H18 H19]
  · isplitl [H12]
    · iexists _; iexact H12
    isplitl [H13]
    · iexists _; iexact H13
    isplitl [H14]
    · iexists _; iexact H14
    isplitl [H15]
    · iexists _; iexact H15
    isplitl [H16]
    · iexists _; iexact H16
    isplitl [H17]; · iexact H17
    isplitl [H18]; · iexact H18
    iexact H19
  · iexact Hg

set_option backward.isDefEq.respectTransparency.types false in
set_option maxHeartbeats 800000 in
/-- The launch. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_eq m c 0]; exact (BIBase.Entails.of_eq (if_pos rfl).symm)) (hout := Phi_out m)

end Cert.KernelIdeal.Val
-- ==== Proof.ConvMath.lean ====
/-
  The convolution's backward pass at plain coordinates: what both programs compute, from the arrays read at natural
  numbers, and the arithmetic that joins the kernel's halved form to the reference's.
-/
module

public import proofs.«01_k».proof.Proof.IdealLib
public import proofs.«01_k».proof.Proof.IdealT1
public import proofs.«01_k».proof.Proof.IdealSt3
public import proofs.«01_k».proof.Proof.IdealPieces

@[expose] public section

set_option maxRecDepth 16384

noncomputable section

namespace Cert.Conv

open Cert.KernelIdeal.Hand
open Idealize.ShloMosaic Idealize.ShloMosaic.TcCoe Idealize.ShloMosaic.Tactic

/-- The arguments: codes and scales of the input and of the output's gradient, weights, bias, document boundaries. -/
structure Arr where of ::
  xc : ℕ → ℕ → ℕ → EReal
  xs : ℕ → ℕ → ℕ → EReal
  yc : ℕ → ℕ → ℕ → EReal
  ys : ℕ → ℕ → ℕ → EReal
  w : ℕ → ℕ → EReal
  bi : ℕ → EReal
  cu : ℕ → ℕ → BitVec 32

/-- A document begins at one of the rows `t - s`, …, `t`. -/
def Cut (cu : ℕ → ℕ → BitVec 32) (b s t : ℕ) : Prop :=
  ∃ (u : Fin 3) (j : Fin 17), u.val ≤ s ∧ BitVec.ofNat 32 t - BitVec.ofNat 32 u.val = cu b j.val

instance (cu : ℕ → ℕ → BitVec 32) (b s t : ℕ) : Decidable (Cut cu b s t) := by unfold Cut; infer_instance

def Arr.X (A : Arr) (b t ch : ℕ) : EReal := A.xc b t ch * A.xs b t (ch / 128)
def Arr.Y (A : Arr) (b t ch : ℕ) : EReal := A.yc b t ch * A.ys b t (ch / 128)
/-- The row `s` rows above, within the document. -/
def Arr.view (A : Arr) (s b t ch : ℕ) : EReal :=
  if s = 0 then A.X b t ch else if Cut A.cu b (s - 1) t then 0 else if t < s then 0 else A.X b (t - s) ch
def Arr.z (A : Arr) (b t ch : ℕ) : EReal :=
  A.w ch 0 * A.view 3 b t ch + A.w ch 1 * A.view 2 b t ch + A.w ch 2 * A.view 1 b t ch + A.w ch 3 * A.view 0 b t ch + A.bi ch
def Arr.dz (A : Arr) (b t ch : ℕ) : EReal :=
  A.Y b t ch * Ideal.logistic (A.z b t ch) * (1 + A.z b t ch * (1 - Ideal.logistic (A.z b t ch)))
/-- The gradient `s` rows below, within the document. -/
def Arr.dzs (A : Arr) (s b t ch : ℕ) : EReal :=
  if s + t < 256 then (if Cut A.cu b (s - 1) (s + t) then 0 else A.dz b (s + t) ch) else 0
def Arr.dx (A : Arr) (b t ch : ℕ) : EReal :=
  A.w ch 3 * A.dz b t ch + A.w ch 2 * A.dzs 1 b t ch + A.w ch 1 * A.dzs 2 b t ch + A.w ch 0 * A.dzs 3 b t ch
def Arr.dw (A : Arr) (k ch : ℕ) : EReal :=
  ∑ b ∈ Finset.range 6, ∑ t ∈ Finset.range 256, A.dz b t ch * A.view (3 - k) b t ch
def Arr.db (A : Arr) (ch : ℕ) : EReal := ∑ b ∈ Finset.range 6, ∑ t ∈ Finset.range 256, A.dz b t ch

theorem half_nonneg : 0 ≤ half := by rw [half_eq]; exact_mod_cast (by norm_num : (0:ℝ) ≤ 1 / 2)
theorem half_ne_top : half ≠ ⊤ := by rw [half_eq]; exact EReal.coe_ne_top _

theorem add_half (a b : EReal) : (a + b) * half = a * half + b * half :=
  EReal.right_distrib_of_nonneg_of_ne_top half_nonneg half_ne_top a b

theorem half_two : half * (1 + 1) = 1 := by
  rw [half_eq]
  have : ((1 : EReal) + 1) = ((2 : ℝ) : EReal) := by
    rw [show (1 : EReal) = ((1 : ℝ) : EReal) from rfl, ← EReal.coe_add]; norm_num
  rw [this, ← EReal.coe_mul]; norm_num

theorem tanh_half (r : ℝ) : 1 / 2 * (1 + Real.tanh (r * (1 / 2))) = (1 + Real.exp (-r))⁻¹ := by
  rw [Real.tanh_eq_sinh_div_cosh, Real.sinh_eq, Real.cosh_eq]
  have h1 : 0 < Real.exp (r * (1 / 2)) := Real.exp_pos _
  have e2 : Real.exp (-(r * (1 / 2))) = (Real.exp (r * (1 / 2)))⁻¹ := Real.exp_neg _
  have e3 : Real.exp (-r) = (Real.exp (r * (1 / 2)))⁻¹ * (Real.exp (r * (1 / 2)))⁻¹ := by
    rw [← Real.exp_neg, ← Real.exp_add]; congr 1; ring
  rw [e2, e3]
  generalize Real.exp (r * (1 / 2)) = a at h1 ⊢
  have : a ≠ 0 := h1.ne'
  field_simp
  ring

/-- The gradient through the activation, halved inside and not. -/
theorem dzv_eq (z Y : EReal) : (Y * half) * (1 + Ideal.tanh (z * half)) * (1 + (z * half) * (1 - Ideal.tanh (z * half)))
    = Y * Ideal.logistic z * (1 + z * (1 - Ideal.logistic z)) := by
  have one_sub : (1 : EReal) - 1 = 0 := by
    rw [show (1 : EReal) = ((1 : ℝ) : EReal) from rfl, ← EReal.coe_sub]; norm_num
  induction z using EReal.rec with
  | bot =>
    have e : (⊥ : EReal) * half = ⊥ := by rw [half_eq]; exact EReal.bot_mul_coe_of_pos (by norm_num)
    have e1 : (1 : EReal) + -1 = 0 := by rw [← sub_eq_add_neg, one_sub]
    rw [e, Ideal.tanh_bot, Ideal.logistic_bot, e1]
    simp
  | top =>
    have e : (⊤ : EReal) * half = ⊤ := by rw [half_eq]; exact EReal.top_mul_coe_of_pos (by norm_num)
    rw [e, Ideal.tanh_top, Ideal.logistic_top, one_sub]
    simp only [mul_zero, add_zero, mul_one]
    rw [mul_assoc, half_two, mul_one]
  | coe r =>
    have e : (r : EReal) * half = ((r * (1 / 2) : ℝ) : EReal) := by rw [half_eq, ← EReal.coe_mul]
    rw [e, Ideal.tanh_coe, Ideal.logistic_coe, ← tanh_half]
    generalize Real.tanh (r * (1 / 2)) = h
    rw [mul_assoc Y, half_eq]
    have one_c : (1 : EReal) = ((1 : ℝ) : EReal) := rfl
    rw [one_c]
    simp only [← EReal.coe_add, ← EReal.coe_sub, ← EReal.coe_mul]
    congr 3
    ring

theorem msk_MK (cu : ℕ → ℕ → BitVec 32) (b s t : ℕ) (x : EReal) : msk (MK cu b s t) x = if Cut cu b s t then 0 else x := by
  unfold msk MK
  by_cases h : Cut cu b s t
  · rw [if_pos h, if_pos (by exact h)]; rfl
  · rw [if_neg h, if_neg (by exact h)]; rfl

/-- Eight partial sums over every eighth row make the sum over all rows. -/
theorem sum_rows (f : ℕ → ℕ → EReal) :
    ∑ u : Fin 8, ∑ b ∈ Finset.range 6, ∑ r ∈ Finset.range 32, f b (8 * r + u.val)
      = ∑ b ∈ Finset.range 6, ∑ t ∈ Finset.range 256, f b t := by
  rw [Finset.sum_comm]
  refine Finset.sum_congr rfl fun b _ => ?_
  rw [Finset.sum_comm]
  have : ∀ n, ∑ t ∈ Finset.range (8 * n), f b t = ∑ r ∈ Finset.range n, ∑ u : Fin 8, f b (8 * r + u.val) := by
    intro n
    induction n with
    | zero => simp
    | succ n ih =>
      rw [Finset.sum_range_succ, ← ih, Nat.mul_succ, Finset.sum_range_add, Finset.sum_range (fun x => f b (8 * n + x))]
  exact (this 32).symm

end Cert.Conv
-- ==== Proof.IdealFinal.lean ====
/-
  The kernel's results as functions of its arguments.
-/
module

public import proofs.«01_k».proof.Proof.IdealRunVal
public import proofs.«01_k».proof.Proof.ConvMath
public import Idealize.ShloMosaic.Lib.Pipeline.ValueKit

@[expose] public section

set_option maxRecDepth 16384

noncomputable section

namespace Cert.KernelIdeal.Val

open Cert.KernelIdeal Cert.KernelIdeal.Gen Cert.KernelIdeal.Hand Cert.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

section Pure
variable (I : In) (A : Arr) (T : ℕ)
  (hx : ∀ b r j, b < 6 → r < 256 → j < 256 → I.x b r j = A.xc b r (256 * T + j))
  (hy : ∀ b r j, b < 6 → r < 256 → j < 256 → I.y b r j = A.yc b r (256 * T + j))
  (hsx : ∀ b r g, b < 6 → r < 256 → g < 2 → I.sc (2 * I.q + g) b r = A.xs b r (2 * T + g))
  (hsy : ∀ b r g, b < 6 → r < 256 → g < 2 → I.scy (2 * I.q + g) b r = A.ys b r (2 * T + g))
  (hw : ∀ k j, k < 4 → j < 256 → I.wv k j = A.w (256 * T + j) k)
  (hwh : ∀ k j, I.wh k j = I.wv k j * half)
  (hbi : ∀ j, j < 256 → I.bias 0 j = A.bi (256 * T + j))
  (hmk : ∀ b s t l, b < 6 → s < 3 → t < 264 → l < 128 → I.mk b s t l = MK A.cu b s t)

include hx hsx in
theorem k_X (b r g l : ℕ) (hb : b < 6) (hr : r < 256) (hg : g < 2) (hl : l < 128) :
    XB I.sc I.x I.q b g r l = A.X b r (256 * T + (g * 128 + l)) := by
  unfold XB Arr.X
  rw [hx b r _ hb hr (by omega), hsx b r g hb hr hg, mul_comm, show (256 * T + (g * 128 + l)) / 128 = 2 * T + g by omega]

include hy hsy in
theorem k_Y (b r g l : ℕ) (hb : b < 6) (hr : r < 256) (hg : g < 2) (hl : l < 128) :
    YB I.scy I.y I.q b g r l = A.Y b r (256 * T + (g * 128 + l)) * half := by
  unfold YB Arr.Y
  rw [hy b r _ hb hr (by omega), hsy b r g hb hr hg, show (256 * T + (g * 128 + l)) / 128 = 2 * T + g by omega]
  rw [mul_comm, mul_assoc]

include hx hsx hmk in
theorem k_view (b r g l s : ℕ) (hb : b < 6) (hr : r < 256) (hg : g < 2) (hl : l < 128) (hs : s < 4) :
    VW (I.XR b) I.mk b 0 g r l s = A.view s b r (256 * T + (g * 128 + l)) := by
  unfold VW Arr.view
  by_cases h : s = 0
  · rw [if_pos h, if_pos h]
    unfold In.XR
    rw [if_neg (by omega), show 8 + r - 8 = r by omega, k_X I A T hx hsx b r g l hb hr hg hl]
  · rw [if_neg h, if_neg h, hmk b (s - 1) r l hb (by omega) (by omega) hl, msk_MK]
    by_cases hc : Cut A.cu b (s - 1) r
    · rw [if_pos hc, if_pos hc]
    · rw [if_neg hc, if_neg hc]
      unfold In.XR
      by_cases hrs : r < s
      · rw [if_pos (by omega), if_pos hrs]
      · rw [if_neg (by omega), if_neg hrs, show 8 + r - s - 8 = r - s by omega, k_X I A T hx hsx b (r - s) g l hb (by omega) hg hl]

include hx hy hsx hsy hw hwh hbi hmk in
theorem k_dz (b r g l : ℕ) (hb : b < 6) (hr : r < 256) (hg : g < 2) (hl : l < 128) :
    I.dz b g r l = A.dz b r (256 * T + (g * 128 + l)) := by
  have hv := fun s hs => k_view I A T hx hsx hmk b r g l s hb hr hg hl hs
  have e : ZV (I.XR b) I.mk I.wh b 0 g r l + I.bias 0 (g * 128 + l) * half = A.z b r (256 * T + (g * 128 + l)) * half := by
    unfold ZV Arr.z
    rw [hv 3 (by omega), hv 2 (by omega), hv 1 (by omega), hv 0 (by omega), hwh, hwh, hwh, hwh, hw 0 _ (by omega) (by omega), hw 1 _ (by omega) (by omega),
      hw 2 _ (by omega) (by omega), hw 3 _ (by omega) (by omega), hbi _ (by omega)]
    simp only [add_half]
    congr 1
    congr 1
    · congr 1
      · congr 1
        · rw [← mul_assoc, mul_comm (A.view _ _ _ _)]
        · rw [← mul_assoc, mul_comm (A.view _ _ _ _)]
      · rw [← mul_assoc, mul_comm (A.view _ _ _ _)]
    · rw [← mul_assoc, mul_comm (A.view _ _ _ _)]
  unfold In.dz dzv Arr.dz
  rw [e, k_Y I A T hy hsy b r g l hb hr hg hl, dzv_eq]

include hx hy hsx hsy hw hwh hbi hmk in
theorem k_dzs (b r g l s : ℕ) (hb : b < 6) (hr : r < 256) (hg : g < 2) (hl : l < 128) (hs : s < 3) :
    msk (I.mk b s (r + (s + 1)) l) (I.DR b 0 g (r + (s + 1)) l) = A.dzs (s + 1) b r (256 * T + (g * 128 + l)) := by
  unfold In.DR Arr.dzs
  rw [hmk b s _ l hb hs (by omega) hl, msk_MK, Nat.add_comm r (s + 1)]
  by_cases h : s + 1 + r < 256
  · rw [if_pos h, if_pos h, k_dz I A T hx hy hsx hsy hw hwh hbi hmk b _ g l hb h hg hl]
    rfl
  · rw [if_neg h, if_neg h, ite_self]

include hx hy hsx hsy hw hwh hbi hmk in
theorem k_dx (b r j : ℕ) (hb : b < 6) (hr : r < 256) (hj : j < 256) : I.dx b r j = A.dx b r (256 * T + j) := by
  have hg : j / 128 < 2 := by omega
  have hl : j % 128 < 128 := by omega
  have ej : j / 128 * 128 + j % 128 = j := by omega
  have hs := fun s hs' => k_dzs I A T hx hy hsx hsy hw hwh hbi hmk b r (j / 128) (j % 128) s hb hr hg hl hs'
  have h0 := hs 0 (by omega)
  have h1 := hs 1 (by omega)
  have h2 := hs 2 (by omega)
  have hd := k_dz I A T hx hy hsx hsy hw hwh hbi hmk b r (j / 128) (j % 128) hb hr hg hl
  rw [ej] at h0 h1 h2 hd
  unfold In.dx DXV Arr.dx
  simp only [Nat.zero_add, Nat.reduceAdd] at h0 h1 h2
  rw [ej, h0, h1, h2, hw 0 _ (by omega) hj, hw 1 _ (by omega) hj, hw 2 _ (by omega) hj, hw 3 _ (by omega) hj]
  congr 1
  congr 1
  congr 1
  congr 1
  unfold In.DR
  rw [if_pos hr, hd]

include hx hy hsx hsy hw hwh hbi hmk in
theorem k_dw (k j : ℕ) (hk : k < 4) (hj : j < 256) :
    (∑ u : Fin 8, ∑ b ∈ Finset.range 6, ∑ r ∈ Finset.range 32, I.dw k b (j / 128) (8 * r + u.val) (j % 128)) = A.dw k (256 * T + j) := by
  rw [sum_rows (fun b t => I.dw k b (j / 128) t (j % 128))]
  refine Finset.sum_congr rfl fun b hb => Finset.sum_congr rfl fun t ht => ?_
  have hb := Finset.mem_range.mp hb
  have ht := Finset.mem_range.mp ht
  have hg : j / 128 < 2 := by omega
  have hl : j % 128 < 128 := by omega
  have ej : j / 128 * 128 + j % 128 = j := by omega
  show I.dz _ _ _ _ * _ = _
  rw [k_dz I A T hx hy hsx hsy hw hwh hbi hmk b t _ _ hb ht hg hl, k_view I A T hx hsx hmk b t _ _ _ hb ht hg hl (by omega), ej]

include hx hy hsx hsy hw hwh hbi hmk in
theorem k_db (j : ℕ) (hj : j < 256) :
    (∑ u : Fin 8, ∑ b ∈ Finset.range 6, ∑ r ∈ Finset.range 32, I.dz b (j / 128) (8 * r + u.val) (j % 128)) = A.db (256 * T + j) := by
  rw [sum_rows (fun b t => I.dz b (j / 128) t (j % 128))]
  refine Finset.sum_congr rfl fun b hb => Finset.sum_congr rfl fun t ht => ?_
  have hb := Finset.mem_range.mp hb
  have ht := Finset.mem_range.mp ht
  have ej : j / 128 * 128 + j % 128 = j := by omega
  rw [k_dz I A T hx hy hsx hsy hw hwh hbi hmk b t _ _ hb ht (by omega) (by omega), ej]
end Pure

/-- The arguments at plain coordinates. -/
def arr (x0 : Vec Ideal S6x256x14336 .fp8e4m3) (x1 : Vec Ideal S6x256x112 .f32) (x2 : Vec Ideal S6x256x14336 .fp8e5m2) (x3 : Vec Ideal S6x256x112 .f32)
    (x4 : Vec Ideal S14336x4 .bf16) (x5 : Vec Ideal S14336 .f32) (x6 : Vec Ideal S6x17 .i32) : Arr :=
  Arr.of (rd3 (α := EReal) x0) (rd3 (α := EReal) x1) (rd3 (α := EReal) x2) (rd3 (α := EReal) x3) (rd2 (α := EReal) x4) (fun ch => rd (α := EReal) (s := S14336) x5 ![ch]) (rd2 (α := BitVec 32) x6)

def ARR (c : Dev nD) : Arr := arr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem a_x (c : Dev nD) (t : Fin cfg0.N) (b r j : ℕ) (hb : b < 6) (hr : r < 256) (hj : j < 256) :
    (IN m c t).x b r j = (ARR m c).xc b r (256 * t.val + j) := by
  have ht := lt_N t
  refine (at3' (α := EReal) (n0 := 6) (n1 := 256) (n2 := 256) (iblk m c 0 t) ⟨b, hb⟩ ⟨r, hr⟩ ⟨j, hj⟩).symm.trans (Eq.trans ?_
    (at3' (α := EReal) (n0 := 6) (n1 := 256) (n2 := 14336) (m ((c : Thread nD τ).loc main_arg0)) ⟨b, hb⟩ ⟨r, hr⟩ ⟨256 * t.val + j, by omega⟩))
  blk_ext [iblk, V, idx t]

theorem a_y (c : Dev nD) (t : Fin cfg0.N) (b r j : ℕ) (hb : b < 6) (hr : r < 256) (hj : j < 256) :
    (IN m c t).y b r j = (ARR m c).yc b r (256 * t.val + j) := by
  have ht := lt_N t
  refine (at3' (α := EReal) (n0 := 6) (n1 := 256) (n2 := 256) (iblk m c 2 t) ⟨b, hb⟩ ⟨r, hr⟩ ⟨j, hj⟩).symm.trans (Eq.trans ?_
    (at3' (α := EReal) (n0 := 6) (n1 := 256) (n2 := 14336) (m ((c : Thread nD τ).loc main_arg2)) ⟨b, hb⟩ ⟨r, hr⟩ ⟨256 * t.val + j, by omega⟩))
  blk_ext [iblk, V, idx t]

theorem a_sx (c : Dev nD) (t : Fin cfg0.N) (b r g : ℕ) (hb : b < 6) (hr : r < 256) (hg : g < 2) :
    (IN m c t).sc (2 * (IN m c t).q + g) b r = (ARR m c).xs b r (2 * t.val + g) := by
  have ht := lt_N t
  show rd3 (SCX m c (t.val / 4)) (2 * (t.val % 4) + g) b r = _
  rw [SCX_at m c _ _ _ _ (by omega) hb hr]
  rw [show 8 * (t.val / 4) + (2 * (t.val % 4) + g) = 2 * t.val + g by omega]
  refine (at3' (α := EReal) (n0 := 6) (n1 := 112) (n2 := 256) (V m c main_v0) ⟨b, hb⟩ ⟨2 * t.val + g, by omega⟩ ⟨r, hr⟩).symm.trans (Eq.trans ?_
    (at3' (α := EReal) (n0 := 6) (n1 := 256) (n2 := 112) (m ((c : Thread nD τ).loc main_arg1)) ⟨b, hb⟩ ⟨r, hr⟩ ⟨2 * t.val + g, by omega⟩))
  entry_read
  pointwise

theorem a_sy (c : Dev nD) (t : Fin cfg0.N) (b r g : ℕ) (hb : b < 6) (hr : r < 256) (hg : g < 2) :
    (IN m c t).scy (2 * (IN m c t).q + g) b r = (ARR m c).ys b r (2 * t.val + g) := by
  have ht := lt_N t
  show rd3 (SCY m c (t.val / 4)) (2 * (t.val % 4) + g) b r = _
  rw [SCY_at m c _ _ _ _ (by omega) hb hr]
  rw [show 8 * (t.val / 4) + (2 * (t.val % 4) + g) = 2 * t.val + g by omega]
  refine (at3' (α := EReal) (n0 := 6) (n1 := 112) (n2 := 256) (V m c main_v1) ⟨b, hb⟩ ⟨2 * t.val + g, by omega⟩ ⟨r, hr⟩).symm.trans (Eq.trans ?_
    (at3' (α := EReal) (n0 := 6) (n1 := 256) (n2 := 112) (m ((c : Thread nD τ).loc main_arg3)) ⟨b, hb⟩ ⟨r, hr⟩ ⟨2 * t.val + g, by omega⟩))
  entry_read
  pointwise

theorem a_w (c : Dev nD) (t : Fin cfg0.N) (k j : ℕ) (hk : k < 4) (hj : j < 256) :
    (IN m c t).wv k j = (ARR m c).w (256 * t.val + j) k := by
  have ht := lt_N t
  refine (at2 (α := EReal) (n0 := 4) (n1 := 256) (iblk m c 4 t) ⟨k, hk⟩ ⟨j, hj⟩).symm.trans (Eq.trans ?_
    (at2 (α := EReal) (n0 := 14336) (n1 := 4) (m ((c : Thread nD τ).loc main_arg4)) ⟨256 * t.val + j, by omega⟩ ⟨k, hk⟩))
  blk_point [iblk, V, idx t]

theorem a_bi (c : Dev nD) (t : Fin cfg0.N) (j : ℕ) (hj : j < 256) :
    (IN m c t).bias 0 j = (ARR m c).bi (256 * t.val + j) := by
  have ht := lt_N t
  refine (at2 (α := EReal) (n0 := 1) (n1 := 256) (iblk m c 5 t) ⟨0, by omega⟩ ⟨j, hj⟩).symm.trans (Eq.trans ?_
    (rd_of (α := EReal) (s := S14336) (m ((c : Thread nD τ).loc main_arg5)) ![256 * t.val + j] (ix1 ⟨256 * t.val + j, by omega⟩) fun a => by fin_cases a; rfl).symm)
  blk_point [iblk, V, idx t]

theorem a_mk (c : Dev nD) (t : Fin cfg0.N) (b s r l : ℕ) (hb : b < 6) (hs : s < 3) (hr : r < 264) (hl : l < 128) :
    (IN m c t).mk b s r l = MK (ARR m c).cu b s r := MKA_at m c b s r l hb hs hr hl

theorem final7 (c : Dev nD) : (dats m 0 c).arrAt 7 (cfgs 0).N = fun y => (ARR m c).dx (y 0).val (y 1).val (y 2).val := by
  refine (dats m 0 c).arrAt_eq_of_covers 7 _ (by decide +kernel) fun t _ y => ?_
  blk_simp [idx t]
  rw [after0_7]
  have h := k_dx (IN m c t) (ARR m c) t.val (a_x m c t) (a_y m c t) (a_sx m c t) (a_sy m c t) (a_w m c t) (fun _ _ => rfl) (a_bi m c t) (a_mk m c t)
    (y 0).val (y 1).val (y 2).val (y 0).isLt (y 1).isLt (y 2).isLt
  refine Eq.trans h ?_
  rw [Nat.mul_comm]

theorem final8 (c : Dev nD) : (dats m 0 c).arrAt 8 (cfgs 0).N = fun y => (ARR m c).dw (y 0).val (y 1).val := by
  refine (dats m 0 c).arrAt_eq_of_covers 8 _ (by decide +kernel) fun t _ y => ?_
  blk_simp [idx t]
  rw [after0_8]
  have h := k_dw (IN m c t) (ARR m c) t.val (a_x m c t) (a_y m c t) (a_sx m c t) (a_sy m c t) (a_w m c t) (fun _ _ => rfl) (a_bi m c t) (a_mk m c t)
    (y 0).val (y 1).val (y 0).isLt (y 1).isLt
  refine Eq.trans h ?_
  rw [Nat.mul_comm]

theorem final9 (c : Dev nD) : (dats m 0 c).arrAt 9 (cfgs 0).N = fun y => (ARR m c).db (y 1).val := by
  refine (dats m 0 c).arrAt_eq_of_covers 9 _ (by decide +kernel) fun t _ y => ?_
  blk_simp [idx t]
  rw [after0_9]
  have h := k_db (IN m c t) (ARR m c) t.val (a_x m c t) (a_y m c t) (a_sx m c t) (a_sy m c t) (a_w m c t) (fun _ _ => rfl) (a_bi m c t) (a_mk m c t)
    (y 1).val (y 1).isLt
  refine Eq.trans h ?_
  rw [Nat.mul_comm]

end Cert.KernelIdeal.Val
-- ==== Proof.RefVal.lean ====
/-
  The reference's values, index by index.
-/
module

public import proofs.«01_k».proof.Proof.ConvMath
public import proofs.«01_k».proof.Proof.Gen.ReferenceIdeal.Frame
public import Idealize.ShloMosaic.Lib.Pipeline.ValueKit

@[expose] public section

set_option maxRecDepth 16384
set_option maxHeartbeats 1000000

noncomputable section

namespace Cert.ReferenceIdeal.Val

open Cert.ReferenceIdeal Cert.ReferenceIdeal.Gen
open Cert.Conv
open Cert.KernelIdeal.Hand (rd rd2 rd3 rd_of at2 at3')
open Idealize.ShloMosaic Idealize.ShloMosaic.TcCoe Idealize.ShloMosaic.Tactic

theorem sel_eq (P : Prop) [Decidable P] (x : EReal) :
    Scalar.select (IntOp.cmpi CmpIPredicate.eq (if P then 1#32 else 0#32) 0#32) x 0 = if P then 0 else x := by
  by_cases h : P
  · rw [if_pos h, if_pos h]; rfl
  · rw [if_neg h, if_neg h]; rfl

theorem zz : ((((0#32).toInt : ℝ) : EReal)) = 0 := by simp

/-- A sum over batches and rows. -/
theorem sum2 (v : FVec Ideal S6x256x14336 .f32) (ch : Fin 14336) :
    Ideal.reduceAdd reduces_S6x256x14336_S14336 v (ix1 ch) = ∑ b ∈ Finset.range 6, ∑ t ∈ Finset.range 256, rd3 (α := EReal) v b t ch.val := by
  unfold Ideal.reduceAdd
  have e : ∀ i : S6x256x14336.Idx, (reduces_S6x256x14336_S14336.drop i = ix1 ch) ↔ i 2 = ch := by
    intro i
    constructor
    · intro h
      have := congrArg (fun f => (f 0).val) h
      rw [reduces_S6x256x14336_S14336.drop_apply_val_of_eq i 0 2] at this
      exact Fin.ext this
    · intro h
      funext a
      have ha : a = 0 := Subsingleton.elim _ _
      subst ha
      apply Fin.ext
      rw [reduces_S6x256x14336_S14336.drop_apply_val_of_eq i 0 2]
      exact congrArg Fin.val h
  rw [Finset.sum_range (fun b => ∑ t ∈ Finset.range 256, rd3 (α := EReal) v b t ch.val)]
  simp only [Finset.sum_range (fun t => rd3 (α := EReal) v _ t ch.val)]
  rw [← Fintype.sum_prod_type' (f := fun (b : Fin 6) (t : Fin 256) => rd3 (α := EReal) v b.val t.val ch.val)]
  refine Finset.sum_nbij' (fun i => ((i 0 : Fin 6), (i 1 : Fin 256))) (fun p => ix3 p.1 p.2 ch) ?_ ?_ ?_ ?_ ?_
  · intro i _; exact Finset.mem_univ _
  · intro p _; exact Finset.mem_filter.mpr ⟨Finset.mem_univ _, (e _).2 rfl⟩
  · intro i hi
    have h2 : i 2 = ch := (e i).1 (Finset.mem_filter.mp hi).2
    funext a; fin_cases a
    · rfl
    · rfl
    · exact h2.symm
  · intro p _; rfl
  · intro i hi
    have h2 : i 2 = ch := (e i).1 (Finset.mem_filter.mp hi).2
    rw [← h2]
    exact (rd_of v _ i fun a => by fin_cases a <;> rfl).symm

section
variable (x0 : Vec Ideal S6x256x14336 .fp8e4m3) (x1 : Vec Ideal S6x256x112 .f32) (x2 : Vec Ideal S6x256x14336 .fp8e5m2) (x3 : Vec Ideal S6x256x112 .f32)
  (x4 : Vec Ideal S14336x4 .bf16) (x5 : Vec Ideal S14336 .f32) (x6 x7 x8 : Vec Ideal S6x256x1 .i32) (cu : ℕ → ℕ → BitVec 32)

/-- The arguments at plain coordinates. -/
def arr : Arr := Arr.of (rd3 (α := EReal) x0) (rd3 (α := EReal) x1) (rd3 (α := EReal) x2) (rd3 (α := EReal) x3) (rd2 (α := EReal) x4) (fun ch => rd (α := EReal) (s := S14336) x5 ![ch]) cu

variable (h6 : ∀ (b : Fin 6) (t : Fin 256), x6 (ix3 b t 0) = if Cut cu b.val 0 t.val then 1#32 else 0#32)
  (h7 : ∀ (b : Fin 6) (t : Fin 256), x7 (ix3 b t 0) = if Cut cu b.val 1 t.val then 1#32 else 0#32)
  (h8 : ∀ (b : Fin 6) (t : Fin 256), x8 (ix3 b t 0) = if Cut cu b.val 2 t.val then 1#32 else 0#32)

local notation "𝔸" => arr x0 x1 x2 x3 x4 x5 cu

theorem vX (b : Fin 6) (t : Fin 256) (ch : Fin 14336) : k0_pay4 (F := Ideal) x0 x1 (ix3 b t ch) = Arr.X 𝔸 b.val t.val ch.val := by
  have e : k0_pay4 (F := Ideal) x0 x1 (ix3 b t ch) = x0 (ix3 b t ch) * x1 (ix3 b t ⟨ch.val / 128, by omega⟩) := by
    pointwise [k0_pay4]
  rw [e]
  exact congrArg₂ (· * ·) (at3' (α := EReal) x0 b t ch) (at3' (α := EReal) x1 b t ⟨ch.val / 128, by omega⟩)

theorem vY (b : Fin 6) (t : Fin 256) (ch : Fin 14336) : k0_pay5 (F := Ideal) x2 x3 (ix3 b t ch) = Arr.Y 𝔸 b.val t.val ch.val := by
  have e : k0_pay5 (F := Ideal) x2 x3 (ix3 b t ch) = x2 (ix3 b t ch) * x3 (ix3 b t ⟨ch.val / 128, by omega⟩) := by
    pointwise [k0_pay5]
  rw [e]
  exact congrArg₂ (· * ·) (at3' (α := EReal) x2 b t ch) (at3' (α := EReal) x3 b t ⟨ch.val / 128, by omega⟩)

/-- The zero rows above, then the input's. -/
theorem pad_eq (b : Fin 6) (n : ℕ) (hn : n < 259) (ch : Fin 14336) (t s : ℕ) (hs : n + s = t + 3) (ht : t < 256) :
    (if h : n < 3 then ((((0#32).toInt : ℝ) : EReal)) else k0_pay4 (F := Ideal) x0 x1 (ix3 b ⟨n - 3, by omega⟩ ch))
      = if t < s then 0 else Arr.X 𝔸 b.val (t - s) ch.val := by
  by_cases h : n < 3
  · rw [dif_pos h, if_pos (by omega), zz]
  · rw [dif_neg h, if_neg (by omega), vX x0 x1 x2 x3 x4 x5 cu]
    congr 1
    show n - 3 = t - s
    omega

include h8 in
theorem v3 (b : Fin 6) (t : Fin 256) (ch : Fin 14336) : k0_pay8 (F := Ideal) x0 x1 x8 (ix3 b t ch) = Arr.view 𝔸 3 b.val t.val ch.val := by
  pointwise [k0_pay8, k0_pay7]
  rw [h8, sel_eq, pad_eq x0 x1 x2 x3 x4 x5 cu b t.val (by omega) ch t.val 3 (by omega) t.isLt]
  rfl

include h7 in
theorem v2 (b : Fin 6) (t : Fin 256) (ch : Fin 14336) : k0_pay11 (F := Ideal) (k0_pay9 (F := Ideal) x7) (k0_pay10 x0 x1) (Scalar.ofBits .f32 0x00000000#32) (ix3 b t ch) = Arr.view 𝔸 2 b.val t.val ch.val := by
  pointwise [k0_pay9, k0_pay10, k0_pay11, k0_pay7]
  rw [h7, sel_eq, pad_eq x0 x1 x2 x3 x4 x5 cu b (1 + t.val) (by omega) ch t.val 2 (by omega) t.isLt]
  rfl

include h6 in
theorem v1 (b : Fin 6) (t : Fin 256) (ch : Fin 14336) : k0_pay12 (F := Ideal) (k0_pay7 x0 x1) x6 (ix3 b t ch) = Arr.view 𝔸 1 b.val t.val ch.val := by
  pointwise [k0_pay12, k0_pay7]
  rw [h6, sel_eq, pad_eq x0 x1 x2 x3 x4 x5 cu b (2 + t.val) (by omega) ch t.val 1 (by omega) t.isLt]
  rfl

/-- The reference's gradient at the convolution's output. -/
def DZ : FVec Ideal S6x256x14336 .f32 :=
  k0_pay13 (k0_pay4 x0 x1) (k0_pay5 x2 x3) (k0_pay6 x4) (k0_pay7 x0 x1) (k0_pay8 x0 x1 x8) (k0_pay9 (F := Ideal) x7) (k0_pay10 x0 x1) (Scalar.ofBits .f32 0x00000000#32) x6 x5

theorem at1 (ch : Fin 14336) : x5 (ix1 ch) = rd (α := EReal) (s := S14336) x5 ![ch.val] :=
  (rd_of x5 _ _ fun a => by fin_cases a; rfl).symm

theorem w17 (ch : Fin 14336) (k : Fin 4) : k0_pay6 (F := Ideal) x4 (ix2 ch k) = rd2 (α := EReal) x4 ch.val k.val := by
  have e : k0_pay6 (F := Ideal) x4 (ix2 ch k) = x4 (ix2 ch k) := by pointwise [k0_pay6]
  rw [e]; exact at2 (α := EReal) x4 ch k

include h6 h7 h8 in
theorem vdz (b : Fin 6) (t : Fin 256) (ch : Fin 14336) : DZ x0 x1 x2 x3 x4 x5 x6 x7 x8 (ix3 b t ch) = Arr.dz 𝔸 b.val t.val ch.val := by
  unfold DZ
  pointwise [k0_pay13]
  have e2 := v2 x0 x1 x2 x3 x4 x5 x7 cu h7 b t ch
  rw [show (Scalar.ofBits .f32 0x00000000#32 : Ideal .f32) = 0 from Ideal.ofBits_zero _] at e2
  rw [e2, v3 x0 x1 x2 x3 x4 x5 x8 cu h8, v1 x0 x1 x2 x3 x4 x5 x6 cu h6, vX x0 x1 x2 x3 x4 x5 cu, vY x0 x1 x2 x3 x4 x5 cu, w17, w17, w17, w17, at1 x5]
  rfl

include h6 h7 h8 in
theorem vdz' (b t ch : ℕ) (hb : b < 6) (ht : t < 256) (hch : ch < 14336) : rd3 (α := EReal) (DZ x0 x1 x2 x3 x4 x5 x6 x7 x8) b t ch = Arr.dz 𝔸 b t ch :=
  (at3' (α := EReal) (DZ x0 x1 x2 x3 x4 x5 x6 x7 x8) ⟨b, hb⟩ ⟨t, ht⟩ ⟨ch, hch⟩).symm.trans (vdz x0 x1 x2 x3 x4 x5 x6 x7 x8 cu h6 h7 h8 _ _ _)

include h6 h7 h8 in
theorem vdb (ch : Fin 14336) : k0_pay3 (F := Ideal) (DZ x0 x1 x2 x3 x4 x5 x6 x7 x8) (ix2 0 ch) = Arr.db 𝔸 ch.val := by
  pointwise [k0_pay3]
  rw [sum2]
  exact Finset.sum_congr rfl fun b hb => Finset.sum_congr rfl fun t ht =>
    vdz' x0 x1 x2 x3 x4 x5 x6 x7 x8 cu h6 h7 h8 b t ch.val (Finset.mem_range.mp hb) (Finset.mem_range.mp ht) ch.isLt

theorem sumw (v : FVec Ideal S6x256x14336 .f32) (ch : Fin 14336) (s : ℕ)
    (hd : ∀ (b : Fin 6) (t : Fin 256), DZ x0 x1 x2 x3 x4 x5 x6 x7 x8 (ix3 b t ch) = Arr.dz 𝔸 b.val t.val ch.val)
    (hv : ∀ (b : Fin 6) (t : Fin 256), v (ix3 b t ch) = Arr.view 𝔸 s b.val t.val ch.val) :
    Ideal.reduceAdd reduces_S6x256x14336_S14336 (mulf (DZ x0 x1 x2 x3 x4 x5 x6 x7 x8) v) (ix1 ch)
      = ∑ b ∈ Finset.range 6, ∑ t ∈ Finset.range 256, Arr.dz 𝔸 b t ch.val * Arr.view 𝔸 s b t ch.val := by
  rw [sum2]
  refine Finset.sum_congr rfl fun b hb => Finset.sum_congr rfl fun t ht => ?_
  refine (at3' (α := EReal) _ ⟨b, Finset.mem_range.mp hb⟩ ⟨t, Finset.mem_range.mp ht⟩ ch).symm.trans ?_
  exact congrArg₂ (· * ·) (hd _ _) (hv _ _)

include h6 h7 h8 in
theorem vdw (k : Fin 4) (ch : Fin 14336) : k0_pay2 (F := Ideal) (k0_pay4 x0 x1) (k0_pay8 x0 x1 x8)
      (k0_pay11 (k0_pay9 (F := Ideal) x7) (k0_pay10 x0 x1) (Scalar.ofBits .f32 0x00000000#32)) (k0_pay12 (k0_pay7 x0 x1) x6)
      (DZ x0 x1 x2 x3 x4 x5 x6 x7 x8) (ix2 k ch) = Arr.dw 𝔸 k.val ch.val := by
  have hd := fun b t => vdz x0 x1 x2 x3 x4 x5 x6 x7 x8 cu h6 h7 h8 b t ch
  have s0 := sumw x0 x1 x2 x3 x4 x5 x6 x7 x8 cu (k0_pay4 x0 x1) ch 0 hd fun b t => vX x0 x1 x2 x3 x4 x5 cu b t ch
  have s1 := sumw x0 x1 x2 x3 x4 x5 x6 x7 x8 cu _ ch 1 hd fun b t => v1 x0 x1 x2 x3 x4 x5 x6 cu h6 b t ch
  have s2 := sumw x0 x1 x2 x3 x4 x5 x6 x7 x8 cu _ ch 2 hd fun b t => v2 x0 x1 x2 x3 x4 x5 x7 cu h7 b t ch
  have s3 := sumw x0 x1 x2 x3 x4 x5 x6 x7 x8 cu _ ch 3 hd fun b t => v3 x0 x1 x2 x3 x4 x5 x8 cu h8 b t ch
  generalize k0_pay11 (F := Ideal) (k0_pay9 (F := Ideal) x7) (k0_pay10 x0 x1) (Scalar.ofBits .f32 0x00000000#32) = V2 at s2 ⊢
  generalize k0_pay12 (F := Ideal) (k0_pay7 x0 x1) x6 = V1 at s1 ⊢
  generalize k0_pay8 (F := Ideal) x0 x1 x8 = V3 at s3 ⊢
  generalize k0_pay4 (F := Ideal) x0 x1 = V0 at s0 ⊢
  pointwise [k0_pay2]
  rw [s0, s1, s2, s3]
  unfold Arr.dw
  fin_cases k <;> rfl

include h6 h7 h8 in
theorem vdx (b : Fin 6) (t : Fin 256) (ch : Fin 14336) :
    k0_pay1 (F := Ideal) (k0_pay6 x4) (DZ x0 x1 x2 x3 x4 x5 x6 x7 x8)
      (k0_pay15 (k0_pay6 x4) (DZ x0 x1 x2 x3 x4 x5 x6 x7 x8) (k0_pay14 (k0_pay6 x4)) x6 x7) (Scalar.ofBits .f32 0x00000000#32) (k0_pay16 (F := Ideal) x8) (ix3 b t ch)
      = Arr.dx 𝔸 b.val t.val ch.val := by
  have hd := fun t => vdz x0 x1 x2 x3 x4 x5 x6 x7 x8 cu h6 h7 h8 b t ch
  generalize DZ x0 x1 x2 x3 x4 x5 x6 x7 x8 = D at hd ⊢
  have hw := fun k => w17 x4 ch k
  generalize k0_pay6 (F := Ideal) x4 = W at hw ⊢
  pointwise [k0_pay1, k0_pay14, k0_pay15, k0_pay16]
  simp only [h6, h7, h8, sel_eq, hd, hw, zz]
  rfl
end

end Cert.ReferenceIdeal.Val
-- ==== Proof.RefFinal.lean ====
/-
  The reference's results as functions of its arguments, the document masks of its host line included.
-/
module

public import proofs.«01_k».proof.Proof.RefVal
public import proofs.«01_k».proof.Proof.Gen.ReferenceIdeal.Frame
public import Idealize.ShloMosaic.Lib.StableHlo.Predicate
public import Idealize.ShloMosaic.Lib.Pipeline.ValueKit

@[expose] public section

set_option maxRecDepth 16384
set_option maxHeartbeats 1000000

noncomputable section

namespace Cert.ReferenceIdeal.Val

open Cert.ReferenceIdeal Cert.ReferenceIdeal.Gen
open Cert.Conv
open Cert.KernelIdeal.Hand (rd rd2 rd3 rd_of at2 at3')
open Idealize.ShloMosaic Idealize.ShloMosaic.TcCoe Idealize.ShloMosaic.Tactic

theorem fold_or (P : Fin 17 → Prop) [DecidablePred P] (S : Finset (Fin 17)) :
    S.fold IntOp.ori 0#1 (fun j => if P j then 1#1 else 0#1) = if ∃ j ∈ S, P j then 1#1 else 0#1 := by
  induction S using Finset.induction_on with
  | empty => simp
  | insert a S ha ih =>
    rw [Finset.fold_insert ha, ih]
    simp only [Finset.mem_insert, exists_eq_or_imp]
    by_cases h1 : P a <;> by_cases h2 : ∃ j ∈ S, P j <;> simp only [h1, h2, if_true, if_false, or_self, or_true, true_or] <;> rfl

theorem ti (t u : ℕ) (ht : t < 256) (hu : u < 4) : (BitVec.ofNat 32 t - BitVec.ofNat 32 u).toInt = (t : ℤ) - u := by
  rw [BitVec.toInt_sub, BitVec.toInt_ofNat', BitVec.toInt_ofNat']
  simp only [Int.bmod_def]
  omega

theorem ti0 (t : ℕ) (ht : t < 256) : (BitVec.ofNat 32 t).toInt = (t : ℤ) := by
  rw [BitVec.toInt_ofNat']
  simp only [Int.bmod_def]
  omega

/-- A boundary after row `t - s` and up to row `t` is one of the last `s` rows. -/
theorem between (t s : ℕ) (ht : t < 256) (h1 : 1 ≤ s) (h3 : s ≤ 3) (c : BitVec 32) :
    ((BitVec.ofNat 32 t - BitVec.ofNat 32 s).slt c = true ∧ c.sle (BitVec.ofNat 32 t) = true)
      ↔ ∃ u : Fin 3, u.val ≤ s - 1 ∧ BitVec.ofNat 32 t - BitVec.ofNat 32 u.val = c := by
  rw [BitVec.slt_iff_toInt_lt, BitVec.sle_iff_toInt_le, ti t s ht (by omega), ti0 t ht]
  constructor
  · rintro ⟨ha, hb⟩
    refine ⟨⟨((t : ℤ) - c.toInt).toNat, by omega⟩, ?_, ?_⟩
    · show ((t : ℤ) - c.toInt).toNat ≤ s - 1
      omega
    · apply BitVec.eq_of_toInt_eq
      rw [ti t _ ht (by show ((t : ℤ) - c.toInt).toNat < 4; omega)]
      show (t : ℤ) - (((t : ℤ) - c.toInt).toNat : ℤ) = c.toInt
      omega
  · rintro ⟨u, hu, rfl⟩
    rw [ti t u.val ht (by omega)]
    omega

/-- The mask of shift `s`, as the host computes it. -/
def CR (s : BitVec 32) (cu : Vec Ideal S6x17 .i32) : Vec Ideal S6x256x1 .i32 :=
  broadcastInDim S6x256x1 ![0, 1] bcast_S6x256_S6x256x1_0_1
    (extui 32 (Host.reduce IntOp.ori
      (andi
        (cmpi .slt (subi (iotaInDim S6x256x17 32 1) (broadcastInDim S6x256x17 ![] bcast_S_S6x256x17 (constantI S_ 32 s)))
          (broadcastInDim S6x256x17 ![0, 1, 2] bcast_S6x1x17_S6x256x17_0_1_2 (broadcastInDim S6x1x17 ![0, 2] bcast_S6x17_S6x1x17_0_2 cu)))
        (cmpi .sle (broadcastInDim S6x256x17 ![0, 1, 2] bcast_S6x1x17_S6x256x17_0_1_2 (broadcastInDim S6x1x17 ![0, 2] bcast_S6x17_S6x1x17_0_2 cu))
          (iotaInDim S6x256x17 32 1)))
      (constantI S_ 1 0#1) reducesTo_S6x256x17_S6x256_d2 h_S_) natLt_1_32)

variable (m : (ℓ : Loc nD τ sig) → Buf (Elt Ideal) ℓ)

theorem V10 (c : Dev nD) : V m c main_v10 = CR 1#32 (m ((c : Thread nD τ).loc main_arg6)) := by entry_read; rfl
theorem V18 (c : Dev nD) : V m c main_v18 = CR 2#32 (m ((c : Thread nD τ).loc main_arg6)) := by entry_read; rfl
theorem V26 (c : Dev nD) : V m c main_v26 = CR 3#32 (m ((c : Thread nD τ).loc main_arg6)) := by entry_read; rfl

theorem bits (a b c d : BitVec 32) : IntOp.andi (IntOp.cmpi CmpIPredicate.slt a b) (IntOp.cmpi CmpIPredicate.sle c d)
    = if a.slt b = true ∧ c.sle d = true then 1#1 else 0#1 := by
  unfold IntOp.cmpi
  dsimp only
  cases a.slt b <;> cases c.sle d <;> rfl

theorem red2 : (S6x256x17 : Shape).Reduces [2] S6x256 := by decide

theorem CR_at (s : ℕ) (h1 : 1 ≤ s) (h3 : s ≤ 3) (cu : Vec Ideal S6x17 .i32) (b : Fin 6) (t : Fin 256) :
    CR (BitVec.ofNat 32 s) cu (ix3 b t 0) = if Cut (rd2 (α := BitVec 32) cu) b.val (s - 1) t.val then 1#32 else 0#32 := by
  unfold CR
  have key : ∀ X : Vec Ideal S6x256x17 .i1, (∀ j : Fin 17, X (ix3 b t j) = if (BitVec.ofNat 32 t.val - BitVec.ofNat 32 s).slt (cu (ix2 b j)) = true ∧ (cu (ix2 b j)).sle (BitVec.ofNat 32 t.val) = true then 1#1 else 0#1) →
      Host.reduce IntOp.ori X (constantI S_ 1 0#1) reducesTo_S6x256x17_S6x256_d2 h_S_ (ix2 b t)
        = if Cut (rd2 (α := BitVec 32) cu) b.val (s - 1) t.val then 1#1 else 0#1 := by
    intro X hX
    rw [Host.reduce_eq_fold_single IntOp.ori X _ reducesTo_S6x256x17_S6x256_d2 red2 h_S_]
    have hl : (X ∘ red2.lift (ix2 b t)) = fun j : Fin 17 => if (BitVec.ofNat 32 t.val - BitVec.ofNat 32 s).slt (cu (ix2 b j)) = true ∧ (cu (ix2 b j)).sle (BitVec.ofNat 32 t.val) = true then 1#1 else 0#1 := by
      funext j
      refine Eq.trans (congrArg X ?_) (hX j)
      funext a
      fin_cases a <;> rfl
    refine (congrArg (fun f : Fin 17 → BitVec 1 => Finset.fold IntOp.ori 0#1 f (Finset.univ : Finset (Fin 17))) hl).trans ?_
    rw [fold_or]
    refine if_congr ?_ rfl rfl
    constructor
    · rintro ⟨j, -, hj⟩
      obtain ⟨u, hu, e⟩ := (between t.val s t.isLt h1 h3 _).mp hj
      exact ⟨u, j, hu, e.trans (at2 (α := BitVec 32) cu b j)⟩
    · rintro ⟨u, j, hu, e⟩
      exact ⟨j, Finset.mem_univ _, (between t.val s t.isLt h1 h3 _).mpr ⟨u, hu, e.trans (at2 (α := BitVec 32) cu b j).symm⟩⟩
  have k2 := key (andi
        (cmpi .slt (subi (iotaInDim S6x256x17 32 1) (broadcastInDim S6x256x17 ![] bcast_S_S6x256x17 (constantI S_ 32 (BitVec.ofNat 32 s))))
          (broadcastInDim S6x256x17 ![0, 1, 2] bcast_S6x1x17_S6x256x17_0_1_2 (broadcastInDim S6x1x17 ![0, 2] bcast_S6x17_S6x1x17_0_2 cu)))
        (cmpi .sle (broadcastInDim S6x256x17 ![0, 1, 2] bcast_S6x1x17_S6x256x17_0_1_2 (broadcastInDim S6x1x17 ![0, 2] bcast_S6x17_S6x1x17_0_2 cu))
          (iotaInDim S6x256x17 32 1))) (by
    intro j
    pointwise
    exact bits _ _ _ _)
  generalize Host.reduce IntOp.ori _ (constantI S_ 1 0#1) reducesTo_S6x256x17_S6x256_d2 h_S_ = R at k2 ⊢
  pointwise
  rw [k2]
  split <;> rfl

/-- The reference's arguments at plain coordinates. -/
def ARR (c : Dev nD) : Arr := arr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (rd2 (α := BitVec 32) (n0 := 6) (n1 := 17) (m ((c : Thread nD τ).loc main_arg6)))

theorem idx : ∀ t : Fin cfg0.N, win0_0.index t = ![0, 0, 0] ∧ win0_1.index t = ![0, 0, 0]
    ∧ win0_2.index t = ![0, 0, 0] ∧ win0_3.index t = ![0, 0, 0] ∧ win0_4.index t = ![0, 0]
    ∧ win0_5.index t = ![0] ∧ win0_6.index t = ![0, 0, 0] ∧ win0_7.index t = ![0, 0, 0] ∧ win0_8.index t = ![0, 0, 0]
    ∧ win0_9.index t = ![0, 0, 0] ∧ win0_10.index t = ![0, 0] ∧ win0_11.index t = ![0, 0] :=
  (by decide +kernel : ∀ t : Fin grid0.N, _)

theorem blk0 (c : Dev nD) (t : Fin cfg0.N) : iblk m c 0 t = m ((c : Thread nD τ).loc main_arg0) := by blk_ext! [iblk, V, idx t]
theorem blk1 (c : Dev nD) (t : Fin cfg0.N) : iblk m c 1 t = m ((c : Thread nD τ).loc main_arg1) := by blk_ext! [iblk, V, idx t]
theorem blk2 (c : Dev nD) (t : Fin cfg0.N) : iblk m c 2 t = m ((c : Thread nD τ).loc main_arg2) := by blk_ext! [iblk, V, idx t]
theorem blk3 (c : Dev nD) (t : Fin cfg0.N) : iblk m c 3 t = m ((c : Thread nD τ).loc main_arg3) := by blk_ext! [iblk, V, idx t]
theorem blk4 (c : Dev nD) (t : Fin cfg0.N) : iblk m c 4 t = m ((c : Thread nD τ).loc main_arg4) := by blk_ext! [iblk, V, idx t]
theorem blk5 (c : Dev nD) (t : Fin cfg0.N) : iblk m c 5 t = m ((c : Thread nD τ).loc main_arg5) := by blk_ext! [iblk, V, idx t]
theorem blk6 (c : Dev nD) (t : Fin cfg0.N) : iblk m c 6 t = V m c main_v10 := by unfold iblk; blk_ext! [idx t]
theorem blk7 (c : Dev nD) (t : Fin cfg0.N) : iblk m c 7 t = V m c main_v18 := by unfold iblk; blk_ext! [idx t]
theorem blk8 (c : Dev nD) (t : Fin cfg0.N) : iblk m c 8 t = V m c main_v26 := by unfold iblk; blk_ext! [idx t]

section
variable (x0 : Vec Ideal S6x256x14336 .fp8e4m3) (x1 : Vec Ideal S6x256x112 .f32) (x2 : Vec Ideal S6x256x14336 .fp8e5m2) (x3 : Vec Ideal S6x256x112 .f32)
  (x4 : Vec Ideal S14336x4 .bf16) (x5 : Vec Ideal S14336 .f32) (cu : Vec Ideal S6x17 .i32)

local notation "𝔸" => arr x0 x1 x2 x3 x4 x5 (rd2 (α := BitVec 32) cu)

theorem o9 (y : S6x256x14336.Idx) : out0_9 x0 x1 x2 x3 x4 x5 (CR 1#32 cu) (CR 2#32 cu) (CR 3#32 cu) y = Arr.dx 𝔸 (y 0).val (y 1).val (y 2).val := by
  obtain ⟨b, t, ch, rfl⟩ : ∃ (b : Fin 6) (t : Fin 256) (ch : Fin 14336), y = ix3 b t ch := ⟨y 0, y 1, y 2, by funext a; fin_cases a <;> rfl⟩
  refine Eq.trans ?_ (vdx x0 x1 x2 x3 x4 x5 _ _ _ (rd2 (α := BitVec 32) cu) (CR_at 1 (by omega) (by omega) cu) (CR_at 2 (by omega) (by omega) cu) (CR_at 3 (by omega) (by omega) cu) b t ch)
  generalize CR 1#32 cu = x6
  generalize CR 2#32 cu = x7
  generalize CR 3#32 cu = x8
  unfold DZ
  unfold_out out0_9
  frame_out

theorem o10 (y : S4x14336.Idx) : out0_10 x0 x1 x2 x3 x4 x5 (CR 1#32 cu) (CR 2#32 cu) (CR 3#32 cu) y = Arr.dw 𝔸 (y 0).val (y 1).val := by
  obtain ⟨k, ch, rfl⟩ : ∃ (k : Fin 4) (ch : Fin 14336), y = ix2 k ch := ⟨y 0, y 1, by funext a; fin_cases a <;> rfl⟩
  refine Eq.trans ?_ (vdw x0 x1 x2 x3 x4 x5 _ _ _ (rd2 (α := BitVec 32) cu) (CR_at 1 (by omega) (by omega) cu) (CR_at 2 (by omega) (by omega) cu) (CR_at 3 (by omega) (by omega) cu) k ch)
  generalize CR 1#32 cu = x6
  generalize CR 2#32 cu = x7
  generalize CR 3#32 cu = x8
  unfold DZ
  unfold_out out0_10
  frame_out

theorem o11 (y : S1x14336.Idx) : out0_11 x0 x1 x2 x3 x4 x5 (CR 1#32 cu) (CR 2#32 cu) (CR 3#32 cu) y = Arr.db 𝔸 (y 1).val := by
  obtain ⟨ch, rfl⟩ : ∃ (ch : Fin 14336), y = ix2 0 ch := ⟨y 1, by funext a; fin_cases a; exact Fin.ext (by have := (y 0).isLt; have : (y 0).val < 1 := this; show (y 0).val = 0; omega); rfl⟩
  refine Eq.trans ?_ (vdb x0 x1 x2 x3 x4 x5 _ _ _ (rd2 (α := BitVec 32) cu) (CR_at 1 (by omega) (by omega) cu) (CR_at 2 (by omega) (by omega) cu) (CR_at 3 (by omega) (by omega) cu) ch)
  generalize CR 1#32 cu = x6
  generalize CR 2#32 cu = x7
  generalize CR 3#32 cu = x8
  unfold DZ
  unfold_out out0_11
  frame_out
end

theorem final9 (c : Dev nD) : (dats m 0 c).arrAt 9 (cfgs 0).N = fun y => (ARR m c).dx (y 0).val (y 1).val (y 2).val := by
  refine (dats m 0 c).arrAt_eq_of_after_last 9 t0_0 (by decide +kernel) _ fun j => ?_
  blk_simp [idx t0_0]
  rw [after0_9, blk0, blk1, blk2, blk3, blk4, blk5, blk6, blk7, blk8, V10, V18, V26]
  refine (o9 _ _ _ _ _ _ _ _).trans ?_
  rfl

theorem final10 (c : Dev nD) : (dats m 0 c).arrAt 10 (cfgs 0).N = fun y => (ARR m c).dw (y 0).val (y 1).val := by
  refine (dats m 0 c).arrAt_eq_of_after_last 10 t0_0 (by decide +kernel) _ fun j => ?_
  blk_simp [idx t0_0]
  rw [after0_10, blk0, blk1, blk2, blk3, blk4, blk5, blk6, blk7, blk8, V10, V18, V26]
  refine (o10 _ _ _ _ _ _ _ _).trans ?_
  rfl

theorem final11 (c : Dev nD) : (dats m 0 c).arrAt 11 (cfgs 0).N = fun y => (ARR m c).db (y 1).val := by
  refine (dats m 0 c).arrAt_eq_of_after_last 11 t0_0 (by decide +kernel) _ fun j => ?_
  blk_simp [idx t0_0]
  rw [after0_11, blk0, blk1, blk2, blk3, blk4, blk5, blk6, blk7, blk8, V10, V18, V26]
  refine (o11 _ _ _ _ _ _ _ _).trans ?_
  rfl

end Cert.ReferenceIdeal.Val
-- ==== Proof.lean ====
/- The proof of the claim: what each module under Proof/ shows, put together.
   IdealBatch/HwBatch: the loop over the batch; …Pre, …RunA/B/C: the body at the three kinds of grid
   points; …Frame: the run of the whole grid. IdealLib … IdealValC: the values the body computes;
   IdealBodyVal, IdealRunVal: the body and the run with those values; ConvMath: what both programs
   compute, at plain coordinates; IdealFinal, RefVal, RefFinal: the two programs' results as that. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.HwFrame
public import proofs.«01_k».proof.Proof.IdealFrame
public import proofs.«01_k».proof.Proof.IdealFinal
public import proofs.«01_k».proof.Proof.RefFinal
public import Idealize.ShloMosaic.Lib.Claim
public import Idealize.ShloMosaic.Adequacy
public import Idealize.ShloMosaic.Init

public section

open Idealize.ShloMosaic Idealize.ShloMosaic.TcCoe
open Idealize.SL

namespace Cert.Proof

/-- The two programs read the same arguments. -/
theorem arr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.ARR m' c = Cert.KernelIdeal.Val.ARR m c := by
  unfold Cert.ReferenceIdeal.Val.ARR Cert.KernelIdeal.Val.ARR
  rw [h0, h1, h2, h3, h4, h5, h6]
  rfl

open Cert.KernelIdeal Cert.KernelIdeal.Gen in
/-- The kernel's run: its results, its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = (fun y => (Cert.KernelIdeal.Val.ARR m c).dx (y 0).val (y 1).val (y 2).val : S6x256x14336.Idx → EReal)
      ∧ r.2.mem ((c.tc : Thread nD τ).loc main_v4_1) = (fun y => (Cert.KernelIdeal.Val.ARR m c).dw (y 0).val (y 1).val : S4x14336.Idx → EReal)
      ∧ r.2.mem ((c.tc : Thread nD τ).loc main_v4_2) = (fun y => (Cert.KernelIdeal.Val.ARR m c).db (y 1).val : S1x14336.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (Cert.KernelIdeal.Val.run_main m g) (Cert.KernelIdeal.Hand.frame m g)
  refine (θ_run _ _ _).mono (fun r h c => ?_) h
  obtain ⟨⟨hp, -⟩, hu, -⟩ := h
  exact ⟨((hp c).1 7).trans (Cert.KernelIdeal.Val.final7 m c), ((hp c).1 8).trans (Cert.KernelIdeal.Val.final8 m c),
    ((hp c).1 9).trans (Cert.KernelIdeal.Val.final9 m c), hu c⟩

open Cert.ReferenceIdeal Cert.ReferenceIdeal.Gen in
/-- The reference's run: its results, its arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v27_0) = (fun y => (Cert.ReferenceIdeal.Val.ARR m c).dx (y 0).val (y 1).val (y 2).val : S6x256x14336.Idx → EReal)
      ∧ r.2.mem ((c.tc : Thread nD τ).loc main_v27_1) = (fun y => (Cert.ReferenceIdeal.Val.ARR m c).dw (y 0).val (y 1).val : S4x14336.Idx → EReal)
      ∧ r.2.mem ((c.tc : Thread nD τ).loc main_v27_2) = (fun y => (Cert.ReferenceIdeal.Val.ARR m c).db (y 1).val : S1x14336.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (Cert.ReferenceIdeal.Gen.run_main m g) (Cert.ReferenceIdeal.Gen.frame m g)
  refine (θ_run _ _ _).mono (fun r h c => ?_) h
  obtain ⟨hp, hu, -⟩ := h
  exact ⟨((hp c).1 9).trans (Cert.ReferenceIdeal.Val.final9 m c), ((hp c).1 10).trans (Cert.ReferenceIdeal.Val.final10 m c),
    ((hp c).1 11).trans (Cert.ReferenceIdeal.Val.final11 m c), hu c⟩

theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, kernel_run m g, (θ_run _ _ _).mono (fun r h c => ?_) (reference_run m' g')⟩
  obtain ⟨r0, r1, r2, hu⟩ := h c
  obtain ⟨h0, h1, h2, h3, h4, h5, h6⟩ := hargs c
  have e := arr_eq m m' c h0 h1 h2 h3 h4 h5 h6
  rw [e] at r0 r1 r2
  exact ⟨r0, r1, r2, hu⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof
